-- ==== Defs.lean ====
def Pre_DiffOnline (m : (ℓ : Loc Cert.DiffOnline.nD Cert.DiffOnline.τ Cert.DiffOnline.sig) → Buf (Elt Bits) ℓ) : Prop :=
  True

def Pre_DiffOnlineIdeal (m : (ℓ : Loc Cert.DiffOnlineIdeal.nD Cert.DiffOnlineIdeal.τ Cert.DiffOnlineIdeal.sig) → Buf (Elt Ideal) ℓ) : Prop :=
  True

def Pre_DiffOnlineIdeal_da_finite [hPre_da_finite : Cert.Pre_da_finite.Facts] (m : (ℓ : Loc Cert.DiffOnlineIdeal.nD Cert.DiffOnlineIdeal.τ Cert.DiffOnlineIdeal.sig) → Buf (Elt Ideal) ℓ) : Prop :=
  ∀ c : Dev Cert.DiffOnlineIdeal.nD,
    (Cert.Pre_da_finite.fn (F := Ideal) (m ((c.tc : Thread Cert.DiffOnlineIdeal.nD Cert.DiffOnlineIdeal.τ).loc Cert.DiffOnlineIdeal.main_arg0)) (m ((c.tc : Thread Cert.DiffOnlineIdeal.nD Cert.DiffOnlineIdeal.τ).loc Cert.DiffOnlineIdeal.main_arg1)) (m ((c.tc : Thread Cert.DiffOnlineIdeal.nD Cert.DiffOnlineIdeal.τ).loc Cert.DiffOnlineIdeal.main_arg2)) (m ((c.tc : Thread Cert.DiffOnlineIdeal.nD Cert.DiffOnlineIdeal.τ).loc Cert.DiffOnlineIdeal.main_arg3)) (m ((c.tc : Thread Cert.DiffOnlineIdeal.nD Cert.DiffOnlineIdeal.τ).loc Cert.DiffOnlineIdeal.main_arg4)) (m ((c.tc : Thread Cert.DiffOnlineIdeal.nD Cert.DiffOnlineIdeal.τ).loc Cert.DiffOnlineIdeal.main_arg5)) (m ((c.tc : Thread Cert.DiffOnlineIdeal.nD Cert.DiffOnlineIdeal.τ).loc Cert.DiffOnlineIdeal.main_arg6)) (m ((c.tc : Thread Cert.DiffOnlineIdeal.nD Cert.DiffOnlineIdeal.τ).loc Cert.DiffOnlineIdeal.main_arg7)) (m ((c.tc : Thread Cert.DiffOnlineIdeal.nD Cert.DiffOnlineIdeal.τ).loc Cert.DiffOnlineIdeal.main_arg8)) (m ((c.tc : Thread Cert.DiffOnlineIdeal.nD Cert.DiffOnlineIdeal.τ).loc Cert.DiffOnlineIdeal.main_arg9))) = (fun _ => 1#1)

def Pre_RefDiffIdeal (m : (ℓ : Loc Cert.RefDiffIdeal.nD Cert.RefDiffIdeal.τ Cert.RefDiffIdeal.sig) → Buf (Elt Ideal) ℓ) : Prop :=
  True

def Pre_RefDiffIdeal_da_finite [hPre_da_finite : Cert.Pre_da_finite.Facts] (m : (ℓ : Loc Cert.RefDiffIdeal.nD Cert.RefDiffIdeal.τ Cert.RefDiffIdeal.sig) → Buf (Elt Ideal) ℓ) : Prop :=
  ∀ c : Dev Cert.RefDiffIdeal.nD,
    (Cert.Pre_da_finite.fn (F := Ideal) (m ((c.tc : Thread Cert.RefDiffIdeal.nD Cert.RefDiffIdeal.τ).loc Cert.RefDiffIdeal.main_arg0)) (m ((c.tc : Thread Cert.RefDiffIdeal.nD Cert.RefDiffIdeal.τ).loc Cert.RefDiffIdeal.main_arg1)) (m ((c.tc : Thread Cert.RefDiffIdeal.nD Cert.RefDiffIdeal.τ).loc Cert.RefDiffIdeal.main_arg2)) (m ((c.tc : Thread Cert.RefDiffIdeal.nD Cert.RefDiffIdeal.τ).loc Cert.RefDiffIdeal.main_arg3)) (m ((c.tc : Thread Cert.RefDiffIdeal.nD Cert.RefDiffIdeal.τ).loc Cert.RefDiffIdeal.main_arg4)) (m ((c.tc : Thread Cert.RefDiffIdeal.nD Cert.RefDiffIdeal.τ).loc Cert.RefDiffIdeal.main_arg5)) (m ((c.tc : Thread Cert.RefDiffIdeal.nD Cert.RefDiffIdeal.τ).loc Cert.RefDiffIdeal.main_arg6)) (m ((c.tc : Thread Cert.RefDiffIdeal.nD Cert.RefDiffIdeal.τ).loc Cert.RefDiffIdeal.main_arg7)) (m ((c.tc : Thread Cert.RefDiffIdeal.nD Cert.RefDiffIdeal.τ).loc Cert.RefDiffIdeal.main_arg8)) (m ((c.tc : Thread Cert.RefDiffIdeal.nD Cert.RefDiffIdeal.τ).loc Cert.RefDiffIdeal.main_arg9))) = (fun _ => 1#1)

def Pre_DiffUnshifted (m : (ℓ : Loc Cert.DiffUnshifted.nD Cert.DiffUnshifted.τ Cert.DiffUnshifted.sig) → Buf (Elt Bits) ℓ) : Prop :=
  True

def Pre_DiffUnshiftedIdeal (m : (ℓ : Loc Cert.DiffUnshiftedIdeal.nD Cert.DiffUnshiftedIdeal.τ Cert.DiffUnshiftedIdeal.sig) → Buf (Elt Ideal) ℓ) : Prop :=
  True

def Pre_DiffUnshiftedIdeal_da_finite [hPre_da_finite : Cert.Pre_da_finite.Facts] (m : (ℓ : Loc Cert.DiffUnshiftedIdeal.nD Cert.DiffUnshiftedIdeal.τ Cert.DiffUnshiftedIdeal.sig) → Buf (Elt Ideal) ℓ) : Prop :=
  ∀ c : Dev Cert.DiffUnshiftedIdeal.nD,
    (Cert.Pre_da_finite.fn (F := Ideal) (m ((c.tc : Thread Cert.DiffUnshiftedIdeal.nD Cert.DiffUnshiftedIdeal.τ).loc Cert.DiffUnshiftedIdeal.main_arg0)) (m ((c.tc : Thread Cert.DiffUnshiftedIdeal.nD Cert.DiffUnshiftedIdeal.τ).loc Cert.DiffUnshiftedIdeal.main_arg1)) (m ((c.tc : Thread Cert.DiffUnshiftedIdeal.nD Cert.DiffUnshiftedIdeal.τ).loc Cert.DiffUnshiftedIdeal.main_arg2)) (m ((c.tc : Thread Cert.DiffUnshiftedIdeal.nD Cert.DiffUnshiftedIdeal.τ).loc Cert.DiffUnshiftedIdeal.main_arg3)) (m ((c.tc : Thread Cert.DiffUnshiftedIdeal.nD Cert.DiffUnshiftedIdeal.τ).loc Cert.DiffUnshiftedIdeal.main_arg4)) (m ((c.tc : Thread Cert.DiffUnshiftedIdeal.nD Cert.DiffUnshiftedIdeal.τ).loc Cert.DiffUnshiftedIdeal.main_arg5)) (m ((c.tc : Thread Cert.DiffUnshiftedIdeal.nD Cert.DiffUnshiftedIdeal.τ).loc Cert.DiffUnshiftedIdeal.main_arg6)) (m ((c.tc : Thread Cert.DiffUnshiftedIdeal.nD Cert.DiffUnshiftedIdeal.τ).loc Cert.DiffUnshiftedIdeal.main_arg7)) (m ((c.tc : Thread Cert.DiffUnshiftedIdeal.nD Cert.DiffUnshiftedIdeal.τ).loc Cert.DiffUnshiftedIdeal.main_arg8)) (m ((c.tc : Thread Cert.DiffUnshiftedIdeal.nD Cert.DiffUnshiftedIdeal.τ).loc Cert.DiffUnshiftedIdeal.main_arg9))) = (fun _ => 1#1)

def Pre_EvenPost (m : (ℓ : Loc Cert.EvenPost.nD Cert.EvenPost.τ Cert.EvenPost.sig) → Buf (Elt Bits) ℓ) : Prop :=
  True

def Pre_EvenPostIdeal (m : (ℓ : Loc Cert.EvenPostIdeal.nD Cert.EvenPostIdeal.τ Cert.EvenPostIdeal.sig) → Buf (Elt Ideal) ℓ) : Prop :=
  True

def Pre_RefEvenPostIdeal (m : (ℓ : Loc Cert.RefEvenPostIdeal.nD Cert.RefEvenPostIdeal.τ Cert.RefEvenPostIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_RefOddInIdeal (m : (ℓ : Loc Cert.RefOddInIdeal.nD Cert.RefOddInIdeal.τ Cert.RefOddInIdeal.sig) → Buf (Elt Ideal) ℓ) : Prop :=
  True

def Pre_OddPost (m : (ℓ : Loc Cert.OddPost.nD Cert.OddPost.τ Cert.OddPost.sig) → Buf (Elt Bits) ℓ) : Prop :=
  True

def Pre_OddPostIdeal (m : (ℓ : Loc Cert.OddPostIdeal.nD Cert.OddPostIdeal.τ Cert.OddPostIdeal.sig) → Buf (Elt Ideal) ℓ) : Prop :=
  True

def Pre_OddPostIdeal_op_finite [hPre_op_finite : Cert.Pre_op_finite.Facts] (m : (ℓ : Loc Cert.OddPostIdeal.nD Cert.OddPostIdeal.τ Cert.OddPostIdeal.sig) → Buf (Elt Ideal) ℓ) : Prop :=
  ∀ c : Dev Cert.OddPostIdeal.nD,
    (Cert.Pre_op_finite.fn (F := Ideal) (m ((c.tc : Thread Cert.OddPostIdeal.nD Cert.OddPostIdeal.τ).loc Cert.OddPostIdeal.main_arg0)) (m ((c.tc : Thread Cert.OddPostIdeal.nD Cert.OddPostIdeal.τ).loc Cert.OddPostIdeal.main_arg1)) (m ((c.tc : Thread Cert.OddPostIdeal.nD Cert.OddPostIdeal.τ).loc Cert.OddPostIdeal.main_arg2)) (m ((c.tc : Thread Cert.OddPostIdeal.nD Cert.OddPostIdeal.τ).loc Cert.OddPostIdeal.main_arg3)) (m ((c.tc : Thread Cert.OddPostIdeal.nD Cert.OddPostIdeal.τ).loc Cert.OddPostIdeal.main_arg4)) (m ((c.tc : Thread Cert.OddPostIdeal.nD Cert.OddPostIdeal.τ).loc Cert.OddPostIdeal.main_arg5)) (m ((c.tc : Thread Cert.OddPostIdeal.nD Cert.OddPostIdeal.τ).loc Cert.OddPostIdeal.main_arg6)) (m ((c.tc : Thread Cert.OddPostIdeal.nD Cert.OddPostIdeal.τ).loc Cert.OddPostIdeal.main_arg7)) (m ((c.tc : Thread Cert.OddPostIdeal.nD Cert.OddPostIdeal.τ).loc Cert.OddPostIdeal.main_arg8)) (m ((c.tc : Thread Cert.OddPostIdeal.nD Cert.OddPostIdeal.τ).loc Cert.OddPostIdeal.main_arg9)) (m ((c.tc : Thread Cert.OddPostIdeal.nD Cert.OddPostIdeal.τ).loc Cert.OddPostIdeal.main_arg10)) (m ((c.tc : Thread Cert.OddPostIdeal.nD Cert.OddPostIdeal.τ).loc Cert.OddPostIdeal.main_arg11)) (m ((c.tc : Thread Cert.OddPostIdeal.nD Cert.OddPostIdeal.τ).loc Cert.OddPostIdeal.main_arg12))) = (fun _ => 1#1)

def Pre_RefOddPostIdeal (m : (ℓ : Loc Cert.RefOddPostIdeal.nD Cert.RefOddPostIdeal.τ Cert.RefOddPostIdeal.sig) → Buf (Elt Ideal) ℓ) : Prop :=
  True

def Pre_RefOddPostIdeal_op_finite [hPre_op_finite : Cert.Pre_op_finite.Facts] (m : (ℓ : Loc Cert.RefOddPostIdeal.nD Cert.RefOddPostIdeal.τ Cert.RefOddPostIdeal.sig) → Buf (Elt Ideal) ℓ) : Prop :=
  ∀ c : Dev Cert.RefOddPostIdeal.nD,
    (Cert.Pre_op_finite.fn (F := Ideal) (m ((c.tc : Thread Cert.RefOddPostIdeal.nD Cert.RefOddPostIdeal.τ).loc Cert.RefOddPostIdeal.main_arg0)) (m ((c.tc : Thread Cert.RefOddPostIdeal.nD Cert.RefOddPostIdeal.τ).loc Cert.RefOddPostIdeal.main_arg1)) (m ((c.tc : Thread Cert.RefOddPostIdeal.nD Cert.RefOddPostIdeal.τ).loc Cert.RefOddPostIdeal.main_arg2)) (m ((c.tc : Thread Cert.RefOddPostIdeal.nD Cert.RefOddPostIdeal.τ).loc Cert.RefOddPostIdeal.main_arg3)) (m ((c.tc : Thread Cert.RefOddPostIdeal.nD Cert.RefOddPostIdeal.τ).loc Cert.RefOddPostIdeal.main_arg4)) (m ((c.tc : Thread Cert.RefOddPostIdeal.nD Cert.RefOddPostIdeal.τ).loc Cert.RefOddPostIdeal.main_arg5)) (m ((c.tc : Thread Cert.RefOddPostIdeal.nD Cert.RefOddPostIdeal.τ).loc Cert.RefOddPostIdeal.main_arg6)) (m ((c.tc : Thread Cert.RefOddPostIdeal.nD Cert.RefOddPostIdeal.τ).loc Cert.RefOddPostIdeal.main_arg7)) (m ((c.tc : Thread Cert.RefOddPostIdeal.nD Cert.RefOddPostIdeal.τ).loc Cert.RefOddPostIdeal.main_arg8)) (m ((c.tc : Thread Cert.RefOddPostIdeal.nD Cert.RefOddPostIdeal.τ).loc Cert.RefOddPostIdeal.main_arg9)) (m ((c.tc : Thread Cert.RefOddPostIdeal.nD Cert.RefOddPostIdeal.τ).loc Cert.RefOddPostIdeal.main_arg10)) (m ((c.tc : Thread Cert.RefOddPostIdeal.nD Cert.RefOddPostIdeal.τ).loc Cert.RefOddPostIdeal.main_arg11)) (m ((c.tc : Thread Cert.RefOddPostIdeal.nD Cert.RefOddPostIdeal.τ).loc Cert.RefOddPostIdeal.main_arg12))) = (fun _ => 1#1)

def quiescent_DiffOnline [hDiffOnline : Cert.DiffOnline.Facts] : Prop :=
  ∀ (m : (ℓ : Loc Cert.DiffOnline.nD Cert.DiffOnline.τ Cert.DiffOnline.sig) → Buf (Elt Bits) ℓ) (g : Dev Cert.DiffOnline.nD → PrngReg), Pre_DiffOnline m →
    θ_run (Cert.DiffOnline.defs (F := Bits)) (onTc (τ := Cert.DiffOnline.τ) (Cert.DiffOnline.main (F := Bits))) ⟨m, fun _ => 0, g⟩ (fun r => (∀ c : Dev Cert.DiffOnline.nD,
      r.2.mem ((c.tc : Thread Cert.DiffOnline.nD Cert.DiffOnline.τ).loc Cert.DiffOnline.main_arg0) = m ((c.tc : Thread Cert.DiffOnline.nD Cert.DiffOnline.τ).loc Cert.DiffOnline.main_arg0)
      ∧ r.2.mem ((c.tc : Thread Cert.DiffOnline.nD Cert.DiffOnline.τ).loc Cert.DiffOnline.main_arg1) = m ((c.tc : Thread Cert.DiffOnline.nD Cert.DiffOnline.τ).loc Cert.DiffOnline.main_arg1)
      ∧ r.2.mem ((c.tc : Thread Cert.DiffOnline.nD Cert.DiffOnline.τ).loc Cert.DiffOnline.main_arg2) = m ((c.tc : Thread Cert.DiffOnline.nD Cert.DiffOnline.τ).loc Cert.DiffOnline.main_arg2)
      ∧ r.2.mem ((c.tc : Thread Cert.DiffOnline.nD Cert.DiffOnline.τ).loc Cert.DiffOnline.main_arg3) = m ((c.tc : Thread Cert.DiffOnline.nD Cert.DiffOnline.τ).loc Cert.DiffOnline.main_arg3)
      ∧ r.2.mem ((c.tc : Thread Cert.DiffOnline.nD Cert.DiffOnline.τ).loc Cert.DiffOnline.main_arg4) = m ((c.tc : Thread Cert.DiffOnline.nD Cert.DiffOnline.τ).loc Cert.DiffOnline.main_arg4)
      ∧ r.2.mem ((c.tc : Thread Cert.DiffOnline.nD Cert.DiffOnline.τ).loc Cert.DiffOnline.main_arg5) = m ((c.tc : Thread Cert.DiffOnline.nD Cert.DiffOnline.τ).loc Cert.DiffOnline.main_arg5)
      ∧ r.2.mem ((c.tc : Thread Cert.DiffOnline.nD Cert.DiffOnline.τ).loc Cert.DiffOnline.main_arg6) = m ((c.tc : Thread Cert.DiffOnline.nD Cert.DiffOnline.τ).loc Cert.DiffOnline.main_arg6)
      ∧ r.2.mem ((c.tc : Thread Cert.DiffOnline.nD Cert.DiffOnline.τ).loc Cert.DiffOnline.main_arg7) = m ((c.tc : Thread Cert.DiffOnline.nD Cert.DiffOnline.τ).loc Cert.DiffOnline.main_arg7)
      ∧ r.2.mem ((c.tc : Thread Cert.DiffOnline.nD Cert.DiffOnline.τ).loc Cert.DiffOnline.main_arg8) = m ((c.tc : Thread Cert.DiffOnline.nD Cert.DiffOnline.τ).loc Cert.DiffOnline.main_arg8)
      ∧ r.2.mem ((c.tc : Thread Cert.DiffOnline.nD Cert.DiffOnline.τ).loc Cert.DiffOnline.main_arg9) = m ((c.tc : Thread Cert.DiffOnline.nD Cert.DiffOnline.τ).loc Cert.DiffOnline.main_arg9))
      ∧ r.2.sem = fun _ => 0)

def quiescent_DiffOnlineIdeal [hDiffOnlineIdeal : Cert.DiffOnlineIdeal.Facts] : Prop :=
  ∀ (m : (ℓ : Loc Cert.DiffOnlineIdeal.nD Cert.DiffOnlineIdeal.τ Cert.DiffOnlineIdeal.sig) → Buf (Elt Ideal) ℓ) (g : Dev Cert.DiffOnlineIdeal.nD → PrngReg), Pre_DiffOnlineIdeal m →
    θ_run (Cert.DiffOnlineIdeal.defs (F := Ideal)) (onTc (τ := Cert.DiffOnlineIdeal.τ) (Cert.DiffOnlineIdeal.main (F := Ideal))) ⟨m, fun _ => 0, g⟩ (fun r => (∀ c : Dev Cert.DiffOnlineIdeal.nD,
      r.2.mem ((c.tc : Thread Cert.DiffOnlineIdeal.nD Cert.DiffOnlineIdeal.τ).loc Cert.DiffOnlineIdeal.main_arg0) = m ((c.tc : Thread Cert.DiffOnlineIdeal.nD Cert.DiffOnlineIdeal.τ).loc Cert.DiffOnlineIdeal.main_arg0)
      ∧ r.2.mem ((c.tc : Thread Cert.DiffOnlineIdeal.nD Cert.DiffOnlineIdeal.τ).loc Cert.DiffOnlineIdeal.main_arg1) = m ((c.tc : Thread Cert.DiffOnlineIdeal.nD Cert.DiffOnlineIdeal.τ).loc Cert.DiffOnlineIdeal.main_arg1)
      ∧ r.2.mem ((c.tc : Thread Cert.DiffOnlineIdeal.nD Cert.DiffOnlineIdeal.τ).loc Cert.DiffOnlineIdeal.main_arg2) = m ((c.tc : Thread Cert.DiffOnlineIdeal.nD Cert.DiffOnlineIdeal.τ).loc Cert.DiffOnlineIdeal.main_arg2)
      ∧ r.2.mem ((c.tc : Thread Cert.DiffOnlineIdeal.nD Cert.DiffOnlineIdeal.τ).loc Cert.DiffOnlineIdeal.main_arg3) = m ((c.tc : Thread Cert.DiffOnlineIdeal.nD Cert.DiffOnlineIdeal.τ).loc Cert.DiffOnlineIdeal.main_arg3)
      ∧ r.2.mem ((c.tc : Thread Cert.DiffOnlineIdeal.nD Cert.DiffOnlineIdeal.τ).loc Cert.DiffOnlineIdeal.main_arg4) = m ((c.tc : Thread Cert.DiffOnlineIdeal.nD Cert.DiffOnlineIdeal.τ).loc Cert.DiffOnlineIdeal.main_arg4)
      ∧ r.2.mem ((c.tc : Thread Cert.DiffOnlineIdeal.nD Cert.DiffOnlineIdeal.τ).loc Cert.DiffOnlineIdeal.main_arg5) = m ((c.tc : Thread Cert.DiffOnlineIdeal.nD Cert.DiffOnlineIdeal.τ).loc Cert.DiffOnlineIdeal.main_arg5)
      ∧ r.2.mem ((c.tc : Thread Cert.DiffOnlineIdeal.nD Cert.DiffOnlineIdeal.τ).loc Cert.DiffOnlineIdeal.main_arg6) = m ((c.tc : Thread Cert.DiffOnlineIdeal.nD Cert.DiffOnlineIdeal.τ).loc Cert.DiffOnlineIdeal.main_arg6)
      ∧ r.2.mem ((c.tc : Thread Cert.DiffOnlineIdeal.nD Cert.DiffOnlineIdeal.τ).loc Cert.DiffOnlineIdeal.main_arg7) = m ((c.tc : Thread Cert.DiffOnlineIdeal.nD Cert.DiffOnlineIdeal.τ).loc Cert.DiffOnlineIdeal.main_arg7)
      ∧ r.2.mem ((c.tc : Thread Cert.DiffOnlineIdeal.nD Cert.DiffOnlineIdeal.τ).loc Cert.DiffOnlineIdeal.main_arg8) = m ((c.tc : Thread Cert.DiffOnlineIdeal.nD Cert.DiffOnlineIdeal.τ).loc Cert.DiffOnlineIdeal.main_arg8)
      ∧ r.2.mem ((c.tc : Thread Cert.DiffOnlineIdeal.nD Cert.DiffOnlineIdeal.τ).loc Cert.DiffOnlineIdeal.main_arg9) = m ((c.tc : Thread Cert.DiffOnlineIdeal.nD Cert.DiffOnlineIdeal.τ).loc Cert.DiffOnlineIdeal.main_arg9))
      ∧ r.2.sem = fun _ => 0)

def quiescent_DiffOnlineIdeal_pre_da_finite [hDiffOnlineIdeal : Cert.DiffOnlineIdeal.Facts] [hPre_da_finite : Cert.Pre_da_finite.Facts] : Prop :=
  ∀ (m : (ℓ : Loc Cert.DiffOnlineIdeal.nD Cert.DiffOnlineIdeal.τ Cert.DiffOnlineIdeal.sig) → Buf (Elt Ideal) ℓ) (g : Dev Cert.DiffOnlineIdeal.nD → PrngReg), Pre_DiffOnlineIdeal_da_finite m →
    θ_run (Cert.DiffOnlineIdeal.defs (F := Ideal)) (onTc (τ := Cert.DiffOnlineIdeal.τ) (Cert.DiffOnlineIdeal.main (F := Ideal))) ⟨m, fun _ => 0, g⟩ (fun r => (∀ c : Dev Cert.DiffOnlineIdeal.nD,
      r.2.mem ((c.tc : Thread Cert.DiffOnlineIdeal.nD Cert.DiffOnlineIdeal.τ).loc Cert.DiffOnlineIdeal.main_arg0) = m ((c.tc : Thread Cert.DiffOnlineIdeal.nD Cert.DiffOnlineIdeal.τ).loc Cert.DiffOnlineIdeal.main_arg0)
      ∧ r.2.mem ((c.tc : Thread Cert.DiffOnlineIdeal.nD Cert.DiffOnlineIdeal.τ).loc Cert.DiffOnlineIdeal.main_arg1) = m ((c.tc : Thread Cert.DiffOnlineIdeal.nD Cert.DiffOnlineIdeal.τ).loc Cert.DiffOnlineIdeal.main_arg1)
      ∧ r.2.mem ((c.tc : Thread Cert.DiffOnlineIdeal.nD Cert.DiffOnlineIdeal.τ).loc Cert.DiffOnlineIdeal.main_arg2) = m ((c.tc : Thread Cert.DiffOnlineIdeal.nD Cert.DiffOnlineIdeal.τ).loc Cert.DiffOnlineIdeal.main_arg2)
      ∧ r.2.mem ((c.tc : Thread Cert.DiffOnlineIdeal.nD Cert.DiffOnlineIdeal.τ).loc Cert.DiffOnlineIdeal.main_arg3) = m ((c.tc : Thread Cert.DiffOnlineIdeal.nD Cert.DiffOnlineIdeal.τ).loc Cert.DiffOnlineIdeal.main_arg3)
      ∧ r.2.mem ((c.tc : Thread Cert.DiffOnlineIdeal.nD Cert.DiffOnlineIdeal.τ).loc Cert.DiffOnlineIdeal.main_arg4) = m ((c.tc : Thread Cert.DiffOnlineIdeal.nD Cert.DiffOnlineIdeal.τ).loc Cert.DiffOnlineIdeal.main_arg4)
      ∧ r.2.mem ((c.tc : Thread Cert.DiffOnlineIdeal.nD Cert.DiffOnlineIdeal.τ).loc Cert.DiffOnlineIdeal.main_arg5) = m ((c.tc : Thread Cert.DiffOnlineIdeal.nD Cert.DiffOnlineIdeal.τ).loc Cert.DiffOnlineIdeal.main_arg5)
      ∧ r.2.mem ((c.tc : Thread Cert.DiffOnlineIdeal.nD Cert.DiffOnlineIdeal.τ).loc Cert.DiffOnlineIdeal.main_arg6) = m ((c.tc : Thread Cert.DiffOnlineIdeal.nD Cert.DiffOnlineIdeal.τ).loc Cert.DiffOnlineIdeal.main_arg6)
      ∧ r.2.mem ((c.tc : Thread Cert.DiffOnlineIdeal.nD Cert.DiffOnlineIdeal.τ).loc Cert.DiffOnlineIdeal.main_arg7) = m ((c.tc : Thread Cert.DiffOnlineIdeal.nD Cert.DiffOnlineIdeal.τ).loc Cert.DiffOnlineIdeal.main_arg7)
      ∧ r.2.mem ((c.tc : Thread Cert.DiffOnlineIdeal.nD Cert.DiffOnlineIdeal.τ).loc Cert.DiffOnlineIdeal.main_arg8) = m ((c.tc : Thread Cert.DiffOnlineIdeal.nD Cert.DiffOnlineIdeal.τ).loc Cert.DiffOnlineIdeal.main_arg8)
      ∧ r.2.mem ((c.tc : Thread Cert.DiffOnlineIdeal.nD Cert.DiffOnlineIdeal.τ).loc Cert.DiffOnlineIdeal.main_arg9) = m ((c.tc : Thread Cert.DiffOnlineIdeal.nD Cert.DiffOnlineIdeal.τ).loc Cert.DiffOnlineIdeal.main_arg9))
      ∧ r.2.sem = fun _ => 0)

def quiescent_RefDiffIdeal [hRefDiffIdeal : Cert.RefDiffIdeal.Facts] : Prop :=
  ∀ (m : (ℓ : Loc Cert.RefDiffIdeal.nD Cert.RefDiffIdeal.τ Cert.RefDiffIdeal.sig) → Buf (Elt Ideal) ℓ) (g : Dev Cert.RefDiffIdeal.nD → PrngReg), Pre_RefDiffIdeal m →
    θ_run (Cert.RefDiffIdeal.defs (F := Ideal)) (onTc (τ := Cert.RefDiffIdeal.τ) (Cert.RefDiffIdeal.main (F := Ideal))) ⟨m, fun _ => 0, g⟩ (fun r => (∀ c : Dev Cert.RefDiffIdeal.nD,
      r.2.mem ((c.tc : Thread Cert.RefDiffIdeal.nD Cert.RefDiffIdeal.τ).loc Cert.RefDiffIdeal.main_arg0) = m ((c.tc : Thread Cert.RefDiffIdeal.nD Cert.RefDiffIdeal.τ).loc Cert.RefDiffIdeal.main_arg0)
      ∧ r.2.mem ((c.tc : Thread Cert.RefDiffIdeal.nD Cert.RefDiffIdeal.τ).loc Cert.RefDiffIdeal.main_arg1) = m ((c.tc : Thread Cert.RefDiffIdeal.nD Cert.RefDiffIdeal.τ).loc Cert.RefDiffIdeal.main_arg1)
      ∧ r.2.mem ((c.tc : Thread Cert.RefDiffIdeal.nD Cert.RefDiffIdeal.τ).loc Cert.RefDiffIdeal.main_arg2) = m ((c.tc : Thread Cert.RefDiffIdeal.nD Cert.RefDiffIdeal.τ).loc Cert.RefDiffIdeal.main_arg2)
      ∧ r.2.mem ((c.tc : Thread Cert.RefDiffIdeal.nD Cert.RefDiffIdeal.τ).loc Cert.RefDiffIdeal.main_arg3) = m ((c.tc : Thread Cert.RefDiffIdeal.nD Cert.RefDiffIdeal.τ).loc Cert.RefDiffIdeal.main_arg3)
      ∧ r.2.mem ((c.tc : Thread Cert.RefDiffIdeal.nD Cert.RefDiffIdeal.τ).loc Cert.RefDiffIdeal.main_arg4) = m ((c.tc : Thread Cert.RefDiffIdeal.nD Cert.RefDiffIdeal.τ).loc Cert.RefDiffIdeal.main_arg4)
      ∧ r.2.mem ((c.tc : Thread Cert.RefDiffIdeal.nD Cert.RefDiffIdeal.τ).loc Cert.RefDiffIdeal.main_arg5) = m ((c.tc : Thread Cert.RefDiffIdeal.nD Cert.RefDiffIdeal.τ).loc Cert.RefDiffIdeal.main_arg5)
      ∧ r.2.mem ((c.tc : Thread Cert.RefDiffIdeal.nD Cert.RefDiffIdeal.τ).loc Cert.RefDiffIdeal.main_arg6) = m ((c.tc : Thread Cert.RefDiffIdeal.nD Cert.RefDiffIdeal.τ).loc Cert.RefDiffIdeal.main_arg6)
      ∧ r.2.mem ((c.tc : Thread Cert.RefDiffIdeal.nD Cert.RefDiffIdeal.τ).loc Cert.RefDiffIdeal.main_arg7) = m ((c.tc : Thread Cert.RefDiffIdeal.nD Cert.RefDiffIdeal.τ).loc Cert.RefDiffIdeal.main_arg7)
      ∧ r.2.mem ((c.tc : Thread Cert.RefDiffIdeal.nD Cert.RefDiffIdeal.τ).loc Cert.RefDiffIdeal.main_arg8) = m ((c.tc : Thread Cert.RefDiffIdeal.nD Cert.RefDiffIdeal.τ).loc Cert.RefDiffIdeal.main_arg8)
      ∧ r.2.mem ((c.tc : Thread Cert.RefDiffIdeal.nD Cert.RefDiffIdeal.τ).loc Cert.RefDiffIdeal.main_arg9) = m ((c.tc : Thread Cert.RefDiffIdeal.nD Cert.RefDiffIdeal.τ).loc Cert.RefDiffIdeal.main_arg9))
      ∧ r.2.sem = fun _ => 0)

def quiescent_RefDiffIdeal_pre_da_finite [hRefDiffIdeal : Cert.RefDiffIdeal.Facts] [hPre_da_finite : Cert.Pre_da_finite.Facts] : Prop :=
  ∀ (m : (ℓ : Loc Cert.RefDiffIdeal.nD Cert.RefDiffIdeal.τ Cert.RefDiffIdeal.sig) → Buf (Elt Ideal) ℓ) (g : Dev Cert.RefDiffIdeal.nD → PrngReg), Pre_RefDiffIdeal_da_finite m →
    θ_run (Cert.RefDiffIdeal.defs (F := Ideal)) (onTc (τ := Cert.RefDiffIdeal.τ) (Cert.RefDiffIdeal.main (F := Ideal))) ⟨m, fun _ => 0, g⟩ (fun r => (∀ c : Dev Cert.RefDiffIdeal.nD,
      r.2.mem ((c.tc : Thread Cert.RefDiffIdeal.nD Cert.RefDiffIdeal.τ).loc Cert.RefDiffIdeal.main_arg0) = m ((c.tc : Thread Cert.RefDiffIdeal.nD Cert.RefDiffIdeal.τ).loc Cert.RefDiffIdeal.main_arg0)
      ∧ r.2.mem ((c.tc : Thread Cert.RefDiffIdeal.nD Cert.RefDiffIdeal.τ).loc Cert.RefDiffIdeal.main_arg1) = m ((c.tc : Thread Cert.RefDiffIdeal.nD Cert.RefDiffIdeal.τ).loc Cert.RefDiffIdeal.main_arg1)
      ∧ r.2.mem ((c.tc : Thread Cert.RefDiffIdeal.nD Cert.RefDiffIdeal.τ).loc Cert.RefDiffIdeal.main_arg2) = m ((c.tc : Thread Cert.RefDiffIdeal.nD Cert.RefDiffIdeal.τ).loc Cert.RefDiffIdeal.main_arg2)
      ∧ r.2.mem ((c.tc : Thread Cert.RefDiffIdeal.nD Cert.RefDiffIdeal.τ).loc Cert.RefDiffIdeal.main_arg3) = m ((c.tc : Thread Cert.RefDiffIdeal.nD Cert.RefDiffIdeal.τ).loc Cert.RefDiffIdeal.main_arg3)
      ∧ r.2.mem ((c.tc : Thread Cert.RefDiffIdeal.nD Cert.RefDiffIdeal.τ).loc Cert.RefDiffIdeal.main_arg4) = m ((c.tc : Thread Cert.RefDiffIdeal.nD Cert.RefDiffIdeal.τ).loc Cert.RefDiffIdeal.main_arg4)
      ∧ r.2.mem ((c.tc : Thread Cert.RefDiffIdeal.nD Cert.RefDiffIdeal.τ).loc Cert.RefDiffIdeal.main_arg5) = m ((c.tc : Thread Cert.RefDiffIdeal.nD Cert.RefDiffIdeal.τ).loc Cert.RefDiffIdeal.main_arg5)
      ∧ r.2.mem ((c.tc : Thread Cert.RefDiffIdeal.nD Cert.RefDiffIdeal.τ).loc Cert.RefDiffIdeal.main_arg6) = m ((c.tc : Thread Cert.RefDiffIdeal.nD Cert.RefDiffIdeal.τ).loc Cert.RefDiffIdeal.main_arg6)
      ∧ r.2.mem ((c.tc : Thread Cert.RefDiffIdeal.nD Cert.RefDiffIdeal.τ).loc Cert.RefDiffIdeal.main_arg7) = m ((c.tc : Thread Cert.RefDiffIdeal.nD Cert.RefDiffIdeal.τ).loc Cert.RefDiffIdeal.main_arg7)
      ∧ r.2.mem ((c.tc : Thread Cert.RefDiffIdeal.nD Cert.RefDiffIdeal.τ).loc Cert.RefDiffIdeal.main_arg8) = m ((c.tc : Thread Cert.RefDiffIdeal.nD Cert.RefDiffIdeal.τ).loc Cert.RefDiffIdeal.main_arg8)
      ∧ r.2.mem ((c.tc : Thread Cert.RefDiffIdeal.nD Cert.RefDiffIdeal.τ).loc Cert.RefDiffIdeal.main_arg9) = m ((c.tc : Thread Cert.RefDiffIdeal.nD Cert.RefDiffIdeal.τ).loc Cert.RefDiffIdeal.main_arg9))
      ∧ r.2.sem = fun _ => 0)

def quiescent_DiffUnshifted [hDiffUnshifted : Cert.DiffUnshifted.Facts] : Prop :=
  ∀ (m : (ℓ : Loc Cert.DiffUnshifted.nD Cert.DiffUnshifted.τ Cert.DiffUnshifted.sig) → Buf (Elt Bits) ℓ) (g : Dev Cert.DiffUnshifted.nD → PrngReg), Pre_DiffUnshifted m →
    θ_run (Cert.DiffUnshifted.defs (F := Bits)) (onTc (τ := Cert.DiffUnshifted.τ) (Cert.DiffUnshifted.main (F := Bits))) ⟨m, fun _ => 0, g⟩ (fun r => (∀ c : Dev Cert.DiffUnshifted.nD,
      r.2.mem ((c.tc : Thread Cert.DiffUnshifted.nD Cert.DiffUnshifted.τ).loc Cert.DiffUnshifted.main_arg0) = m ((c.tc : Thread Cert.DiffUnshifted.nD Cert.DiffUnshifted.τ).loc Cert.DiffUnshifted.main_arg0)
      ∧ r.2.mem ((c.tc : Thread Cert.DiffUnshifted.nD Cert.DiffUnshifted.τ).loc Cert.DiffUnshifted.main_arg1) = m ((c.tc : Thread Cert.DiffUnshifted.nD Cert.DiffUnshifted.τ).loc Cert.DiffUnshifted.main_arg1)
      ∧ r.2.mem ((c.tc : Thread Cert.DiffUnshifted.nD Cert.DiffUnshifted.τ).loc Cert.DiffUnshifted.main_arg2) = m ((c.tc : Thread Cert.DiffUnshifted.nD Cert.DiffUnshifted.τ).loc Cert.DiffUnshifted.main_arg2)
      ∧ r.2.mem ((c.tc : Thread Cert.DiffUnshifted.nD Cert.DiffUnshifted.τ).loc Cert.DiffUnshifted.main_arg3) = m ((c.tc : Thread Cert.DiffUnshifted.nD Cert.DiffUnshifted.τ).loc Cert.DiffUnshifted.main_arg3)
      ∧ r.2.mem ((c.tc : Thread Cert.DiffUnshifted.nD Cert.DiffUnshifted.τ).loc Cert.DiffUnshifted.main_arg4) = m ((c.tc : Thread Cert.DiffUnshifted.nD Cert.DiffUnshifted.τ).loc Cert.DiffUnshifted.main_arg4)
      ∧ r.2.mem ((c.tc : Thread Cert.DiffUnshifted.nD Cert.DiffUnshifted.τ).loc Cert.DiffUnshifted.main_arg5) = m ((c.tc : Thread Cert.DiffUnshifted.nD Cert.DiffUnshifted.τ).loc Cert.DiffUnshifted.main_arg5)
      ∧ r.2.mem ((c.tc : Thread Cert.DiffUnshifted.nD Cert.DiffUnshifted.τ).loc Cert.DiffUnshifted.main_arg6) = m ((c.tc : Thread Cert.DiffUnshifted.nD Cert.DiffUnshifted.τ).loc Cert.DiffUnshifted.main_arg6)
      ∧ r.2.mem ((c.tc : Thread Cert.DiffUnshifted.nD Cert.DiffUnshifted.τ).loc Cert.DiffUnshifted.main_arg7) = m ((c.tc : Thread Cert.DiffUnshifted.nD Cert.DiffUnshifted.τ).loc Cert.DiffUnshifted.main_arg7)
      ∧ r.2.mem ((c.tc : Thread Cert.DiffUnshifted.nD Cert.DiffUnshifted.τ).loc Cert.DiffUnshifted.main_arg8) = m ((c.tc : Thread Cert.DiffUnshifted.nD Cert.DiffUnshifted.τ).loc Cert.DiffUnshifted.main_arg8)
      ∧ r.2.mem ((c.tc : Thread Cert.DiffUnshifted.nD Cert.DiffUnshifted.τ).loc Cert.DiffUnshifted.main_arg9) = m ((c.tc : Thread Cert.DiffUnshifted.nD Cert.DiffUnshifted.τ).loc Cert.DiffUnshifted.main_arg9))
      ∧ r.2.sem = fun _ => 0)

def quiescent_DiffUnshiftedIdeal [hDiffUnshiftedIdeal : Cert.DiffUnshiftedIdeal.Facts] : Prop :=
  ∀ (m : (ℓ : Loc Cert.DiffUnshiftedIdeal.nD Cert.DiffUnshiftedIdeal.τ Cert.DiffUnshiftedIdeal.sig) → Buf (Elt Ideal) ℓ) (g : Dev Cert.DiffUnshiftedIdeal.nD → PrngReg), Pre_DiffUnshiftedIdeal m →
    θ_run (Cert.DiffUnshiftedIdeal.defs (F := Ideal)) (onTc (τ := Cert.DiffUnshiftedIdeal.τ) (Cert.DiffUnshiftedIdeal.main (F := Ideal))) ⟨m, fun _ => 0, g⟩ (fun r => (∀ c : Dev Cert.DiffUnshiftedIdeal.nD,
      r.2.mem ((c.tc : Thread Cert.DiffUnshiftedIdeal.nD Cert.DiffUnshiftedIdeal.τ).loc Cert.DiffUnshiftedIdeal.main_arg0) = m ((c.tc : Thread Cert.DiffUnshiftedIdeal.nD Cert.DiffUnshiftedIdeal.τ).loc Cert.DiffUnshiftedIdeal.main_arg0)
      ∧ r.2.mem ((c.tc : Thread Cert.DiffUnshiftedIdeal.nD Cert.DiffUnshiftedIdeal.τ).loc Cert.DiffUnshiftedIdeal.main_arg1) = m ((c.tc : Thread Cert.DiffUnshiftedIdeal.nD Cert.DiffUnshiftedIdeal.τ).loc Cert.DiffUnshiftedIdeal.main_arg1)
      ∧ r.2.mem ((c.tc : Thread Cert.DiffUnshiftedIdeal.nD Cert.DiffUnshiftedIdeal.τ).loc Cert.DiffUnshiftedIdeal.main_arg2) = m ((c.tc : Thread Cert.DiffUnshiftedIdeal.nD Cert.DiffUnshiftedIdeal.τ).loc Cert.DiffUnshiftedIdeal.main_arg2)
      ∧ r.2.mem ((c.tc : Thread Cert.DiffUnshiftedIdeal.nD Cert.DiffUnshiftedIdeal.τ).loc Cert.DiffUnshiftedIdeal.main_arg3) = m ((c.tc : Thread Cert.DiffUnshiftedIdeal.nD Cert.DiffUnshiftedIdeal.τ).loc Cert.DiffUnshiftedIdeal.main_arg3)
      ∧ r.2.mem ((c.tc : Thread Cert.DiffUnshiftedIdeal.nD Cert.DiffUnshiftedIdeal.τ).loc Cert.DiffUnshiftedIdeal.main_arg4) = m ((c.tc : Thread Cert.DiffUnshiftedIdeal.nD Cert.DiffUnshiftedIdeal.τ).loc Cert.DiffUnshiftedIdeal.main_arg4)
      ∧ r.2.mem ((c.tc : Thread Cert.DiffUnshiftedIdeal.nD Cert.DiffUnshiftedIdeal.τ).loc Cert.DiffUnshiftedIdeal.main_arg5) = m ((c.tc : Thread Cert.DiffUnshiftedIdeal.nD Cert.DiffUnshiftedIdeal.τ).loc Cert.DiffUnshiftedIdeal.main_arg5)
      ∧ r.2.mem ((c.tc : Thread Cert.DiffUnshiftedIdeal.nD Cert.DiffUnshiftedIdeal.τ).loc Cert.DiffUnshiftedIdeal.main_arg6) = m ((c.tc : Thread Cert.DiffUnshiftedIdeal.nD Cert.DiffUnshiftedIdeal.τ).loc Cert.DiffUnshiftedIdeal.main_arg6)
      ∧ r.2.mem ((c.tc : Thread Cert.DiffUnshiftedIdeal.nD Cert.DiffUnshiftedIdeal.τ).loc Cert.DiffUnshiftedIdeal.main_arg7) = m ((c.tc : Thread Cert.DiffUnshiftedIdeal.nD Cert.DiffUnshiftedIdeal.τ).loc Cert.DiffUnshiftedIdeal.main_arg7)
      ∧ r.2.mem ((c.tc : Thread Cert.DiffUnshiftedIdeal.nD Cert.DiffUnshiftedIdeal.τ).loc Cert.DiffUnshiftedIdeal.main_arg8) = m ((c.tc : Thread Cert.DiffUnshiftedIdeal.nD Cert.DiffUnshiftedIdeal.τ).loc Cert.DiffUnshiftedIdeal.main_arg8)
      ∧ r.2.mem ((c.tc : Thread Cert.DiffUnshiftedIdeal.nD Cert.DiffUnshiftedIdeal.τ).loc Cert.DiffUnshiftedIdeal.main_arg9) = m ((c.tc : Thread Cert.DiffUnshiftedIdeal.nD Cert.DiffUnshiftedIdeal.τ).loc Cert.DiffUnshiftedIdeal.main_arg9))
      ∧ r.2.sem = fun _ => 0)

def quiescent_DiffUnshiftedIdeal_pre_da_finite [hDiffUnshiftedIdeal : Cert.DiffUnshiftedIdeal.Facts] [hPre_da_finite : Cert.Pre_da_finite.Facts] : Prop :=
  ∀ (m : (ℓ : Loc Cert.DiffUnshiftedIdeal.nD Cert.DiffUnshiftedIdeal.τ Cert.DiffUnshiftedIdeal.sig) → Buf (Elt Ideal) ℓ) (g : Dev Cert.DiffUnshiftedIdeal.nD → PrngReg), Pre_DiffUnshiftedIdeal_da_finite m →
    θ_run (Cert.DiffUnshiftedIdeal.defs (F := Ideal)) (onTc (τ := Cert.DiffUnshiftedIdeal.τ) (Cert.DiffUnshiftedIdeal.main (F := Ideal))) ⟨m, fun _ => 0, g⟩ (fun r => (∀ c : Dev Cert.DiffUnshiftedIdeal.nD,
      r.2.mem ((c.tc : Thread Cert.DiffUnshiftedIdeal.nD Cert.DiffUnshiftedIdeal.τ).loc Cert.DiffUnshiftedIdeal.main_arg0) = m ((c.tc : Thread Cert.DiffUnshiftedIdeal.nD Cert.DiffUnshiftedIdeal.τ).loc Cert.DiffUnshiftedIdeal.main_arg0)
      ∧ r.2.mem ((c.tc : Thread Cert.DiffUnshiftedIdeal.nD Cert.DiffUnshiftedIdeal.τ).loc Cert.DiffUnshiftedIdeal.main_arg1) = m ((c.tc : Thread Cert.DiffUnshiftedIdeal.nD Cert.DiffUnshiftedIdeal.τ).loc Cert.DiffUnshiftedIdeal.main_arg1)
      ∧ r.2.mem ((c.tc : Thread Cert.DiffUnshiftedIdeal.nD Cert.DiffUnshiftedIdeal.τ).loc Cert.DiffUnshiftedIdeal.main_arg2) = m ((c.tc : Thread Cert.DiffUnshiftedIdeal.nD Cert.DiffUnshiftedIdeal.τ).loc Cert.DiffUnshiftedIdeal.main_arg2)
      ∧ r.2.mem ((c.tc : Thread Cert.DiffUnshiftedIdeal.nD Cert.DiffUnshiftedIdeal.τ).loc Cert.DiffUnshiftedIdeal.main_arg3) = m ((c.tc : Thread Cert.DiffUnshiftedIdeal.nD Cert.DiffUnshiftedIdeal.τ).loc Cert.DiffUnshiftedIdeal.main_arg3)
      ∧ r.2.mem ((c.tc : Thread Cert.DiffUnshiftedIdeal.nD Cert.DiffUnshiftedIdeal.τ).loc Cert.DiffUnshiftedIdeal.main_arg4) = m ((c.tc : Thread Cert.DiffUnshiftedIdeal.nD Cert.DiffUnshiftedIdeal.τ).loc Cert.DiffUnshiftedIdeal.main_arg4)
      ∧ r.2.mem ((c.tc : Thread Cert.DiffUnshiftedIdeal.nD Cert.DiffUnshiftedIdeal.τ).loc Cert.DiffUnshiftedIdeal.main_arg5) = m ((c.tc : Thread Cert.DiffUnshiftedIdeal.nD Cert.DiffUnshiftedIdeal.τ).loc Cert.DiffUnshiftedIdeal.main_arg5)
      ∧ r.2.mem ((c.tc : Thread Cert.DiffUnshiftedIdeal.nD Cert.DiffUnshiftedIdeal.τ).loc Cert.DiffUnshiftedIdeal.main_arg6) = m ((c.tc : Thread Cert.DiffUnshiftedIdeal.nD Cert.DiffUnshiftedIdeal.τ).loc Cert.DiffUnshiftedIdeal.main_arg6)
      ∧ r.2.mem ((c.tc : Thread Cert.DiffUnshiftedIdeal.nD Cert.DiffUnshiftedIdeal.τ).loc Cert.DiffUnshiftedIdeal.main_arg7) = m ((c.tc : Thread Cert.DiffUnshiftedIdeal.nD Cert.DiffUnshiftedIdeal.τ).loc Cert.DiffUnshiftedIdeal.main_arg7)
      ∧ r.2.mem ((c.tc : Thread Cert.DiffUnshiftedIdeal.nD Cert.DiffUnshiftedIdeal.τ).loc Cert.DiffUnshiftedIdeal.main_arg8) = m ((c.tc : Thread Cert.DiffUnshiftedIdeal.nD Cert.DiffUnshiftedIdeal.τ).loc Cert.DiffUnshiftedIdeal.main_arg8)
      ∧ r.2.mem ((c.tc : Thread Cert.DiffUnshiftedIdeal.nD Cert.DiffUnshiftedIdeal.τ).loc Cert.DiffUnshiftedIdeal.main_arg9) = m ((c.tc : Thread Cert.DiffUnshiftedIdeal.nD Cert.DiffUnshiftedIdeal.τ).loc Cert.DiffUnshiftedIdeal.main_arg9))
      ∧ r.2.sem = fun _ => 0)

def quiescent_EvenPost [hEvenPost : Cert.EvenPost.Facts] : Prop :=
  ∀ (m : (ℓ : Loc Cert.EvenPost.nD Cert.EvenPost.τ Cert.EvenPost.sig) → Buf (Elt Bits) ℓ) (g : Dev Cert.EvenPost.nD → PrngReg), Pre_EvenPost m →
    θ_run (Cert.EvenPost.defs (F := Bits)) (onTc (τ := Cert.EvenPost.τ) (Cert.EvenPost.main (F := Bits))) ⟨m, fun _ => 0, g⟩ (fun r => (∀ c : Dev Cert.EvenPost.nD,
      r.2.mem ((c.tc : Thread Cert.EvenPost.nD Cert.EvenPost.τ).loc Cert.EvenPost.main_arg0) = m ((c.tc : Thread Cert.EvenPost.nD Cert.EvenPost.τ).loc Cert.EvenPost.main_arg0)
      ∧ r.2.mem ((c.tc : Thread Cert.EvenPost.nD Cert.EvenPost.τ).loc Cert.EvenPost.main_arg1) = m ((c.tc : Thread Cert.EvenPost.nD Cert.EvenPost.τ).loc Cert.EvenPost.main_arg1)
      ∧ r.2.mem ((c.tc : Thread Cert.EvenPost.nD Cert.EvenPost.τ).loc Cert.EvenPost.main_arg2) = m ((c.tc : Thread Cert.EvenPost.nD Cert.EvenPost.τ).loc Cert.EvenPost.main_arg2)
      ∧ r.2.mem ((c.tc : Thread Cert.EvenPost.nD Cert.EvenPost.τ).loc Cert.EvenPost.main_arg3) = m ((c.tc : Thread Cert.EvenPost.nD Cert.EvenPost.τ).loc Cert.EvenPost.main_arg3)
      ∧ r.2.mem ((c.tc : Thread Cert.EvenPost.nD Cert.EvenPost.τ).loc Cert.EvenPost.main_arg4) = m ((c.tc : Thread Cert.EvenPost.nD Cert.EvenPost.τ).loc Cert.EvenPost.main_arg4)
      ∧ r.2.mem ((c.tc : Thread Cert.EvenPost.nD Cert.EvenPost.τ).loc Cert.EvenPost.main_arg5) = m ((c.tc : Thread Cert.EvenPost.nD Cert.EvenPost.τ).loc Cert.EvenPost.main_arg5)
      ∧ r.2.mem ((c.tc : Thread Cert.EvenPost.nD Cert.EvenPost.τ).loc Cert.EvenPost.main_arg6) = m ((c.tc : Thread Cert.EvenPost.nD Cert.EvenPost.τ).loc Cert.EvenPost.main_arg6)
      ∧ r.2.mem ((c.tc : Thread Cert.EvenPost.nD Cert.EvenPost.τ).loc Cert.EvenPost.main_arg7) = m ((c.tc : Thread Cert.EvenPost.nD Cert.EvenPost.τ).loc Cert.EvenPost.main_arg7))
      ∧ r.2.sem = fun _ => 0)

def quiescent_EvenPostIdeal [hEvenPostIdeal : Cert.EvenPostIdeal.Facts] : Prop :=
  ∀ (m : (ℓ : Loc Cert.EvenPostIdeal.nD Cert.EvenPostIdeal.τ Cert.EvenPostIdeal.sig) → Buf (Elt Ideal) ℓ) (g : Dev Cert.EvenPostIdeal.nD → PrngReg), Pre_EvenPostIdeal m →
    θ_run (Cert.EvenPostIdeal.defs (F := Ideal)) (onTc (τ := Cert.EvenPostIdeal.τ) (Cert.EvenPostIdeal.main (F := Ideal))) ⟨m, fun _ => 0, g⟩ (fun r => (∀ c : Dev Cert.EvenPostIdeal.nD,
      r.2.mem ((c.tc : Thread Cert.EvenPostIdeal.nD Cert.EvenPostIdeal.τ).loc Cert.EvenPostIdeal.main_arg0) = m ((c.tc : Thread Cert.EvenPostIdeal.nD Cert.EvenPostIdeal.τ).loc Cert.EvenPostIdeal.main_arg0)
      ∧ r.2.mem ((c.tc : Thread Cert.EvenPostIdeal.nD Cert.EvenPostIdeal.τ).loc Cert.EvenPostIdeal.main_arg1) = m ((c.tc : Thread Cert.EvenPostIdeal.nD Cert.EvenPostIdeal.τ).loc Cert.EvenPostIdeal.main_arg1)
      ∧ r.2.mem ((c.tc : Thread Cert.EvenPostIdeal.nD Cert.EvenPostIdeal.τ).loc Cert.EvenPostIdeal.main_arg2) = m ((c.tc : Thread Cert.EvenPostIdeal.nD Cert.EvenPostIdeal.τ).loc Cert.EvenPostIdeal.main_arg2)
      ∧ r.2.mem ((c.tc : Thread Cert.EvenPostIdeal.nD Cert.EvenPostIdeal.τ).loc Cert.EvenPostIdeal.main_arg3) = m ((c.tc : Thread Cert.EvenPostIdeal.nD Cert.EvenPostIdeal.τ).loc Cert.EvenPostIdeal.main_arg3)
      ∧ r.2.mem ((c.tc : Thread Cert.EvenPostIdeal.nD Cert.EvenPostIdeal.τ).loc Cert.EvenPostIdeal.main_arg4) = m ((c.tc : Thread Cert.EvenPostIdeal.nD Cert.EvenPostIdeal.τ).loc Cert.EvenPostIdeal.main_arg4)
      ∧ r.2.mem ((c.tc : Thread Cert.EvenPostIdeal.nD Cert.EvenPostIdeal.τ).loc Cert.EvenPostIdeal.main_arg5) = m ((c.tc : Thread Cert.EvenPostIdeal.nD Cert.EvenPostIdeal.τ).loc Cert.EvenPostIdeal.main_arg5)
      ∧ r.2.mem ((c.tc : Thread Cert.EvenPostIdeal.nD Cert.EvenPostIdeal.τ).loc Cert.EvenPostIdeal.main_arg6) = m ((c.tc : Thread Cert.EvenPostIdeal.nD Cert.EvenPostIdeal.τ).loc Cert.EvenPostIdeal.main_arg6)
      ∧ r.2.mem ((c.tc : Thread Cert.EvenPostIdeal.nD Cert.EvenPostIdeal.τ).loc Cert.EvenPostIdeal.main_arg7) = m ((c.tc : Thread Cert.EvenPostIdeal.nD Cert.EvenPostIdeal.τ).loc Cert.EvenPostIdeal.main_arg7))
      ∧ r.2.sem = fun _ => 0)

def quiescent_RefEvenPostIdeal [hRefEvenPostIdeal : Cert.RefEvenPostIdeal.Facts] : Prop :=
  ∀ (m : (ℓ : Loc Cert.RefEvenPostIdeal.nD Cert.RefEvenPostIdeal.τ Cert.RefEvenPostIdeal.sig) → Buf (Elt Ideal) ℓ) (g : Dev Cert.RefEvenPostIdeal.nD → PrngReg), Pre_RefEvenPostIdeal m →
    θ_run (Cert.RefEvenPostIdeal.defs (F := Ideal)) (onTc (τ := Cert.RefEvenPostIdeal.τ) (Cert.RefEvenPostIdeal.main (F := Ideal))) ⟨m, fun _ => 0, g⟩ (fun r => (∀ c : Dev Cert.RefEvenPostIdeal.nD,
      r.2.mem ((c.tc : Thread Cert.RefEvenPostIdeal.nD Cert.RefEvenPostIdeal.τ).loc Cert.RefEvenPostIdeal.main_arg0) = m ((c.tc : Thread Cert.RefEvenPostIdeal.nD Cert.RefEvenPostIdeal.τ).loc Cert.RefEvenPostIdeal.main_arg0)
      ∧ r.2.mem ((c.tc : Thread Cert.RefEvenPostIdeal.nD Cert.RefEvenPostIdeal.τ).loc Cert.RefEvenPostIdeal.main_arg1) = m ((c.tc : Thread Cert.RefEvenPostIdeal.nD Cert.RefEvenPostIdeal.τ).loc Cert.RefEvenPostIdeal.main_arg1)
      ∧ r.2.mem ((c.tc : Thread Cert.RefEvenPostIdeal.nD Cert.RefEvenPostIdeal.τ).loc Cert.RefEvenPostIdeal.main_arg2) = m ((c.tc : Thread Cert.RefEvenPostIdeal.nD Cert.RefEvenPostIdeal.τ).loc Cert.RefEvenPostIdeal.main_arg2)
      ∧ r.2.mem ((c.tc : Thread Cert.RefEvenPostIdeal.nD Cert.RefEvenPostIdeal.τ).loc Cert.RefEvenPostIdeal.main_arg3) = m ((c.tc : Thread Cert.RefEvenPostIdeal.nD Cert.RefEvenPostIdeal.τ).loc Cert.RefEvenPostIdeal.main_arg3)
      ∧ r.2.mem ((c.tc : Thread Cert.RefEvenPostIdeal.nD Cert.RefEvenPostIdeal.τ).loc Cert.RefEvenPostIdeal.main_arg4) = m ((c.tc : Thread Cert.RefEvenPostIdeal.nD Cert.RefEvenPostIdeal.τ).loc Cert.RefEvenPostIdeal.main_arg4)
      ∧ r.2.mem ((c.tc : Thread Cert.RefEvenPostIdeal.nD Cert.RefEvenPostIdeal.τ).loc Cert.RefEvenPostIdeal.main_arg5) = m ((c.tc : Thread Cert.RefEvenPostIdeal.nD Cert.RefEvenPostIdeal.τ).loc Cert.RefEvenPostIdeal.main_arg5)
      ∧ r.2.mem ((c.tc : Thread Cert.RefEvenPostIdeal.nD Cert.RefEvenPostIdeal.τ).loc Cert.RefEvenPostIdeal.main_arg6) = m ((c.tc : Thread Cert.RefEvenPostIdeal.nD Cert.RefEvenPostIdeal.τ).loc Cert.RefEvenPostIdeal.main_arg6)
      ∧ r.2.mem ((c.tc : Thread Cert.RefEvenPostIdeal.nD Cert.RefEvenPostIdeal.τ).loc Cert.RefEvenPostIdeal.main_arg7) = m ((c.tc : Thread Cert.RefEvenPostIdeal.nD Cert.RefEvenPostIdeal.τ).loc Cert.RefEvenPostIdeal.main_arg7))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1)
      ∧ r.2.mem ((c.tc : Thread Cert.OddIn.nD Cert.OddIn.τ).loc Cert.OddIn.main_arg2) = m ((c.tc : Thread Cert.OddIn.nD Cert.OddIn.τ).loc Cert.OddIn.main_arg2)
      ∧ r.2.mem ((c.tc : Thread Cert.OddIn.nD Cert.OddIn.τ).loc Cert.OddIn.main_arg3) = m ((c.tc : Thread Cert.OddIn.nD Cert.OddIn.τ).loc Cert.OddIn.main_arg3)
      ∧ r.2.mem ((c.tc : Thread Cert.OddIn.nD Cert.OddIn.τ).loc Cert.OddIn.main_arg4) = m ((c.tc : Thread Cert.OddIn.nD Cert.OddIn.τ).loc Cert.OddIn.main_arg4)
      ∧ r.2.mem ((c.tc : Thread Cert.OddIn.nD Cert.OddIn.τ).loc Cert.OddIn.main_arg5) = m ((c.tc : Thread Cert.OddIn.nD Cert.OddIn.τ).loc Cert.OddIn.main_arg5))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
      ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
      ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3)
      ∧ r.2.mem ((c.tc : Thread Cert.OddInIdeal.nD Cert.OddInIdeal.τ).loc Cert.OddInIdeal.main_arg4) = m ((c.tc : Thread Cert.OddInIdeal.nD Cert.OddInIdeal.τ).loc Cert.OddInIdeal.main_arg4)
      ∧ r.2.mem ((c.tc : Thread Cert.OddInIdeal.nD Cert.OddInIdeal.τ).loc Cert.OddInIdeal.main_arg5) = m ((c.tc : Thread Cert.OddInIdeal.nD Cert.OddInIdeal.τ).loc Cert.OddInIdeal.main_arg5))
      ∧ r.2.sem = fun _ => 0)

def quiescent_RefOddInIdeal [hRefOddInIdeal : Cert.RefOddInIdeal.Facts] : Prop :=
  ∀ (m : (ℓ : Loc Cert.RefOddInIdeal.nD Cert.RefOddInIdeal.τ Cert.RefOddInIdeal.sig) → Buf (Elt Ideal) ℓ) (g : Dev Cert.RefOddInIdeal.nD → PrngReg), Pre_RefOddInIdeal m →
    θ_run (Cert.RefOddInIdeal.defs (F := Ideal)) (onTc (τ := Cert.RefOddInIdeal.τ) (Cert.RefOddInIdeal.main (F := Ideal))) ⟨m, fun _ => 0, g⟩ (fun r => (∀ c : Dev Cert.RefOddInIdeal.nD,
      r.2.mem ((c.tc : Thread Cert.RefOddInIdeal.nD Cert.RefOddInIdeal.τ).loc Cert.RefOddInIdeal.main_arg0) = m ((c.tc : Thread Cert.RefOddInIdeal.nD Cert.RefOddInIdeal.τ).loc Cert.RefOddInIdeal.main_arg0)
      ∧ r.2.mem ((c.tc : Thread Cert.RefOddInIdeal.nD Cert.RefOddInIdeal.τ).loc Cert.RefOddInIdeal.main_arg1) = m ((c.tc : Thread Cert.RefOddInIdeal.nD Cert.RefOddInIdeal.τ).loc Cert.RefOddInIdeal.main_arg1)
      ∧ r.2.mem ((c.tc : Thread Cert.RefOddInIdeal.nD Cert.RefOddInIdeal.τ).loc Cert.RefOddInIdeal.main_arg2) = m ((c.tc : Thread Cert.RefOddInIdeal.nD Cert.RefOddInIdeal.τ).loc Cert.RefOddInIdeal.main_arg2)
      ∧ r.2.mem ((c.tc : Thread Cert.RefOddInIdeal.nD Cert.RefOddInIdeal.τ).loc Cert.RefOddInIdeal.main_arg3) = m ((c.tc : Thread Cert.RefOddInIdeal.nD Cert.RefOddInIdeal.τ).loc Cert.RefOddInIdeal.main_arg3)
      ∧ r.2.mem ((c.tc : Thread Cert.RefOddInIdeal.nD Cert.RefOddInIdeal.τ).loc Cert.RefOddInIdeal.main_arg4) = m ((c.tc : Thread Cert.RefOddInIdeal.nD Cert.RefOddInIdeal.τ).loc Cert.RefOddInIdeal.main_arg4)
      ∧ r.2.mem ((c.tc : Thread Cert.RefOddInIdeal.nD Cert.RefOddInIdeal.τ).loc Cert.RefOddInIdeal.main_arg5) = m ((c.tc : Thread Cert.RefOddInIdeal.nD Cert.RefOddInIdeal.τ).loc Cert.RefOddInIdeal.main_arg5))
      ∧ r.2.sem = fun _ => 0)

def quiescent_OddPost [hOddPost : Cert.OddPost.Facts] : Prop :=
  ∀ (m : (ℓ : Loc Cert.OddPost.nD Cert.OddPost.τ Cert.OddPost.sig) → Buf (Elt Bits) ℓ) (g : Dev Cert.OddPost.nD → PrngReg), Pre_OddPost m →
    θ_run (Cert.OddPost.defs (F := Bits)) (onTc (τ := Cert.OddPost.τ) (Cert.OddPost.main (F := Bits))) ⟨m, fun _ => 0, g⟩ (fun r => (∀ c : Dev Cert.OddPost.nD,
      r.2.mem ((c.tc : Thread Cert.OddPost.nD Cert.OddPost.τ).loc Cert.OddPost.main_arg0) = m ((c.tc : Thread Cert.OddPost.nD Cert.OddPost.τ).loc Cert.OddPost.main_arg0)
      ∧ r.2.mem ((c.tc : Thread Cert.OddPost.nD Cert.OddPost.τ).loc Cert.OddPost.main_arg1) = m ((c.tc : Thread Cert.OddPost.nD Cert.OddPost.τ).loc Cert.OddPost.main_arg1)
      ∧ r.2.mem ((c.tc : Thread Cert.OddPost.nD Cert.OddPost.τ).loc Cert.OddPost.main_arg2) = m ((c.tc : Thread Cert.OddPost.nD Cert.OddPost.τ).loc Cert.OddPost.main_arg2)
      ∧ r.2.mem ((c.tc : Thread Cert.OddPost.nD Cert.OddPost.τ).loc Cert.OddPost.main_arg3) = m ((c.tc : Thread Cert.OddPost.nD Cert.OddPost.τ).loc Cert.OddPost.main_arg3)
      ∧ r.2.mem ((c.tc : Thread Cert.OddPost.nD Cert.OddPost.τ).loc Cert.OddPost.main_arg4) = m ((c.tc : Thread Cert.OddPost.nD Cert.OddPost.τ).loc Cert.OddPost.main_arg4)
      ∧ r.2.mem ((c.tc : Thread Cert.OddPost.nD Cert.OddPost.τ).loc Cert.OddPost.main_arg5) = m ((c.tc : Thread Cert.OddPost.nD Cert.OddPost.τ).loc Cert.OddPost.main_arg5)
      ∧ r.2.mem ((c.tc : Thread Cert.OddPost.nD Cert.OddPost.τ).loc Cert.OddPost.main_arg6) = m ((c.tc : Thread Cert.OddPost.nD Cert.OddPost.τ).loc Cert.OddPost.main_arg6)
      ∧ r.2.mem ((c.tc : Thread Cert.OddPost.nD Cert.OddPost.τ).loc Cert.OddPost.main_arg7) = m ((c.tc : Thread Cert.OddPost.nD Cert.OddPost.τ).loc Cert.OddPost.main_arg7)
      ∧ r.2.mem ((c.tc : Thread Cert.OddPost.nD Cert.OddPost.τ).loc Cert.OddPost.main_arg8) = m ((c.tc : Thread Cert.OddPost.nD Cert.OddPost.τ).loc Cert.OddPost.main_arg8)
      ∧ r.2.mem ((c.tc : Thread Cert.OddPost.nD Cert.OddPost.τ).loc Cert.OddPost.main_arg9) = m ((c.tc : Thread Cert.OddPost.nD Cert.OddPost.τ).loc Cert.OddPost.main_arg9)
      ∧ r.2.mem ((c.tc : Thread Cert.OddPost.nD Cert.OddPost.τ).loc Cert.OddPost.main_arg10) = m ((c.tc : Thread Cert.OddPost.nD Cert.OddPost.τ).loc Cert.OddPost.main_arg10)
      ∧ r.2.mem ((c.tc : Thread Cert.OddPost.nD Cert.OddPost.τ).loc Cert.OddPost.main_arg11) = m ((c.tc : Thread Cert.OddPost.nD Cert.OddPost.τ).loc Cert.OddPost.main_arg11)
      ∧ r.2.mem ((c.tc : Thread Cert.OddPost.nD Cert.OddPost.τ).loc Cert.OddPost.main_arg12) = m ((c.tc : Thread Cert.OddPost.nD Cert.OddPost.τ).loc Cert.OddPost.main_arg12))
      ∧ r.2.sem = fun _ => 0)

def quiescent_OddPostIdeal [hOddPostIdeal : Cert.OddPostIdeal.Facts] : Prop :=
  ∀ (m : (ℓ : Loc Cert.OddPostIdeal.nD Cert.OddPostIdeal.τ Cert.OddPostIdeal.sig) → Buf (Elt Ideal) ℓ) (g : Dev Cert.OddPostIdeal.nD → PrngReg), Pre_OddPostIdeal m →
    θ_run (Cert.OddPostIdeal.defs (F := Ideal)) (onTc (τ := Cert.OddPostIdeal.τ) (Cert.OddPostIdeal.main (F := Ideal))) ⟨m, fun _ => 0, g⟩ (fun r => (∀ c : Dev Cert.OddPostIdeal.nD,
      r.2.mem ((c.tc : Thread Cert.OddPostIdeal.nD Cert.OddPostIdeal.τ).loc Cert.OddPostIdeal.main_arg0) = m ((c.tc : Thread Cert.OddPostIdeal.nD Cert.OddPostIdeal.τ).loc Cert.OddPostIdeal.main_arg0)
      ∧ r.2.mem ((c.tc : Thread Cert.OddPostIdeal.nD Cert.OddPostIdeal.τ).loc Cert.OddPostIdeal.main_arg1) = m ((c.tc : Thread Cert.OddPostIdeal.nD Cert.OddPostIdeal.τ).loc Cert.OddPostIdeal.main_arg1)
      ∧ r.2.mem ((c.tc : Thread Cert.OddPostIdeal.nD Cert.OddPostIdeal.τ).loc Cert.OddPostIdeal.main_arg2) = m ((c.tc : Thread Cert.OddPostIdeal.nD Cert.OddPostIdeal.τ).loc Cert.OddPostIdeal.main_arg2)
      ∧ r.2.mem ((c.tc : Thread Cert.OddPostIdeal.nD Cert.OddPostIdeal.τ).loc Cert.OddPostIdeal.main_arg3) = m ((c.tc : Thread Cert.OddPostIdeal.nD Cert.OddPostIdeal.τ).loc Cert.OddPostIdeal.main_arg3)
      ∧ r.2.mem ((c.tc : Thread Cert.OddPostIdeal.nD Cert.OddPostIdeal.τ).loc Cert.OddPostIdeal.main_arg4) = m ((c.tc : Thread Cert.OddPostIdeal.nD Cert.OddPostIdeal.τ).loc Cert.OddPostIdeal.main_arg4)
      ∧ r.2.mem ((c.tc : Thread Cert.OddPostIdeal.nD Cert.OddPostIdeal.τ).loc Cert.OddPostIdeal.main_arg5) = m ((c.tc : Thread Cert.OddPostIdeal.nD Cert.OddPostIdeal.τ).loc Cert.OddPostIdeal.main_arg5)
      ∧ r.2.mem ((c.tc : Thread Cert.OddPostIdeal.nD Cert.OddPostIdeal.τ).loc Cert.OddPostIdeal.main_arg6) = m ((c.tc : Thread Cert.OddPostIdeal.nD Cert.OddPostIdeal.τ).loc Cert.OddPostIdeal.main_arg6)
      ∧ r.2.mem ((c.tc : Thread Cert.OddPostIdeal.nD Cert.OddPostIdeal.τ).loc Cert.OddPostIdeal.main_arg7) = m ((c.tc : Thread Cert.OddPostIdeal.nD Cert.OddPostIdeal.τ).loc Cert.OddPostIdeal.main_arg7)
      ∧ r.2.mem ((c.tc : Thread Cert.OddPostIdeal.nD Cert.OddPostIdeal.τ).loc Cert.OddPostIdeal.main_arg8) = m ((c.tc : Thread Cert.OddPostIdeal.nD Cert.OddPostIdeal.τ).loc Cert.OddPostIdeal.main_arg8)
      ∧ r.2.mem ((c.tc : Thread Cert.OddPostIdeal.nD Cert.OddPostIdeal.τ).loc Cert.OddPostIdeal.main_arg9) = m ((c.tc : Thread Cert.OddPostIdeal.nD Cert.OddPostIdeal.τ).loc Cert.OddPostIdeal.main_arg9)
      ∧ r.2.mem ((c.tc : Thread Cert.OddPostIdeal.nD Cert.OddPostIdeal.τ).loc Cert.OddPostIdeal.main_arg10) = m ((c.tc : Thread Cert.OddPostIdeal.nD Cert.OddPostIdeal.τ).loc Cert.OddPostIdeal.main_arg10)
      ∧ r.2.mem ((c.tc : Thread Cert.OddPostIdeal.nD Cert.OddPostIdeal.τ).loc Cert.OddPostIdeal.main_arg11) = m ((c.tc : Thread Cert.OddPostIdeal.nD Cert.OddPostIdeal.τ).loc Cert.OddPostIdeal.main_arg11)
      ∧ r.2.mem ((c.tc : Thread Cert.OddPostIdeal.nD Cert.OddPostIdeal.τ).loc Cert.OddPostIdeal.main_arg12) = m ((c.tc : Thread Cert.OddPostIdeal.nD Cert.OddPostIdeal.τ).loc Cert.OddPostIdeal.main_arg12))
      ∧ r.2.sem = fun _ => 0)

def quiescent_OddPostIdeal_pre_op_finite [hOddPostIdeal : Cert.OddPostIdeal.Facts] [hPre_op_finite : Cert.Pre_op_finite.Facts] : Prop :=
  ∀ (m : (ℓ : Loc Cert.OddPostIdeal.nD Cert.OddPostIdeal.τ Cert.OddPostIdeal.sig) → Buf (Elt Ideal) ℓ) (g : Dev Cert.OddPostIdeal.nD → PrngReg), Pre_OddPostIdeal_op_finite m →
    θ_run (Cert.OddPostIdeal.defs (F := Ideal)) (onTc (τ := Cert.OddPostIdeal.τ) (Cert.OddPostIdeal.main (F := Ideal))) ⟨m, fun _ => 0, g⟩ (fun r => (∀ c : Dev Cert.OddPostIdeal.nD,
      r.2.mem ((c.tc : Thread Cert.OddPostIdeal.nD Cert.OddPostIdeal.τ).loc Cert.OddPostIdeal.main_arg0) = m ((c.tc : Thread Cert.OddPostIdeal.nD Cert.OddPostIdeal.τ).loc Cert.OddPostIdeal.main_arg0)
      ∧ r.2.mem ((c.tc : Thread Cert.OddPostIdeal.nD Cert.OddPostIdeal.τ).loc Cert.OddPostIdeal.main_arg1) = m ((c.tc : Thread Cert.OddPostIdeal.nD Cert.OddPostIdeal.τ).loc Cert.OddPostIdeal.main_arg1)
      ∧ r.2.mem ((c.tc : Thread Cert.OddPostIdeal.nD Cert.OddPostIdeal.τ).loc Cert.OddPostIdeal.main_arg2) = m ((c.tc : Thread Cert.OddPostIdeal.nD Cert.OddPostIdeal.τ).loc Cert.OddPostIdeal.main_arg2)
      ∧ r.2.mem ((c.tc : Thread Cert.OddPostIdeal.nD Cert.OddPostIdeal.τ).loc Cert.OddPostIdeal.main_arg3) = m ((c.tc : Thread Cert.OddPostIdeal.nD Cert.OddPostIdeal.τ).loc Cert.OddPostIdeal.main_arg3)
      ∧ r.2.mem ((c.tc : Thread Cert.OddPostIdeal.nD Cert.OddPostIdeal.τ).loc Cert.OddPostIdeal.main_arg4) = m ((c.tc : Thread Cert.OddPostIdeal.nD Cert.OddPostIdeal.τ).loc Cert.OddPostIdeal.main_arg4)
      ∧ r.2.mem ((c.tc : Thread Cert.OddPostIdeal.nD Cert.OddPostIdeal.τ).loc Cert.OddPostIdeal.main_arg5) = m ((c.tc : Thread Cert.OddPostIdeal.nD Cert.OddPostIdeal.τ).loc Cert.OddPostIdeal.main_arg5)
      ∧ r.2.mem ((c.tc : Thread Cert.OddPostIdeal.nD Cert.OddPostIdeal.τ).loc Cert.OddPostIdeal.main_arg6) = m ((c.tc : Thread Cert.OddPostIdeal.nD Cert.OddPostIdeal.τ).loc Cert.OddPostIdeal.main_arg6)
      ∧ r.2.mem ((c.tc : Thread Cert.OddPostIdeal.nD Cert.OddPostIdeal.τ).loc Cert.OddPostIdeal.main_arg7) = m ((c.tc : Thread Cert.OddPostIdeal.nD Cert.OddPostIdeal.τ).loc Cert.OddPostIdeal.main_arg7)
      ∧ r.2.mem ((c.tc : Thread Cert.OddPostIdeal.nD Cert.OddPostIdeal.τ).loc Cert.OddPostIdeal.main_arg8) = m ((c.tc : Thread Cert.OddPostIdeal.nD Cert.OddPostIdeal.τ).loc Cert.OddPostIdeal.main_arg8)
      ∧ r.2.mem ((c.tc : Thread Cert.OddPostIdeal.nD Cert.OddPostIdeal.τ).loc Cert.OddPostIdeal.main_arg9) = m ((c.tc : Thread Cert.OddPostIdeal.nD Cert.OddPostIdeal.τ).loc Cert.OddPostIdeal.main_arg9)
      ∧ r.2.mem ((c.tc : Thread Cert.OddPostIdeal.nD Cert.OddPostIdeal.τ).loc Cert.OddPostIdeal.main_arg10) = m ((c.tc : Thread Cert.OddPostIdeal.nD Cert.OddPostIdeal.τ).loc Cert.OddPostIdeal.main_arg10)
      ∧ r.2.mem ((c.tc : Thread Cert.OddPostIdeal.nD Cert.OddPostIdeal.τ).loc Cert.OddPostIdeal.main_arg11) = m ((c.tc : Thread Cert.OddPostIdeal.nD Cert.OddPostIdeal.τ).loc Cert.OddPostIdeal.main_arg11)
      ∧ r.2.mem ((c.tc : Thread Cert.OddPostIdeal.nD Cert.OddPostIdeal.τ).loc Cert.OddPostIdeal.main_arg12) = m ((c.tc : Thread Cert.OddPostIdeal.nD Cert.OddPostIdeal.τ).loc Cert.OddPostIdeal.main_arg12))
      ∧ r.2.sem = fun _ => 0)

def quiescent_RefOddPostIdeal [hRefOddPostIdeal : Cert.RefOddPostIdeal.Facts] : Prop :=
  ∀ (m : (ℓ : Loc Cert.RefOddPostIdeal.nD Cert.RefOddPostIdeal.τ Cert.RefOddPostIdeal.sig) → Buf (Elt Ideal) ℓ) (g : Dev Cert.RefOddPostIdeal.nD → PrngReg), Pre_RefOddPostIdeal m →
    θ_run (Cert.RefOddPostIdeal.defs (F := Ideal)) (onTc (τ := Cert.RefOddPostIdeal.τ) (Cert.RefOddPostIdeal.main (F := Ideal))) ⟨m, fun _ => 0, g⟩ (fun r => (∀ c : Dev Cert.RefOddPostIdeal.nD,
      r.2.mem ((c.tc : Thread Cert.RefOddPostIdeal.nD Cert.RefOddPostIdeal.τ).loc Cert.RefOddPostIdeal.main_arg0) = m ((c.tc : Thread Cert.RefOddPostIdeal.nD Cert.RefOddPostIdeal.τ).loc Cert.RefOddPostIdeal.main_arg0)
      ∧ r.2.mem ((c.tc : Thread Cert.RefOddPostIdeal.nD Cert.RefOddPostIdeal.τ).loc Cert.RefOddPostIdeal.main_arg1) = m ((c.tc : Thread Cert.RefOddPostIdeal.nD Cert.RefOddPostIdeal.τ).loc Cert.RefOddPostIdeal.main_arg1)
      ∧ r.2.mem ((c.tc : Thread Cert.RefOddPostIdeal.nD Cert.RefOddPostIdeal.τ).loc Cert.RefOddPostIdeal.main_arg2) = m ((c.tc : Thread Cert.RefOddPostIdeal.nD Cert.RefOddPostIdeal.τ).loc Cert.RefOddPostIdeal.main_arg2)
      ∧ r.2.mem ((c.tc : Thread Cert.RefOddPostIdeal.nD Cert.RefOddPostIdeal.τ).loc Cert.RefOddPostIdeal.main_arg3) = m ((c.tc : Thread Cert.RefOddPostIdeal.nD Cert.RefOddPostIdeal.τ).loc Cert.RefOddPostIdeal.main_arg3)
      ∧ r.2.mem ((c.tc : Thread Cert.RefOddPostIdeal.nD Cert.RefOddPostIdeal.τ).loc Cert.RefOddPostIdeal.main_arg4) = m ((c.tc : Thread Cert.RefOddPostIdeal.nD Cert.RefOddPostIdeal.τ).loc Cert.RefOddPostIdeal.main_arg4)
      ∧ r.2.mem ((c.tc : Thread Cert.RefOddPostIdeal.nD Cert.RefOddPostIdeal.τ).loc Cert.RefOddPostIdeal.main_arg5) = m ((c.tc : Thread Cert.RefOddPostIdeal.nD Cert.RefOddPostIdeal.τ).loc Cert.RefOddPostIdeal.main_arg5)
      ∧ r.2.mem ((c.tc : Thread Cert.RefOddPostIdeal.nD Cert.RefOddPostIdeal.τ).loc Cert.RefOddPostIdeal.main_arg6) = m ((c.tc : Thread Cert.RefOddPostIdeal.nD Cert.RefOddPostIdeal.τ).loc Cert.RefOddPostIdeal.main_arg6)
      ∧ r.2.mem ((c.tc : Thread Cert.RefOddPostIdeal.nD Cert.RefOddPostIdeal.τ).loc Cert.RefOddPostIdeal.main_arg7) = m ((c.tc : Thread Cert.RefOddPostIdeal.nD Cert.RefOddPostIdeal.τ).loc Cert.RefOddPostIdeal.main_arg7)
      ∧ r.2.mem ((c.tc : Thread Cert.RefOddPostIdeal.nD Cert.RefOddPostIdeal.τ).loc Cert.RefOddPostIdeal.main_arg8) = m ((c.tc : Thread Cert.RefOddPostIdeal.nD Cert.RefOddPostIdeal.τ).loc Cert.RefOddPostIdeal.main_arg8)
      ∧ r.2.mem ((c.tc : Thread Cert.RefOddPostIdeal.nD Cert.RefOddPostIdeal.τ).loc Cert.RefOddPostIdeal.main_arg9) = m ((c.tc : Thread Cert.RefOddPostIdeal.nD Cert.RefOddPostIdeal.τ).loc Cert.RefOddPostIdeal.main_arg9)
      ∧ r.2.mem ((c.tc : Thread Cert.RefOddPostIdeal.nD Cert.RefOddPostIdeal.τ).loc Cert.RefOddPostIdeal.main_arg10) = m ((c.tc : Thread Cert.RefOddPostIdeal.nD Cert.RefOddPostIdeal.τ).loc Cert.RefOddPostIdeal.main_arg10)
      ∧ r.2.mem ((c.tc : Thread Cert.RefOddPostIdeal.nD Cert.RefOddPostIdeal.τ).loc Cert.RefOddPostIdeal.main_arg11) = m ((c.tc : Thread Cert.RefOddPostIdeal.nD Cert.RefOddPostIdeal.τ).loc Cert.RefOddPostIdeal.main_arg11)
      ∧ r.2.mem ((c.tc : Thread Cert.RefOddPostIdeal.nD Cert.RefOddPostIdeal.τ).loc Cert.RefOddPostIdeal.main_arg12) = m ((c.tc : Thread Cert.RefOddPostIdeal.nD Cert.RefOddPostIdeal.τ).loc Cert.RefOddPostIdeal.main_arg12))
      ∧ r.2.sem = fun _ => 0)

def quiescent_RefOddPostIdeal_pre_op_finite [hRefOddPostIdeal : Cert.RefOddPostIdeal.Facts] [hPre_op_finite : Cert.Pre_op_finite.Facts] : Prop :=
  ∀ (m : (ℓ : Loc Cert.RefOddPostIdeal.nD Cert.RefOddPostIdeal.τ Cert.RefOddPostIdeal.sig) → Buf (Elt Ideal) ℓ) (g : Dev Cert.RefOddPostIdeal.nD → PrngReg), Pre_RefOddPostIdeal_op_finite m →
    θ_run (Cert.RefOddPostIdeal.defs (F := Ideal)) (onTc (τ := Cert.RefOddPostIdeal.τ) (Cert.RefOddPostIdeal.main (F := Ideal))) ⟨m, fun _ => 0, g⟩ (fun r => (∀ c : Dev Cert.RefOddPostIdeal.nD,
      r.2.mem ((c.tc : Thread Cert.RefOddPostIdeal.nD Cert.RefOddPostIdeal.τ).loc Cert.RefOddPostIdeal.main_arg0) = m ((c.tc : Thread Cert.RefOddPostIdeal.nD Cert.RefOddPostIdeal.τ).loc Cert.RefOddPostIdeal.main_arg0)
      ∧ r.2.mem ((c.tc : Thread Cert.RefOddPostIdeal.nD Cert.RefOddPostIdeal.τ).loc Cert.RefOddPostIdeal.main_arg1) = m ((c.tc : Thread Cert.RefOddPostIdeal.nD Cert.RefOddPostIdeal.τ).loc Cert.RefOddPostIdeal.main_arg1)
      ∧ r.2.mem ((c.tc : Thread Cert.RefOddPostIdeal.nD Cert.RefOddPostIdeal.τ).loc Cert.RefOddPostIdeal.main_arg2) = m ((c.tc : Thread Cert.RefOddPostIdeal.nD Cert.RefOddPostIdeal.τ).loc Cert.RefOddPostIdeal.main_arg2)
      ∧ r.2.mem ((c.tc : Thread Cert.RefOddPostIdeal.nD Cert.RefOddPostIdeal.τ).loc Cert.RefOddPostIdeal.main_arg3) = m ((c.tc : Thread Cert.RefOddPostIdeal.nD Cert.RefOddPostIdeal.τ).loc Cert.RefOddPostIdeal.main_arg3)
      ∧ r.2.mem ((c.tc : Thread Cert.RefOddPostIdeal.nD Cert.RefOddPostIdeal.τ).loc Cert.RefOddPostIdeal.main_arg4) = m ((c.tc : Thread Cert.RefOddPostIdeal.nD Cert.RefOddPostIdeal.τ).loc Cert.RefOddPostIdeal.main_arg4)
      ∧ r.2.mem ((c.tc : Thread Cert.RefOddPostIdeal.nD Cert.RefOddPostIdeal.τ).loc Cert.RefOddPostIdeal.main_arg5) = m ((c.tc : Thread Cert.RefOddPostIdeal.nD Cert.RefOddPostIdeal.τ).loc Cert.RefOddPostIdeal.main_arg5)
      ∧ r.2.mem ((c.tc : Thread Cert.RefOddPostIdeal.nD Cert.RefOddPostIdeal.τ).loc Cert.RefOddPostIdeal.main_arg6) = m ((c.tc : Thread Cert.RefOddPostIdeal.nD Cert.RefOddPostIdeal.τ).loc Cert.RefOddPostIdeal.main_arg6)
      ∧ r.2.mem ((c.tc : Thread Cert.RefOddPostIdeal.nD Cert.RefOddPostIdeal.τ).loc Cert.RefOddPostIdeal.main_arg7) = m ((c.tc : Thread Cert.RefOddPostIdeal.nD Cert.RefOddPostIdeal.τ).loc Cert.RefOddPostIdeal.main_arg7)
      ∧ r.2.mem ((c.tc : Thread Cert.RefOddPostIdeal.nD Cert.RefOddPostIdeal.τ).loc Cert.RefOddPostIdeal.main_arg8) = m ((c.tc : Thread Cert.RefOddPostIdeal.nD Cert.RefOddPostIdeal.τ).loc Cert.RefOddPostIdeal.main_arg8)
      ∧ r.2.mem ((c.tc : Thread Cert.RefOddPostIdeal.nD Cert.RefOddPostIdeal.τ).loc Cert.RefOddPostIdeal.main_arg9) = m ((c.tc : Thread Cert.RefOddPostIdeal.nD Cert.RefOddPostIdeal.τ).loc Cert.RefOddPostIdeal.main_arg9)
      ∧ r.2.mem ((c.tc : Thread Cert.RefOddPostIdeal.nD Cert.RefOddPostIdeal.τ).loc Cert.RefOddPostIdeal.main_arg10) = m ((c.tc : Thread Cert.RefOddPostIdeal.nD Cert.RefOddPostIdeal.τ).loc Cert.RefOddPostIdeal.main_arg10)
      ∧ r.2.mem ((c.tc : Thread Cert.RefOddPostIdeal.nD Cert.RefOddPostIdeal.τ).loc Cert.RefOddPostIdeal.main_arg11) = m ((c.tc : Thread Cert.RefOddPostIdeal.nD Cert.RefOddPostIdeal.τ).loc Cert.RefOddPostIdeal.main_arg11)
      ∧ r.2.mem ((c.tc : Thread Cert.RefOddPostIdeal.nD Cert.RefOddPostIdeal.τ).loc Cert.RefOddPostIdeal.main_arg12) = m ((c.tc : Thread Cert.RefOddPostIdeal.nD Cert.RefOddPostIdeal.τ).loc Cert.RefOddPostIdeal.main_arg12))
      ∧ r.2.sem = fun _ => 0)

def preserves_DiffOnline_DiffOnlineIdeal : Prop :=
  IdealRules.named_const.Statement Cert.DiffOnlineIdeal.κ "mask" .f32 0xF149F2CA#32 ⊥

def algebraic_DiffOnlineIdeal_RefDiffIdeal_pre_da_finite [hDiffOnlineIdeal : Cert.DiffOnlineIdeal.Facts] [hRefDiffIdeal : Cert.RefDiffIdeal.Facts] [hPre_da_finite : Cert.Pre_da_finite.Facts] : Prop :=
  ∀ (m : (ℓ : Loc Cert.DiffOnlineIdeal.nD Cert.DiffOnlineIdeal.τ Cert.DiffOnlineIdeal.sig) → Buf (Elt Ideal) ℓ) (g : Dev Cert.DiffOnlineIdeal.nD → PrngReg)
    (m' : (ℓ : Loc Cert.RefDiffIdeal.nD Cert.RefDiffIdeal.τ Cert.RefDiffIdeal.sig) → Buf (Elt Ideal) ℓ) (g' : Dev Cert.RefDiffIdeal.nD → PrngReg), Pre_DiffOnlineIdeal_da_finite m →
    (∀ c : Dev Cert.DiffOnlineIdeal.nD,
      m' ((c.tc : Thread Cert.RefDiffIdeal.nD Cert.RefDiffIdeal.τ).loc Cert.RefDiffIdeal.main_arg0) = m ((c.tc : Thread Cert.DiffOnlineIdeal.nD Cert.DiffOnlineIdeal.τ).loc Cert.DiffOnlineIdeal.main_arg0)
      ∧ m' ((c.tc : Thread Cert.RefDiffIdeal.nD Cert.RefDiffIdeal.τ).loc Cert.RefDiffIdeal.main_arg1) = m ((c.tc : Thread Cert.DiffOnlineIdeal.nD Cert.DiffOnlineIdeal.τ).loc Cert.DiffOnlineIdeal.main_arg1)
      ∧ m' ((c.tc : Thread Cert.RefDiffIdeal.nD Cert.RefDiffIdeal.τ).loc Cert.RefDiffIdeal.main_arg2) = m ((c.tc : Thread Cert.DiffOnlineIdeal.nD Cert.DiffOnlineIdeal.τ).loc Cert.DiffOnlineIdeal.main_arg2)
      ∧ m' ((c.tc : Thread Cert.RefDiffIdeal.nD Cert.RefDiffIdeal.τ).loc Cert.RefDiffIdeal.main_arg3) = m ((c.tc : Thread Cert.DiffOnlineIdeal.nD Cert.DiffOnlineIdeal.τ).loc Cert.DiffOnlineIdeal.main_arg3)
      ∧ m' ((c.tc : Thread Cert.RefDiffIdeal.nD Cert.RefDiffIdeal.τ).loc Cert.RefDiffIdeal.main_arg4) = m ((c.tc : Thread Cert.DiffOnlineIdeal.nD Cert.DiffOnlineIdeal.τ).loc Cert.DiffOnlineIdeal.main_arg4)
      ∧ m' ((c.tc : Thread Cert.RefDiffIdeal.nD Cert.RefDiffIdeal.τ).loc Cert.RefDiffIdeal.main_arg5) = m ((c.tc : Thread Cert.DiffOnlineIdeal.nD Cert.DiffOnlineIdeal.τ).loc Cert.DiffOnlineIdeal.main_arg5)
      ∧ m' ((c.tc : Thread Cert.RefDiffIdeal.nD Cert.RefDiffIdeal.τ).loc Cert.RefDiffIdeal.main_arg6) = m ((c.tc : Thread Cert.DiffOnlineIdeal.nD Cert.DiffOnlineIdeal.τ).loc Cert.DiffOnlineIdeal.main_arg6)
      ∧ m' ((c.tc : Thread Cert.RefDiffIdeal.nD Cert.RefDiffIdeal.τ).loc Cert.RefDiffIdeal.main_arg7) = m ((c.tc : Thread Cert.DiffOnlineIdeal.nD Cert.DiffOnlineIdeal.τ).loc Cert.DiffOnlineIdeal.main_arg7)
      ∧ m' ((c.tc : Thread Cert.RefDiffIdeal.nD Cert.RefDiffIdeal.τ).loc Cert.RefDiffIdeal.main_arg8) = m ((c.tc : Thread Cert.DiffOnlineIdeal.nD Cert.DiffOnlineIdeal.τ).loc Cert.DiffOnlineIdeal.main_arg8)
      ∧ m' ((c.tc : Thread Cert.RefDiffIdeal.nD Cert.RefDiffIdeal.τ).loc Cert.RefDiffIdeal.main_arg9) = m ((c.tc : Thread Cert.DiffOnlineIdeal.nD Cert.DiffOnlineIdeal.τ).loc Cert.DiffOnlineIdeal.main_arg9)) →
    ∃ (v0 : (c : Dev Cert.DiffOnlineIdeal.nD) → Buf (Elt Ideal) ((c.tc : Thread Cert.DiffOnlineIdeal.nD Cert.DiffOnlineIdeal.τ).loc Cert.DiffOnlineIdeal.main_v6)),
      θ_run (Cert.DiffOnlineIdeal.defs (F := Ideal)) (onTc (τ := Cert.DiffOnlineIdeal.τ) (Cert.DiffOnlineIdeal.main (F := Ideal))) ⟨m, fun _ => 0, g⟩ (fun r => ∀ c : Dev Cert.DiffOnlineIdeal.nD,
          r.2.mem ((c.tc : Thread Cert.DiffOnlineIdeal.nD Cert.DiffOnlineIdeal.τ).loc Cert.DiffOnlineIdeal.main_v6) = v0 c
          ∧ r.2.mem ((c.tc : Thread Cert.DiffOnlineIdeal.nD Cert.DiffOnlineIdeal.τ).loc Cert.DiffOnlineIdeal.main_arg0) = m ((c.tc : Thread Cert.DiffOnlineIdeal.nD Cert.DiffOnlineIdeal.τ).loc Cert.DiffOnlineIdeal.main_arg0)
          ∧ r.2.mem ((c.tc : Thread Cert.DiffOnlineIdeal.nD Cert.DiffOnlineIdeal.τ).loc Cert.DiffOnlineIdeal.main_arg1) = m ((c.tc : Thread Cert.DiffOnlineIdeal.nD Cert.DiffOnlineIdeal.τ).loc Cert.DiffOnlineIdeal.main_arg1)
          ∧ r.2.mem ((c.tc : Thread Cert.DiffOnlineIdeal.nD Cert.DiffOnlineIdeal.τ).loc Cert.DiffOnlineIdeal.main_arg2) = m ((c.tc : Thread Cert.DiffOnlineIdeal.nD Cert.DiffOnlineIdeal.τ).loc Cert.DiffOnlineIdeal.main_arg2)
          ∧ r.2.mem ((c.tc : Thread Cert.DiffOnlineIdeal.nD Cert.DiffOnlineIdeal.τ).loc Cert.DiffOnlineIdeal.main_arg3) = m ((c.tc : Thread Cert.DiffOnlineIdeal.nD Cert.DiffOnlineIdeal.τ).loc Cert.DiffOnlineIdeal.main_arg3)
          ∧ r.2.mem ((c.tc : Thread Cert.DiffOnlineIdeal.nD Cert.DiffOnlineIdeal.τ).loc Cert.DiffOnlineIdeal.main_arg4) = m ((c.tc : Thread Cert.DiffOnlineIdeal.nD Cert.DiffOnlineIdeal.τ).loc Cert.DiffOnlineIdeal.main_arg4)
          ∧ r.2.mem ((c.tc : Thread Cert.DiffOnlineIdeal.nD Cert.DiffOnlineIdeal.τ).loc Cert.DiffOnlineIdeal.main_arg5) = m ((c.tc : Thread Cert.DiffOnlineIdeal.nD Cert.DiffOnlineIdeal.τ).loc Cert.DiffOnlineIdeal.main_arg5)
          ∧ r.2.mem ((c.tc : Thread Cert.DiffOnlineIdeal.nD Cert.DiffOnlineIdeal.τ).loc Cert.DiffOnlineIdeal.main_arg6) = m ((c.tc : Thread Cert.DiffOnlineIdeal.nD Cert.DiffOnlineIdeal.τ).loc Cert.DiffOnlineIdeal.main_arg6)
          ∧ r.2.mem ((c.tc : Thread Cert.DiffOnlineIdeal.nD Cert.DiffOnlineIdeal.τ).loc Cert.DiffOnlineIdeal.main_arg7) = m ((c.tc : Thread Cert.DiffOnlineIdeal.nD Cert.DiffOnlineIdeal.τ).loc Cert.DiffOnlineIdeal.main_arg7)
          ∧ r.2.mem ((c.tc : Thread Cert.DiffOnlineIdeal.nD Cert.DiffOnlineIdeal.τ).loc Cert.DiffOnlineIdeal.main_arg8) = m ((c.tc : Thread Cert.DiffOnlineIdeal.nD Cert.DiffOnlineIdeal.τ).loc Cert.DiffOnlineIdeal.main_arg8)
          ∧ r.2.mem ((c.tc : Thread Cert.DiffOnlineIdeal.nD Cert.DiffOnlineIdeal.τ).loc Cert.DiffOnlineIdeal.main_arg9) = m ((c.tc : Thread Cert.DiffOnlineIdeal.nD Cert.DiffOnlineIdeal.τ).loc Cert.DiffOnlineIdeal.main_arg9))
      ∧ θ_run (Cert.RefDiffIdeal.defs (F := Ideal)) (onTc (τ := Cert.RefDiffIdeal.τ) (Cert.RefDiffIdeal.main (F := Ideal))) ⟨m', fun _ => 0, g'⟩ (fun r => ∀ c : Dev Cert.RefDiffIdeal.nD,
          r.2.mem ((c.tc : Thread Cert.RefDiffIdeal.nD Cert.RefDiffIdeal.τ).loc Cert.RefDiffIdeal.main_v74) = v0 c
          ∧ r.2.mem ((c.tc : Thread Cert.RefDiffIdeal.nD Cert.RefDiffIdeal.τ).loc Cert.RefDiffIdeal.main_arg0) = m' ((c.tc : Thread Cert.RefDiffIdeal.nD Cert.RefDiffIdeal.τ).loc Cert.RefDiffIdeal.main_arg0)
          ∧ r.2.mem ((c.tc : Thread Cert.RefDiffIdeal.nD Cert.RefDiffIdeal.τ).loc Cert.RefDiffIdeal.main_arg1) = m' ((c.tc : Thread Cert.RefDiffIdeal.nD Cert.RefDiffIdeal.τ).loc Cert.RefDiffIdeal.main_arg1)
          ∧ r.2.mem ((c.tc : Thread Cert.RefDiffIdeal.nD Cert.RefDiffIdeal.τ).loc Cert.RefDiffIdeal.main_arg2) = m' ((c.tc : Thread Cert.RefDiffIdeal.nD Cert.RefDiffIdeal.τ).loc Cert.RefDiffIdeal.main_arg2)
          ∧ r.2.mem ((c.tc : Thread Cert.RefDiffIdeal.nD Cert.RefDiffIdeal.τ).loc Cert.RefDiffIdeal.main_arg3) = m' ((c.tc : Thread Cert.RefDiffIdeal.nD Cert.RefDiffIdeal.τ).loc Cert.RefDiffIdeal.main_arg3)
          ∧ r.2.mem ((c.tc : Thread Cert.RefDiffIdeal.nD Cert.RefDiffIdeal.τ).loc Cert.RefDiffIdeal.main_arg4) = m' ((c.tc : Thread Cert.RefDiffIdeal.nD Cert.RefDiffIdeal.τ).loc Cert.RefDiffIdeal.main_arg4)
          ∧ r.2.mem ((c.tc : Thread Cert.RefDiffIdeal.nD Cert.RefDiffIdeal.τ).loc Cert.RefDiffIdeal.main_arg5) = m' ((c.tc : Thread Cert.RefDiffIdeal.nD Cert.RefDiffIdeal.τ).loc Cert.RefDiffIdeal.main_arg5)
          ∧ r.2.mem ((c.tc : Thread Cert.RefDiffIdeal.nD Cert.RefDiffIdeal.τ).loc Cert.RefDiffIdeal.main_arg6) = m' ((c.tc : Thread Cert.RefDiffIdeal.nD Cert.RefDiffIdeal.τ).loc Cert.RefDiffIdeal.main_arg6)
          ∧ r.2.mem ((c.tc : Thread Cert.RefDiffIdeal.nD Cert.RefDiffIdeal.τ).loc Cert.RefDiffIdeal.main_arg7) = m' ((c.tc : Thread Cert.RefDiffIdeal.nD Cert.RefDiffIdeal.τ).loc Cert.RefDiffIdeal.main_arg7)
          ∧ r.2.mem ((c.tc : Thread Cert.RefDiffIdeal.nD Cert.RefDiffIdeal.τ).loc Cert.RefDiffIdeal.main_arg8) = m' ((c.tc : Thread Cert.RefDiffIdeal.nD Cert.RefDiffIdeal.τ).loc Cert.RefDiffIdeal.main_arg8)
          ∧ r.2.mem ((c.tc : Thread Cert.RefDiffIdeal.nD Cert.RefDiffIdeal.τ).loc Cert.RefDiffIdeal.main_arg9) = m' ((c.tc : Thread Cert.RefDiffIdeal.nD Cert.RefDiffIdeal.τ).loc Cert.RefDiffIdeal.main_arg9))

def preserves_DiffUnshifted_DiffUnshiftedIdeal : Prop :=
  IdealRules.named_const.Statement Cert.DiffUnshiftedIdeal.κ "mask" .f32 0xF149F2CA#32 ⊥

def algebraic_DiffUnshiftedIdeal_RefDiffIdeal_pre_da_finite [hDiffUnshiftedIdeal : Cert.DiffUnshiftedIdeal.Facts] [hRefDiffIdeal : Cert.RefDiffIdeal.Facts] [hPre_da_finite : Cert.Pre_da_finite.Facts] : Prop :=
  ∀ (m : (ℓ : Loc Cert.DiffUnshiftedIdeal.nD Cert.DiffUnshiftedIdeal.τ Cert.DiffUnshiftedIdeal.sig) → Buf (Elt Ideal) ℓ) (g : Dev Cert.DiffUnshiftedIdeal.nD → PrngReg)
    (m' : (ℓ : Loc Cert.RefDiffIdeal.nD Cert.RefDiffIdeal.τ Cert.RefDiffIdeal.sig) → Buf (Elt Ideal) ℓ) (g' : Dev Cert.RefDiffIdeal.nD → PrngReg), Pre_DiffUnshiftedIdeal_da_finite m →
    (∀ c : Dev Cert.DiffUnshiftedIdeal.nD,
      m' ((c.tc : Thread Cert.RefDiffIdeal.nD Cert.RefDiffIdeal.τ).loc Cert.RefDiffIdeal.main_arg0) = m ((c.tc : Thread Cert.DiffUnshiftedIdeal.nD Cert.DiffUnshiftedIdeal.τ).loc Cert.DiffUnshiftedIdeal.main_arg0)
      ∧ m' ((c.tc : Thread Cert.RefDiffIdeal.nD Cert.RefDiffIdeal.τ).loc Cert.RefDiffIdeal.main_arg1) = m ((c.tc : Thread Cert.DiffUnshiftedIdeal.nD Cert.DiffUnshiftedIdeal.τ).loc Cert.DiffUnshiftedIdeal.main_arg1)
      ∧ m' ((c.tc : Thread Cert.RefDiffIdeal.nD Cert.RefDiffIdeal.τ).loc Cert.RefDiffIdeal.main_arg2) = m ((c.tc : Thread Cert.DiffUnshiftedIdeal.nD Cert.DiffUnshiftedIdeal.τ).loc Cert.DiffUnshiftedIdeal.main_arg2)
      ∧ m' ((c.tc : Thread Cert.RefDiffIdeal.nD Cert.RefDiffIdeal.τ).loc Cert.RefDiffIdeal.main_arg3) = m ((c.tc : Thread Cert.DiffUnshiftedIdeal.nD Cert.DiffUnshiftedIdeal.τ).loc Cert.DiffUnshiftedIdeal.main_arg3)
      ∧ m' ((c.tc : Thread Cert.RefDiffIdeal.nD Cert.RefDiffIdeal.τ).loc Cert.RefDiffIdeal.main_arg4) = m ((c.tc : Thread Cert.DiffUnshiftedIdeal.nD Cert.DiffUnshiftedIdeal.τ).loc Cert.DiffUnshiftedIdeal.main_arg4)
      ∧ m' ((c.tc : Thread Cert.RefDiffIdeal.nD Cert.RefDiffIdeal.τ).loc Cert.RefDiffIdeal.main_arg5) = m ((c.tc : Thread Cert.DiffUnshiftedIdeal.nD Cert.DiffUnshiftedIdeal.τ).loc Cert.DiffUnshiftedIdeal.main_arg5)
      ∧ m' ((c.tc : Thread Cert.RefDiffIdeal.nD Cert.RefDiffIdeal.τ).loc Cert.RefDiffIdeal.main_arg6) = m ((c.tc : Thread Cert.DiffUnshiftedIdeal.nD Cert.DiffUnshiftedIdeal.τ).loc Cert.DiffUnshiftedIdeal.main_arg6)
      ∧ m' ((c.tc : Thread Cert.RefDiffIdeal.nD Cert.RefDiffIdeal.τ).loc Cert.RefDiffIdeal.main_arg7) = m ((c.tc : Thread Cert.DiffUnshiftedIdeal.nD Cert.DiffUnshiftedIdeal.τ).loc Cert.DiffUnshiftedIdeal.main_arg7)
      ∧ m' ((c.tc : Thread Cert.RefDiffIdeal.nD Cert.RefDiffIdeal.τ).loc Cert.RefDiffIdeal.main_arg8) = m ((c.tc : Thread Cert.DiffUnshiftedIdeal.nD Cert.DiffUnshiftedIdeal.τ).loc Cert.DiffUnshiftedIdeal.main_arg8)
      ∧ m' ((c.tc : Thread Cert.RefDiffIdeal.nD Cert.RefDiffIdeal.τ).loc Cert.RefDiffIdeal.main_arg9) = m ((c.tc : Thread Cert.DiffUnshiftedIdeal.nD Cert.DiffUnshiftedIdeal.τ).loc Cert.DiffUnshiftedIdeal.main_arg9)) →
    ∃ (v0 : (c : Dev Cert.DiffUnshiftedIdeal.nD) → Buf (Elt Ideal) ((c.tc : Thread Cert.DiffUnshiftedIdeal.nD Cert.DiffUnshiftedIdeal.τ).loc Cert.DiffUnshiftedIdeal.main_v6)),
      θ_run (Cert.DiffUnshiftedIdeal.defs (F := Ideal)) (onTc (τ := Cert.DiffUnshiftedIdeal.τ) (Cert.DiffUnshiftedIdeal.main (F := Ideal))) ⟨m, fun _ => 0, g⟩ (fun r => ∀ c : Dev Cert.DiffUnshiftedIdeal.nD,
          r.2.mem ((c.tc : Thread Cert.DiffUnshiftedIdeal.nD Cert.DiffUnshiftedIdeal.τ).loc Cert.DiffUnshiftedIdeal.main_v6) = v0 c
          ∧ r.2.mem ((c.tc : Thread Cert.DiffUnshiftedIdeal.nD Cert.DiffUnshiftedIdeal.τ).loc Cert.DiffUnshiftedIdeal.main_arg0) = m ((c.tc : Thread Cert.DiffUnshiftedIdeal.nD Cert.DiffUnshiftedIdeal.τ).loc Cert.DiffUnshiftedIdeal.main_arg0)
          ∧ r.2.mem ((c.tc : Thread Cert.DiffUnshiftedIdeal.nD Cert.DiffUnshiftedIdeal.τ).loc Cert.DiffUnshiftedIdeal.main_arg1) = m ((c.tc : Thread Cert.DiffUnshiftedIdeal.nD Cert.DiffUnshiftedIdeal.τ).loc Cert.DiffUnshiftedIdeal.main_arg1)
          ∧ r.2.mem ((c.tc : Thread Cert.DiffUnshiftedIdeal.nD Cert.DiffUnshiftedIdeal.τ).loc Cert.DiffUnshiftedIdeal.main_arg2) = m ((c.tc : Thread Cert.DiffUnshiftedIdeal.nD Cert.DiffUnshiftedIdeal.τ).loc Cert.DiffUnshiftedIdeal.main_arg2)
          ∧ r.2.mem ((c.tc : Thread Cert.DiffUnshiftedIdeal.nD Cert.DiffUnshiftedIdeal.τ).loc Cert.DiffUnshiftedIdeal.main_arg3) = m ((c.tc : Thread Cert.DiffUnshiftedIdeal.nD Cert.DiffUnshiftedIdeal.τ).loc Cert.DiffUnshiftedIdeal.main_arg3)
          ∧ r.2.mem ((c.tc : Thread Cert.DiffUnshiftedIdeal.nD Cert.DiffUnshiftedIdeal.τ).loc Cert.DiffUnshiftedIdeal.main_arg4) = m ((c.tc : Thread Cert.DiffUnshiftedIdeal.nD Cert.DiffUnshiftedIdeal.τ).loc Cert.DiffUnshiftedIdeal.main_arg4)
          ∧ r.2.mem ((c.tc : Thread Cert.DiffUnshiftedIdeal.nD Cert.DiffUnshiftedIdeal.τ).loc Cert.DiffUnshiftedIdeal.main_arg5) = m ((c.tc : Thread Cert.DiffUnshiftedIdeal.nD Cert.DiffUnshiftedIdeal.τ).loc Cert.DiffUnshiftedIdeal.main_arg5)
          ∧ r.2.mem ((c.tc : Thread Cert.DiffUnshiftedIdeal.nD Cert.DiffUnshiftedIdeal.τ).loc Cert.DiffUnshiftedIdeal.main_arg6) = m ((c.tc : Thread Cert.DiffUnshiftedIdeal.nD Cert.DiffUnshiftedIdeal.τ).loc Cert.DiffUnshiftedIdeal.main_arg6)
          ∧ r.2.mem ((c.tc : Thread Cert.DiffUnshiftedIdeal.nD Cert.DiffUnshiftedIdeal.τ).loc Cert.DiffUnshiftedIdeal.main_arg7) = m ((c.tc : Thread Cert.DiffUnshiftedIdeal.nD Cert.DiffUnshiftedIdeal.τ).loc Cert.DiffUnshiftedIdeal.main_arg7)
          ∧ r.2.mem ((c.tc : Thread Cert.DiffUnshiftedIdeal.nD Cert.DiffUnshiftedIdeal.τ).loc Cert.DiffUnshiftedIdeal.main_arg8) = m ((c.tc : Thread Cert.DiffUnshiftedIdeal.nD Cert.DiffUnshiftedIdeal.τ).loc Cert.DiffUnshiftedIdeal.main_arg8)
          ∧ r.2.mem ((c.tc : Thread Cert.DiffUnshiftedIdeal.nD Cert.DiffUnshiftedIdeal.τ).loc Cert.DiffUnshiftedIdeal.main_arg9) = m ((c.tc : Thread Cert.DiffUnshiftedIdeal.nD Cert.DiffUnshiftedIdeal.τ).loc Cert.DiffUnshiftedIdeal.main_arg9))
      ∧ θ_run (Cert.RefDiffIdeal.defs (F := Ideal)) (onTc (τ := Cert.RefDiffIdeal.τ) (Cert.RefDiffIdeal.main (F := Ideal))) ⟨m', fun _ => 0, g'⟩ (fun r => ∀ c : Dev Cert.RefDiffIdeal.nD,
          r.2.mem ((c.tc : Thread Cert.RefDiffIdeal.nD Cert.RefDiffIdeal.τ).loc Cert.RefDiffIdeal.main_v74) = v0 c
          ∧ r.2.mem ((c.tc : Thread Cert.RefDiffIdeal.nD Cert.RefDiffIdeal.τ).loc Cert.RefDiffIdeal.main_arg0) = m' ((c.tc : Thread Cert.RefDiffIdeal.nD Cert.RefDiffIdeal.τ).loc Cert.RefDiffIdeal.main_arg0)
          ∧ r.2.mem ((c.tc : Thread Cert.RefDiffIdeal.nD Cert.RefDiffIdeal.τ).loc Cert.RefDiffIdeal.main_arg1) = m' ((c.tc : Thread Cert.RefDiffIdeal.nD Cert.RefDiffIdeal.τ).loc Cert.RefDiffIdeal.main_arg1)
          ∧ r.2.mem ((c.tc : Thread Cert.RefDiffIdeal.nD Cert.RefDiffIdeal.τ).loc Cert.RefDiffIdeal.main_arg2) = m' ((c.tc : Thread Cert.RefDiffIdeal.nD Cert.RefDiffIdeal.τ).loc Cert.RefDiffIdeal.main_arg2)
          ∧ r.2.mem ((c.tc : Thread Cert.RefDiffIdeal.nD Cert.RefDiffIdeal.τ).loc Cert.RefDiffIdeal.main_arg3) = m' ((c.tc : Thread Cert.RefDiffIdeal.nD Cert.RefDiffIdeal.τ).loc Cert.RefDiffIdeal.main_arg3)
          ∧ r.2.mem ((c.tc : Thread Cert.RefDiffIdeal.nD Cert.RefDiffIdeal.τ).loc Cert.RefDiffIdeal.main_arg4) = m' ((c.tc : Thread Cert.RefDiffIdeal.nD Cert.RefDiffIdeal.τ).loc Cert.RefDiffIdeal.main_arg4)
          ∧ r.2.mem ((c.tc : Thread Cert.RefDiffIdeal.nD Cert.RefDiffIdeal.τ).loc Cert.RefDiffIdeal.main_arg5) = m' ((c.tc : Thread Cert.RefDiffIdeal.nD Cert.RefDiffIdeal.τ).loc Cert.RefDiffIdeal.main_arg5)
          ∧ r.2.mem ((c.tc : Thread Cert.RefDiffIdeal.nD Cert.RefDiffIdeal.τ).loc Cert.RefDiffIdeal.main_arg6) = m' ((c.tc : Thread Cert.RefDiffIdeal.nD Cert.RefDiffIdeal.τ).loc Cert.RefDiffIdeal.main_arg6)
          ∧ r.2.mem ((c.tc : Thread Cert.RefDiffIdeal.nD Cert.RefDiffIdeal.τ).loc Cert.RefDiffIdeal.main_arg7) = m' ((c.tc : Thread Cert.RefDiffIdeal.nD Cert.RefDiffIdeal.τ).loc Cert.RefDiffIdeal.main_arg7)
          ∧ r.2.mem ((c.tc : Thread Cert.RefDiffIdeal.nD Cert.RefDiffIdeal.τ).loc Cert.RefDiffIdeal.main_arg8) = m' ((c.tc : Thread Cert.RefDiffIdeal.nD Cert.RefDiffIdeal.τ).loc Cert.RefDiffIdeal.main_arg8)
          ∧ r.2.mem ((c.tc : Thread Cert.RefDiffIdeal.nD Cert.RefDiffIdeal.τ).loc Cert.RefDiffIdeal.main_arg9) = m' ((c.tc : Thread Cert.RefDiffIdeal.nD Cert.RefDiffIdeal.τ).loc Cert.RefDiffIdeal.main_arg9))

def preserves_EvenPost_EvenPostIdeal : Prop :=
  True

def algebraic_EvenPostIdeal_RefEvenPostIdeal [hEvenPostIdeal : Cert.EvenPostIdeal.Facts] [hRefEvenPostIdeal : Cert.RefEvenPostIdeal.Facts] : Prop :=
  ∀ (m : (ℓ : Loc Cert.EvenPostIdeal.nD Cert.EvenPostIdeal.τ Cert.EvenPostIdeal.sig) → Buf (Elt Ideal) ℓ) (g : Dev Cert.EvenPostIdeal.nD → PrngReg)
    (m' : (ℓ : Loc Cert.RefEvenPostIdeal.nD Cert.RefEvenPostIdeal.τ Cert.RefEvenPostIdeal.sig) → Buf (Elt Ideal) ℓ) (g' : Dev Cert.RefEvenPostIdeal.nD → PrngReg), Pre_EvenPostIdeal m →
    (∀ c : Dev Cert.EvenPostIdeal.nD,
      m' ((c.tc : Thread Cert.RefEvenPostIdeal.nD Cert.RefEvenPostIdeal.τ).loc Cert.RefEvenPostIdeal.main_arg0) = m ((c.tc : Thread Cert.EvenPostIdeal.nD Cert.EvenPostIdeal.τ).loc Cert.EvenPostIdeal.main_arg0)
      ∧ m' ((c.tc : Thread Cert.RefEvenPostIdeal.nD Cert.RefEvenPostIdeal.τ).loc Cert.RefEvenPostIdeal.main_arg1) = m ((c.tc : Thread Cert.EvenPostIdeal.nD Cert.EvenPostIdeal.τ).loc Cert.EvenPostIdeal.main_arg1)
      ∧ m' ((c.tc : Thread Cert.RefEvenPostIdeal.nD Cert.RefEvenPostIdeal.τ).loc Cert.RefEvenPostIdeal.main_arg2) = m ((c.tc : Thread Cert.EvenPostIdeal.nD Cert.EvenPostIdeal.τ).loc Cert.EvenPostIdeal.main_arg2)
      ∧ m' ((c.tc : Thread Cert.RefEvenPostIdeal.nD Cert.RefEvenPostIdeal.τ).loc Cert.RefEvenPostIdeal.main_arg3) = m ((c.tc : Thread Cert.EvenPostIdeal.nD Cert.EvenPostIdeal.τ).loc Cert.EvenPostIdeal.main_arg3)
      ∧ m' ((c.tc : Thread Cert.RefEvenPostIdeal.nD Cert.RefEvenPostIdeal.τ).loc Cert.RefEvenPostIdeal.main_arg4) = m ((c.tc : Thread Cert.EvenPostIdeal.nD Cert.EvenPostIdeal.τ).loc Cert.EvenPostIdeal.main_arg4)
      ∧ m' ((c.tc : Thread Cert.RefEvenPostIdeal.nD Cert.RefEvenPostIdeal.τ).loc Cert.RefEvenPostIdeal.main_arg5) = m ((c.tc : Thread Cert.EvenPostIdeal.nD Cert.EvenPostIdeal.τ).loc Cert.EvenPostIdeal.main_arg5)
      ∧ m' ((c.tc : Thread Cert.RefEvenPostIdeal.nD Cert.RefEvenPostIdeal.τ).loc Cert.RefEvenPostIdeal.main_arg6) = m ((c.tc : Thread Cert.EvenPostIdeal.nD Cert.EvenPostIdeal.τ).loc Cert.EvenPostIdeal.main_arg6)
      ∧ m' ((c.tc : Thread Cert.RefEvenPostIdeal.nD Cert.RefEvenPostIdeal.τ).loc Cert.RefEvenPostIdeal.main_arg7) = m ((c.tc : Thread Cert.EvenPostIdeal.nD Cert.EvenPostIdeal.τ).loc Cert.EvenPostIdeal.main_arg7)) →
    ∃ (v0 : (c : Dev Cert.EvenPostIdeal.nD) → Buf (Elt Ideal) ((c.tc : Thread Cert.EvenPostIdeal.nD Cert.EvenPostIdeal.τ).loc Cert.EvenPostIdeal.main_v5)),
      θ_run (Cert.EvenPostIdeal.defs (F := Ideal)) (onTc (τ := Cert.EvenPostIdeal.τ) (Cert.EvenPostIdeal.main (F := Ideal))) ⟨m, fun _ => 0, g⟩ (fun r => ∀ c : Dev Cert.EvenPostIdeal.nD,
          r.2.mem ((c.tc : Thread Cert.EvenPostIdeal.nD Cert.EvenPostIdeal.τ).loc Cert.EvenPostIdeal.main_v5) = v0 c
          ∧ r.2.mem ((c.tc : Thread Cert.EvenPostIdeal.nD Cert.EvenPostIdeal.τ).loc Cert.EvenPostIdeal.main_arg0) = m ((c.tc : Thread Cert.EvenPostIdeal.nD Cert.EvenPostIdeal.τ).loc Cert.EvenPostIdeal.main_arg0)
          ∧ r.2.mem ((c.tc : Thread Cert.EvenPostIdeal.nD Cert.EvenPostIdeal.τ).loc Cert.EvenPostIdeal.main_arg1) = m ((c.tc : Thread Cert.EvenPostIdeal.nD Cert.EvenPostIdeal.τ).loc Cert.EvenPostIdeal.main_arg1)
          ∧ r.2.mem ((c.tc : Thread Cert.EvenPostIdeal.nD Cert.EvenPostIdeal.τ).loc Cert.EvenPostIdeal.main_arg2) = m ((c.tc : Thread Cert.EvenPostIdeal.nD Cert.EvenPostIdeal.τ).loc Cert.EvenPostIdeal.main_arg2)
          ∧ r.2.mem ((c.tc : Thread Cert.EvenPostIdeal.nD Cert.EvenPostIdeal.τ).loc Cert.EvenPostIdeal.main_arg3) = m ((c.tc : Thread Cert.EvenPostIdeal.nD Cert.EvenPostIdeal.τ).loc Cert.EvenPostIdeal.main_arg3)
          ∧ r.2.mem ((c.tc : Thread Cert.EvenPostIdeal.nD Cert.EvenPostIdeal.τ).loc Cert.EvenPostIdeal.main_arg4) = m ((c.tc : Thread Cert.EvenPostIdeal.nD Cert.EvenPostIdeal.τ).loc Cert.EvenPostIdeal.main_arg4)
          ∧ r.2.mem ((c.tc : Thread Cert.EvenPostIdeal.nD Cert.EvenPostIdeal.τ).loc Cert.EvenPostIdeal.main_arg5) = m ((c.tc : Thread Cert.EvenPostIdeal.nD Cert.EvenPostIdeal.τ).loc Cert.EvenPostIdeal.main_arg5)
          ∧ r.2.mem ((c.tc : Thread Cert.EvenPostIdeal.nD Cert.EvenPostIdeal.τ).loc Cert.EvenPostIdeal.main_arg6) = m ((c.tc : Thread Cert.EvenPostIdeal.nD Cert.EvenPostIdeal.τ).loc Cert.EvenPostIdeal.main_arg6)
          ∧ r.2.mem ((c.tc : Thread Cert.EvenPostIdeal.nD Cert.EvenPostIdeal.τ).loc Cert.EvenPostIdeal.main_arg7) = m ((c.tc : Thread Cert.EvenPostIdeal.nD Cert.EvenPostIdeal.τ).loc Cert.EvenPostIdeal.main_arg7))
      ∧ θ_run (Cert.RefEvenPostIdeal.defs (F := Ideal)) (onTc (τ := Cert.RefEvenPostIdeal.τ) (Cert.RefEvenPostIdeal.main (F := Ideal))) ⟨m', fun _ => 0, g'⟩ (fun r => ∀ c : Dev Cert.RefEvenPostIdeal.nD,
          r.2.mem ((c.tc : Thread Cert.RefEvenPostIdeal.nD Cert.RefEvenPostIdeal.τ).loc Cert.RefEvenPostIdeal.main_v23) = v0 c
          ∧ r.2.mem ((c.tc : Thread Cert.RefEvenPostIdeal.nD Cert.RefEvenPostIdeal.τ).loc Cert.RefEvenPostIdeal.main_arg0) = m' ((c.tc : Thread Cert.RefEvenPostIdeal.nD Cert.RefEvenPostIdeal.τ).loc Cert.RefEvenPostIdeal.main_arg0)
          ∧ r.2.mem ((c.tc : Thread Cert.RefEvenPostIdeal.nD Cert.RefEvenPostIdeal.τ).loc Cert.RefEvenPostIdeal.main_arg1) = m' ((c.tc : Thread Cert.RefEvenPostIdeal.nD Cert.RefEvenPostIdeal.τ).loc Cert.RefEvenPostIdeal.main_arg1)
          ∧ r.2.mem ((c.tc : Thread Cert.RefEvenPostIdeal.nD Cert.RefEvenPostIdeal.τ).loc Cert.RefEvenPostIdeal.main_arg2) = m' ((c.tc : Thread Cert.RefEvenPostIdeal.nD Cert.RefEvenPostIdeal.τ).loc Cert.RefEvenPostIdeal.main_arg2)
          ∧ r.2.mem ((c.tc : Thread Cert.RefEvenPostIdeal.nD Cert.RefEvenPostIdeal.τ).loc Cert.RefEvenPostIdeal.main_arg3) = m' ((c.tc : Thread Cert.RefEvenPostIdeal.nD Cert.RefEvenPostIdeal.τ).loc Cert.RefEvenPostIdeal.main_arg3)
          ∧ r.2.mem ((c.tc : Thread Cert.RefEvenPostIdeal.nD Cert.RefEvenPostIdeal.τ).loc Cert.RefEvenPostIdeal.main_arg4) = m' ((c.tc : Thread Cert.RefEvenPostIdeal.nD Cert.RefEvenPostIdeal.τ).loc Cert.RefEvenPostIdeal.main_arg4)
          ∧ r.2.mem ((c.tc : Thread Cert.RefEvenPostIdeal.nD Cert.RefEvenPostIdeal.τ).loc Cert.RefEvenPostIdeal.main_arg5) = m' ((c.tc : Thread Cert.RefEvenPostIdeal.nD Cert.RefEvenPostIdeal.τ).loc Cert.RefEvenPostIdeal.main_arg5)
          ∧ r.2.mem ((c.tc : Thread Cert.RefEvenPostIdeal.nD Cert.RefEvenPostIdeal.τ).loc Cert.RefEvenPostIdeal.main_arg6) = m' ((c.tc : Thread Cert.RefEvenPostIdeal.nD Cert.RefEvenPostIdeal.τ).loc Cert.RefEvenPostIdeal.main_arg6)
          ∧ r.2.mem ((c.tc : Thread Cert.RefEvenPostIdeal.nD Cert.RefEvenPostIdeal.τ).loc Cert.RefEvenPostIdeal.main_arg7) = m' ((c.tc : Thread Cert.RefEvenPostIdeal.nD Cert.RefEvenPostIdeal.τ).loc Cert.RefEvenPostIdeal.main_arg7))

def preserves_OddIn_OddInIdeal : Prop :=
  True

def algebraic_OddInIdeal_RefOddInIdeal [hOddInIdeal : Cert.OddInIdeal.Facts] [hRefOddInIdeal : Cert.RefOddInIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.RefOddInIdeal.nD Cert.RefOddInIdeal.τ Cert.RefOddInIdeal.sig) → Buf (Elt Ideal) ℓ) (g' : Dev Cert.RefOddInIdeal.nD → PrngReg), Pre_OddInIdeal m →
    (∀ c : Dev Cert.OddInIdeal.nD,
      m' ((c.tc : Thread Cert.RefOddInIdeal.nD Cert.RefOddInIdeal.τ).loc Cert.RefOddInIdeal.main_arg0) = m ((c.tc : Thread Cert.OddInIdeal.nD Cert.OddInIdeal.τ).loc Cert.OddInIdeal.main_arg0)
      ∧ m' ((c.tc : Thread Cert.RefOddInIdeal.nD Cert.RefOddInIdeal.τ).loc Cert.RefOddInIdeal.main_arg1) = m ((c.tc : Thread Cert.OddInIdeal.nD Cert.OddInIdeal.τ).loc Cert.OddInIdeal.main_arg1)
      ∧ m' ((c.tc : Thread Cert.RefOddInIdeal.nD Cert.RefOddInIdeal.τ).loc Cert.RefOddInIdeal.main_arg2) = m ((c.tc : Thread Cert.OddInIdeal.nD Cert.OddInIdeal.τ).loc Cert.OddInIdeal.main_arg2)
      ∧ m' ((c.tc : Thread Cert.RefOddInIdeal.nD Cert.RefOddInIdeal.τ).loc Cert.RefOddInIdeal.main_arg3) = m ((c.tc : Thread Cert.OddInIdeal.nD Cert.OddInIdeal.τ).loc Cert.OddInIdeal.main_arg3)
      ∧ m' ((c.tc : Thread Cert.RefOddInIdeal.nD Cert.RefOddInIdeal.τ).loc Cert.RefOddInIdeal.main_arg4) = m ((c.tc : Thread Cert.OddInIdeal.nD Cert.OddInIdeal.τ).loc Cert.OddInIdeal.main_arg4)
      ∧ m' ((c.tc : Thread Cert.RefOddInIdeal.nD Cert.RefOddInIdeal.τ).loc Cert.RefOddInIdeal.main_arg5) = m ((c.tc : Thread Cert.OddInIdeal.nD Cert.OddInIdeal.τ).loc Cert.OddInIdeal.main_arg5)) →
    ∃ (v0 : (c : Dev Cert.OddInIdeal.nD) → Buf (Elt Ideal) ((c.tc : Thread Cert.OddInIdeal.nD Cert.OddInIdeal.τ).loc Cert.OddInIdeal.main_v19_0)) (v1 : (c : Dev Cert.OddInIdeal.nD) → Buf (Elt Ideal) ((c.tc : Thread Cert.OddInIdeal.nD Cert.OddInIdeal.τ).loc Cert.OddInIdeal.main_v19_1)) (v2 : (c : Dev Cert.OddInIdeal.nD) → Buf (Elt Ideal) ((c.tc : Thread Cert.OddInIdeal.nD Cert.OddInIdeal.τ).loc Cert.OddInIdeal.main_v19_2)) (v3 : (c : Dev Cert.OddInIdeal.nD) → Buf (Elt Ideal) ((c.tc : Thread Cert.OddInIdeal.nD Cert.OddInIdeal.τ).loc Cert.OddInIdeal.main_v19_3)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v19_0) = v0 c
          ∧ r.2.mem ((c.tc : Thread Cert.OddInIdeal.nD Cert.OddInIdeal.τ).loc Cert.OddInIdeal.main_v19_1) = v1 c
          ∧ r.2.mem ((c.tc : Thread Cert.OddInIdeal.nD Cert.OddInIdeal.τ).loc Cert.OddInIdeal.main_v19_2) = v2 c
          ∧ r.2.mem ((c.tc : Thread Cert.OddInIdeal.nD Cert.OddInIdeal.τ).loc Cert.OddInIdeal.main_v19_3) = v3 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
          ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
          ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3)
          ∧ r.2.mem ((c.tc : Thread Cert.OddInIdeal.nD Cert.OddInIdeal.τ).loc Cert.OddInIdeal.main_arg4) = m ((c.tc : Thread Cert.OddInIdeal.nD Cert.OddInIdeal.τ).loc Cert.OddInIdeal.main_arg4)
          ∧ r.2.mem ((c.tc : Thread Cert.OddInIdeal.nD Cert.OddInIdeal.τ).loc Cert.OddInIdeal.main_arg5) = m ((c.tc : Thread Cert.OddInIdeal.nD Cert.OddInIdeal.τ).loc Cert.OddInIdeal.main_arg5))
      ∧ θ_run (Cert.RefOddInIdeal.defs (F := Ideal)) (onTc (τ := Cert.RefOddInIdeal.τ) (Cert.RefOddInIdeal.main (F := Ideal))) ⟨m', fun _ => 0, g'⟩ (fun r => ∀ c : Dev Cert.RefOddInIdeal.nD,
          r.2.mem ((c.tc : Thread Cert.RefOddInIdeal.nD Cert.RefOddInIdeal.τ).loc Cert.RefOddInIdeal.main_v79) = v0 c
          ∧ r.2.mem ((c.tc : Thread Cert.RefOddInIdeal.nD Cert.RefOddInIdeal.τ).loc Cert.RefOddInIdeal.main_v81) = v1 c
          ∧ r.2.mem ((c.tc : Thread Cert.RefOddInIdeal.nD Cert.RefOddInIdeal.τ).loc Cert.RefOddInIdeal.main_v83) = v2 c
          ∧ r.2.mem ((c.tc : Thread Cert.RefOddInIdeal.nD Cert.RefOddInIdeal.τ).loc Cert.RefOddInIdeal.main_v84) = v3 c
          ∧ r.2.mem ((c.tc : Thread Cert.RefOddInIdeal.nD Cert.RefOddInIdeal.τ).loc Cert.RefOddInIdeal.main_arg0) = m' ((c.tc : Thread Cert.RefOddInIdeal.nD Cert.RefOddInIdeal.τ).loc Cert.RefOddInIdeal.main_arg0)
          ∧ r.2.mem ((c.tc : Thread Cert.RefOddInIdeal.nD Cert.RefOddInIdeal.τ).loc Cert.RefOddInIdeal.main_arg1) = m' ((c.tc : Thread Cert.RefOddInIdeal.nD Cert.RefOddInIdeal.τ).loc Cert.RefOddInIdeal.main_arg1)
          ∧ r.2.mem ((c.tc : Thread Cert.RefOddInIdeal.nD Cert.RefOddInIdeal.τ).loc Cert.RefOddInIdeal.main_arg2) = m' ((c.tc : Thread Cert.RefOddInIdeal.nD Cert.RefOddInIdeal.τ).loc Cert.RefOddInIdeal.main_arg2)
          ∧ r.2.mem ((c.tc : Thread Cert.RefOddInIdeal.nD Cert.RefOddInIdeal.τ).loc Cert.RefOddInIdeal.main_arg3) = m' ((c.tc : Thread Cert.RefOddInIdeal.nD Cert.RefOddInIdeal.τ).loc Cert.RefOddInIdeal.main_arg3)
          ∧ r.2.mem ((c.tc : Thread Cert.RefOddInIdeal.nD Cert.RefOddInIdeal.τ).loc Cert.RefOddInIdeal.main_arg4) = m' ((c.tc : Thread Cert.RefOddInIdeal.nD Cert.RefOddInIdeal.τ).loc Cert.RefOddInIdeal.main_arg4)
          ∧ r.2.mem ((c.tc : Thread Cert.RefOddInIdeal.nD Cert.RefOddInIdeal.τ).loc Cert.RefOddInIdeal.main_arg5) = m' ((c.tc : Thread Cert.RefOddInIdeal.nD Cert.RefOddInIdeal.τ).loc Cert.RefOddInIdeal.main_arg5))

def preserves_OddPost_OddPostIdeal : Prop :=
  True

def algebraic_OddPostIdeal_RefOddPostIdeal_pre_op_finite [hOddPostIdeal : Cert.OddPostIdeal.Facts] [hRefOddPostIdeal : Cert.RefOddPostIdeal.Facts] [hPre_op_finite : Cert.Pre_op_finite.Facts] : Prop :=
  ∀ (m : (ℓ : Loc Cert.OddPostIdeal.nD Cert.OddPostIdeal.τ Cert.OddPostIdeal.sig) → Buf (Elt Ideal) ℓ) (g : Dev Cert.OddPostIdeal.nD → PrngReg)
    (m' : (ℓ : Loc Cert.RefOddPostIdeal.nD Cert.RefOddPostIdeal.τ Cert.RefOddPostIdeal.sig) → Buf (Elt Ideal) ℓ) (g' : Dev Cert.RefOddPostIdeal.nD → PrngReg), Pre_OddPostIdeal_op_finite m →
    (∀ c : Dev Cert.OddPostIdeal.nD,
      m' ((c.tc : Thread Cert.RefOddPostIdeal.nD Cert.RefOddPostIdeal.τ).loc Cert.RefOddPostIdeal.main_arg0) = m ((c.tc : Thread Cert.OddPostIdeal.nD Cert.OddPostIdeal.τ).loc Cert.OddPostIdeal.main_arg0)
      ∧ m' ((c.tc : Thread Cert.RefOddPostIdeal.nD Cert.RefOddPostIdeal.τ).loc Cert.RefOddPostIdeal.main_arg1) = m ((c.tc : Thread Cert.OddPostIdeal.nD Cert.OddPostIdeal.τ).loc Cert.OddPostIdeal.main_arg1)
      ∧ m' ((c.tc : Thread Cert.RefOddPostIdeal.nD Cert.RefOddPostIdeal.τ).loc Cert.RefOddPostIdeal.main_arg2) = m ((c.tc : Thread Cert.OddPostIdeal.nD Cert.OddPostIdeal.τ).loc Cert.OddPostIdeal.main_arg2)
      ∧ m' ((c.tc : Thread Cert.RefOddPostIdeal.nD Cert.RefOddPostIdeal.τ).loc Cert.RefOddPostIdeal.main_arg3) = m ((c.tc : Thread Cert.OddPostIdeal.nD Cert.OddPostIdeal.τ).loc Cert.OddPostIdeal.main_arg3)
      ∧ m' ((c.tc : Thread Cert.RefOddPostIdeal.nD Cert.RefOddPostIdeal.τ).loc Cert.RefOddPostIdeal.main_arg4) = m ((c.tc : Thread Cert.OddPostIdeal.nD Cert.OddPostIdeal.τ).loc Cert.OddPostIdeal.main_arg4)
      ∧ m' ((c.tc : Thread Cert.RefOddPostIdeal.nD Cert.RefOddPostIdeal.τ).loc Cert.RefOddPostIdeal.main_arg5) = m ((c.tc : Thread Cert.OddPostIdeal.nD Cert.OddPostIdeal.τ).loc Cert.OddPostIdeal.main_arg5)
      ∧ m' ((c.tc : Thread Cert.RefOddPostIdeal.nD Cert.RefOddPostIdeal.τ).loc Cert.RefOddPostIdeal.main_arg6) = m ((c.tc : Thread Cert.OddPostIdeal.nD Cert.OddPostIdeal.τ).loc Cert.OddPostIdeal.main_arg6)
      ∧ m' ((c.tc : Thread Cert.RefOddPostIdeal.nD Cert.RefOddPostIdeal.τ).loc Cert.RefOddPostIdeal.main_arg7) = m ((c.tc : Thread Cert.OddPostIdeal.nD Cert.OddPostIdeal.τ).loc Cert.OddPostIdeal.main_arg7)
      ∧ m' ((c.tc : Thread Cert.RefOddPostIdeal.nD Cert.RefOddPostIdeal.τ).loc Cert.RefOddPostIdeal.main_arg8) = m ((c.tc : Thread Cert.OddPostIdeal.nD Cert.OddPostIdeal.τ).loc Cert.OddPostIdeal.main_arg8)
      ∧ m' ((c.tc : Thread Cert.RefOddPostIdeal.nD Cert.RefOddPostIdeal.τ).loc Cert.RefOddPostIdeal.main_arg9) = m ((c.tc : Thread Cert.OddPostIdeal.nD Cert.OddPostIdeal.τ).loc Cert.OddPostIdeal.main_arg9)
      ∧ m' ((c.tc : Thread Cert.RefOddPostIdeal.nD Cert.RefOddPostIdeal.τ).loc Cert.RefOddPostIdeal.main_arg10) = m ((c.tc : Thread Cert.OddPostIdeal.nD Cert.OddPostIdeal.τ).loc Cert.OddPostIdeal.main_arg10)
      ∧ m' ((c.tc : Thread Cert.RefOddPostIdeal.nD Cert.RefOddPostIdeal.τ).loc Cert.RefOddPostIdeal.main_arg11) = m ((c.tc : Thread Cert.OddPostIdeal.nD Cert.OddPostIdeal.τ).loc Cert.OddPostIdeal.main_arg11)
      ∧ m' ((c.tc : Thread Cert.RefOddPostIdeal.nD Cert.RefOddPostIdeal.τ).loc Cert.RefOddPostIdeal.main_arg12) = m ((c.tc : Thread Cert.OddPostIdeal.nD Cert.OddPostIdeal.τ).loc Cert.OddPostIdeal.main_arg12)) →
    ∃ (v0 : (c : Dev Cert.OddPostIdeal.nD) → Buf (Elt Ideal) ((c.tc : Thread Cert.OddPostIdeal.nD Cert.OddPostIdeal.τ).loc Cert.OddPostIdeal.main_v5)),
      θ_run (Cert.OddPostIdeal.defs (F := Ideal)) (onTc (τ := Cert.OddPostIdeal.τ) (Cert.OddPostIdeal.main (F := Ideal))) ⟨m, fun _ => 0, g⟩ (fun r => ∀ c : Dev Cert.OddPostIdeal.nD,
          r.2.mem ((c.tc : Thread Cert.OddPostIdeal.nD Cert.OddPostIdeal.τ).loc Cert.OddPostIdeal.main_v5) = v0 c
          ∧ r.2.mem ((c.tc : Thread Cert.OddPostIdeal.nD Cert.OddPostIdeal.τ).loc Cert.OddPostIdeal.main_arg0) = m ((c.tc : Thread Cert.OddPostIdeal.nD Cert.OddPostIdeal.τ).loc Cert.OddPostIdeal.main_arg0)
          ∧ r.2.mem ((c.tc : Thread Cert.OddPostIdeal.nD Cert.OddPostIdeal.τ).loc Cert.OddPostIdeal.main_arg1) = m ((c.tc : Thread Cert.OddPostIdeal.nD Cert.OddPostIdeal.τ).loc Cert.OddPostIdeal.main_arg1)
          ∧ r.2.mem ((c.tc : Thread Cert.OddPostIdeal.nD Cert.OddPostIdeal.τ).loc Cert.OddPostIdeal.main_arg2) = m ((c.tc : Thread Cert.OddPostIdeal.nD Cert.OddPostIdeal.τ).loc Cert.OddPostIdeal.main_arg2)
          ∧ r.2.mem ((c.tc : Thread Cert.OddPostIdeal.nD Cert.OddPostIdeal.τ).loc Cert.OddPostIdeal.main_arg3) = m ((c.tc : Thread Cert.OddPostIdeal.nD Cert.OddPostIdeal.τ).loc Cert.OddPostIdeal.main_arg3)
          ∧ r.2.mem ((c.tc : Thread Cert.OddPostIdeal.nD Cert.OddPostIdeal.τ).loc Cert.OddPostIdeal.main_arg4) = m ((c.tc : Thread Cert.OddPostIdeal.nD Cert.OddPostIdeal.τ).loc Cert.OddPostIdeal.main_arg4)
          ∧ r.2.mem ((c.tc : Thread Cert.OddPostIdeal.nD Cert.OddPostIdeal.τ).loc Cert.OddPostIdeal.main_arg5) = m ((c.tc : Thread Cert.OddPostIdeal.nD Cert.OddPostIdeal.τ).loc Cert.OddPostIdeal.main_arg5)
          ∧ r.2.mem ((c.tc : Thread Cert.OddPostIdeal.nD Cert.OddPostIdeal.τ).loc Cert.OddPostIdeal.main_arg6) = m ((c.tc : Thread Cert.OddPostIdeal.nD Cert.OddPostIdeal.τ).loc Cert.OddPostIdeal.main_arg6)
          ∧ r.2.mem ((c.tc : Thread Cert.OddPostIdeal.nD Cert.OddPostIdeal.τ).loc Cert.OddPostIdeal.main_arg7) = m ((c.tc : Thread Cert.OddPostIdeal.nD Cert.OddPostIdeal.τ).loc Cert.OddPostIdeal.main_arg7)
          ∧ r.2.mem ((c.tc : Thread Cert.OddPostIdeal.nD Cert.OddPostIdeal.τ).loc Cert.OddPostIdeal.main_arg8) = m ((c.tc : Thread Cert.OddPostIdeal.nD Cert.OddPostIdeal.τ).loc Cert.OddPostIdeal.main_arg8)
          ∧ r.2.mem ((c.tc : Thread Cert.OddPostIdeal.nD Cert.OddPostIdeal.τ).loc Cert.OddPostIdeal.main_arg9) = m ((c.tc : Thread Cert.OddPostIdeal.nD Cert.OddPostIdeal.τ).loc Cert.OddPostIdeal.main_arg9)
          ∧ r.2.mem ((c.tc : Thread Cert.OddPostIdeal.nD Cert.OddPostIdeal.τ).loc Cert.OddPostIdeal.main_arg10) = m ((c.tc : Thread Cert.OddPostIdeal.nD Cert.OddPostIdeal.τ).loc Cert.OddPostIdeal.main_arg10)
          ∧ r.2.mem ((c.tc : Thread Cert.OddPostIdeal.nD Cert.OddPostIdeal.τ).loc Cert.OddPostIdeal.main_arg11) = m ((c.tc : Thread Cert.OddPostIdeal.nD Cert.OddPostIdeal.τ).loc Cert.OddPostIdeal.main_arg11)
          ∧ r.2.mem ((c.tc : Thread Cert.OddPostIdeal.nD Cert.OddPostIdeal.τ).loc Cert.OddPostIdeal.main_arg12) = m ((c.tc : Thread Cert.OddPostIdeal.nD Cert.OddPostIdeal.τ).loc Cert.OddPostIdeal.main_arg12))
      ∧ θ_run (Cert.RefOddPostIdeal.defs (F := Ideal)) (onTc (τ := Cert.RefOddPostIdeal.τ) (Cert.RefOddPostIdeal.main (F := Ideal))) ⟨m', fun _ => 0, g'⟩ (fun r => ∀ c : Dev Cert.RefOddPostIdeal.nD,
          r.2.mem ((c.tc : Thread Cert.RefOddPostIdeal.nD Cert.RefOddPostIdeal.τ).loc Cert.RefOddPostIdeal.main_v55) = v0 c
          ∧ r.2.mem ((c.tc : Thread Cert.RefOddPostIdeal.nD Cert.RefOddPostIdeal.τ).loc Cert.RefOddPostIdeal.main_arg0) = m' ((c.tc : Thread Cert.RefOddPostIdeal.nD Cert.RefOddPostIdeal.τ).loc Cert.RefOddPostIdeal.main_arg0)
          ∧ r.2.mem ((c.tc : Thread Cert.RefOddPostIdeal.nD Cert.RefOddPostIdeal.τ).loc Cert.RefOddPostIdeal.main_arg1) = m' ((c.tc : Thread Cert.RefOddPostIdeal.nD Cert.RefOddPostIdeal.τ).loc Cert.RefOddPostIdeal.main_arg1)
          ∧ r.2.mem ((c.tc : Thread Cert.RefOddPostIdeal.nD Cert.RefOddPostIdeal.τ).loc Cert.RefOddPostIdeal.main_arg2) = m' ((c.tc : Thread Cert.RefOddPostIdeal.nD Cert.RefOddPostIdeal.τ).loc Cert.RefOddPostIdeal.main_arg2)
          ∧ r.2.mem ((c.tc : Thread Cert.RefOddPostIdeal.nD Cert.RefOddPostIdeal.τ).loc Cert.RefOddPostIdeal.main_arg3) = m' ((c.tc : Thread Cert.RefOddPostIdeal.nD Cert.RefOddPostIdeal.τ).loc Cert.RefOddPostIdeal.main_arg3)
          ∧ r.2.mem ((c.tc : Thread Cert.RefOddPostIdeal.nD Cert.RefOddPostIdeal.τ).loc Cert.RefOddPostIdeal.main_arg4) = m' ((c.tc : Thread Cert.RefOddPostIdeal.nD Cert.RefOddPostIdeal.τ).loc Cert.RefOddPostIdeal.main_arg4)
          ∧ r.2.mem ((c.tc : Thread Cert.RefOddPostIdeal.nD Cert.RefOddPostIdeal.τ).loc Cert.RefOddPostIdeal.main_arg5) = m' ((c.tc : Thread Cert.RefOddPostIdeal.nD Cert.RefOddPostIdeal.τ).loc Cert.RefOddPostIdeal.main_arg5)
          ∧ r.2.mem ((c.tc : Thread Cert.RefOddPostIdeal.nD Cert.RefOddPostIdeal.τ).loc Cert.RefOddPostIdeal.main_arg6) = m' ((c.tc : Thread Cert.RefOddPostIdeal.nD Cert.RefOddPostIdeal.τ).loc Cert.RefOddPostIdeal.main_arg6)
          ∧ r.2.mem ((c.tc : Thread Cert.RefOddPostIdeal.nD Cert.RefOddPostIdeal.τ).loc Cert.RefOddPostIdeal.main_arg7) = m' ((c.tc : Thread Cert.RefOddPostIdeal.nD Cert.RefOddPostIdeal.τ).loc Cert.RefOddPostIdeal.main_arg7)
          ∧ r.2.mem ((c.tc : Thread Cert.RefOddPostIdeal.nD Cert.RefOddPostIdeal.τ).loc Cert.RefOddPostIdeal.main_arg8) = m' ((c.tc : Thread Cert.RefOddPostIdeal.nD Cert.RefOddPostIdeal.τ).loc Cert.RefOddPostIdeal.main_arg8)
          ∧ r.2.mem ((c.tc : Thread Cert.RefOddPostIdeal.nD Cert.RefOddPostIdeal.τ).loc Cert.RefOddPostIdeal.main_arg9) = m' ((c.tc : Thread Cert.RefOddPostIdeal.nD Cert.RefOddPostIdeal.τ).loc Cert.RefOddPostIdeal.main_arg9)
          ∧ r.2.mem ((c.tc : Thread Cert.RefOddPostIdeal.nD Cert.RefOddPostIdeal.τ).loc Cert.RefOddPostIdeal.main_arg10) = m' ((c.tc : Thread Cert.RefOddPostIdeal.nD Cert.RefOddPostIdeal.τ).loc Cert.RefOddPostIdeal.main_arg10)
          ∧ r.2.mem ((c.tc : Thread Cert.RefOddPostIdeal.nD Cert.RefOddPostIdeal.τ).loc Cert.RefOddPostIdeal.main_arg11) = m' ((c.tc : Thread Cert.RefOddPostIdeal.nD Cert.RefOddPostIdeal.τ).loc Cert.RefOddPostIdeal.main_arg11)
          ∧ r.2.mem ((c.tc : Thread Cert.RefOddPostIdeal.nD Cert.RefOddPostIdeal.τ).loc Cert.RefOddPostIdeal.main_arg12) = m' ((c.tc : Thread Cert.RefOddPostIdeal.nD Cert.RefOddPostIdeal.τ).loc Cert.RefOddPostIdeal.main_arg12))

def Claim : Prop :=
  ∃ (hDiffOnline : Cert.DiffOnline.Facts) (hDiffOnlineIdeal : Cert.DiffOnlineIdeal.Facts) (hRefDiffIdeal : Cert.RefDiffIdeal.Facts) (hDiffUnshifted : Cert.DiffUnshifted.Facts) (hDiffUnshiftedIdeal : Cert.DiffUnshiftedIdeal.Facts) (hEvenPost : Cert.EvenPost.Facts) (hEvenPostIdeal : Cert.EvenPostIdeal.Facts) (hRefEvenPostIdeal : Cert.RefEvenPostIdeal.Facts) (hOddIn : Cert.OddIn.Facts) (hOddInIdeal : Cert.OddInIdeal.Facts) (hRefOddInIdeal : Cert.RefOddInIdeal.Facts) (hOddPost : Cert.OddPost.Facts) (hOddPostIdeal : Cert.OddPostIdeal.Facts) (hRefOddPostIdeal : Cert.RefOddPostIdeal.Facts) (hPre_da_finite : Cert.Pre_da_finite.Facts) (hPre_op_finite : Cert.Pre_op_finite.Facts),
    quiescent_DiffOnline (hDiffOnline := hDiffOnline)
    ∧ quiescent_DiffOnlineIdeal (hDiffOnlineIdeal := hDiffOnlineIdeal)
    ∧ quiescent_DiffOnlineIdeal_pre_da_finite (hDiffOnlineIdeal := hDiffOnlineIdeal) (hPre_da_finite := hPre_da_finite)
    ∧ quiescent_RefDiffIdeal (hRefDiffIdeal := hRefDiffIdeal)
    ∧ quiescent_RefDiffIdeal_pre_da_finite (hRefDiffIdeal := hRefDiffIdeal) (hPre_da_finite := hPre_da_finite)
    ∧ quiescent_DiffUnshifted (hDiffUnshifted := hDiffUnshifted)
    ∧ quiescent_DiffUnshiftedIdeal (hDiffUnshiftedIdeal := hDiffUnshiftedIdeal)
    ∧ quiescent_DiffUnshiftedIdeal_pre_da_finite (hDiffUnshiftedIdeal := hDiffUnshiftedIdeal) (hPre_da_finite := hPre_da_finite)
    ∧ quiescent_EvenPost (hEvenPost := hEvenPost)
    ∧ quiescent_EvenPostIdeal (hEvenPostIdeal := hEvenPostIdeal)
    ∧ quiescent_RefEvenPostIdeal (hRefEvenPostIdeal := hRefEvenPostIdeal)
    ∧ quiescent_OddIn (hOddIn := hOddIn)
    ∧ quiescent_OddInIdeal (hOddInIdeal := hOddInIdeal)
    ∧ quiescent_RefOddInIdeal (hRefOddInIdeal := hRefOddInIdeal)
    ∧ quiescent_OddPost (hOddPost := hOddPost)
    ∧ quiescent_OddPostIdeal (hOddPostIdeal := hOddPostIdeal)
    ∧ quiescent_OddPostIdeal_pre_op_finite (hOddPostIdeal := hOddPostIdeal) (hPre_op_finite := hPre_op_finite)
    ∧ quiescent_RefOddPostIdeal (hRefOddPostIdeal := hRefOddPostIdeal)
    ∧ quiescent_RefOddPostIdeal_pre_op_finite (hRefOddPostIdeal := hRefOddPostIdeal) (hPre_op_finite := hPre_op_finite)
    ∧ preserves_DiffOnline_DiffOnlineIdeal
    ∧ algebraic_DiffOnlineIdeal_RefDiffIdeal_pre_da_finite (hDiffOnlineIdeal := hDiffOnlineIdeal) (hRefDiffIdeal := hRefDiffIdeal) (hPre_da_finite := hPre_da_finite)
    ∧ preserves_DiffUnshifted_DiffUnshiftedIdeal
    ∧ algebraic_DiffUnshiftedIdeal_RefDiffIdeal_pre_da_finite (hDiffUnshiftedIdeal := hDiffUnshiftedIdeal) (hRefDiffIdeal := hRefDiffIdeal) (hPre_da_finite := hPre_da_finite)
    ∧ preserves_EvenPost_EvenPostIdeal
    ∧ algebraic_EvenPostIdeal_RefEvenPostIdeal (hEvenPostIdeal := hEvenPostIdeal) (hRefEvenPostIdeal := hRefEvenPostIdeal)
    ∧ preserves_OddIn_OddInIdeal
    ∧ algebraic_OddInIdeal_RefOddInIdeal (hOddInIdeal := hOddInIdeal) (hRefOddInIdeal := hRefOddInIdeal)
    ∧ preserves_OddPost_OddPostIdeal
    ∧ algebraic_OddPostIdeal_RefOddPostIdeal_pre_op_finite (hOddPostIdeal := hOddPostIdeal) (hRefOddPostIdeal := hRefOddPostIdeal) (hPre_op_finite := hPre_op_finite)
-- ==== Pre_da_finite.lean ====
abbrev S32768x512 : Shape := ⟨2, ![32768, 512]⟩
abbrev S64 : Shape := ⟨1, ![64]⟩
abbrev S128 : Shape := ⟨1, ![128]⟩
abbrev S_ : Shape := ⟨0, ![]⟩

class Facts : Prop where
  bitsLt_bf16_f32 : FTy.bits .bf16 < FTy.bits .f32
  bcast_S_S32768x512 : S_.BroadcastsInDim S32768x512 (![] : Fin 0 → Fin S32768x512.rank)
  reducesTo_S32768x512_S_d0_1 : S32768x512.ReducesTo [0, 1] S_
  h_S_ : 0 < S_.numel
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_arg8 : FVec F S64 .f32) (main_v33 : IVec S_ 1) (main_v34 : FVec F S64 .f32) (main_cst_10 : FVec F S_ .f32) : IVec S_ 1 :=
  let main_v35 : FVec F S64 .f32 := broadcastInDim S64 ![] bcast_S_S64 main_cst_10
  let main_v36 : IVec S64 1 := cmpf .olt main_v34 main_v35
  let main_c_11 : IVec S_ 1 := constantI S_ 1 1#1
  let main_v37 : IVec S_ 1 := (fun x v => Host.reduce IntOp.andi x v reducesTo_S64_S_d0 h_S_) main_v36 main_c_11
  let main_v38 : IVec S_ 1 := andi main_v33 main_v37
  let main_v39 : FVec F S64 .f32 := Host.absf main_arg7
  let main_cst_12 : FVec F S_ .f32 := constant S_ .f32 0x7F800000#32
  let main_v40 : FVec F S64 .f32 := broadcastInDim S64 ![] bcast_S_S64 main_cst_12
  let main_v41 : IVec S64 1 := cmpf .olt main_v39 main_v40
  let main_c_13 : IVec S_ 1 := constantI S_ 1 1#1
  let main_v42 : IVec S_ 1 := (fun x v => Host.reduce IntOp.andi x v reducesTo_S64_S_d0 h_S_) main_v41 main_c_13
  let main_v43 : IVec S_ 1 := andi main_v38 main_v42
  let main_v44 : FVec F S64 .f32 := Host.absf main_arg8
  let main_cst_14 : FVec F S_ .f32 := constant S_ .f32 0x7F800000#32
  let main_v45 : FVec F S64 .f32 := broadcastInDim S64 ![] bcast_S_S64 main_cst_14
  let main_v46 : IVec S64 1 := cmpf .olt main_v44 main_v45
  let main_c_15 : IVec S_ 1 := constantI S_ 1 1#1
  let main_v47 : IVec S_ 1 := (fun x v => Host.reduce IntOp.andi x v reducesTo_S64_S_d0 h_S_) main_v46 main_c_15
  let main_v48 : IVec S_ 1 := andi main_v43 main_v47
  main_v48

def fn_part1 {F : FTy → Type} [FloatOps F] (main_arg4 : FVec F S32768x512 .bf16) (main_arg5 : FVec F S64 .f32) (main_arg6 : FVec F S64 .f32) (main_arg7 : FVec F S64 .f32) (main_arg8 : FVec F S64 .f32) (main_v16 : IVec S_ 1) (main_v17 : FVec F S32768x512 .f32) : IVec S_ 1 :=
  let main_v18 : FVec F S32768x512 .f32 := Host.absf main_v17
  let main_cst_4 : FVec F S_ .f32 := constant S_ .f32 0x7F800000#32
  let main_v19 : FVec F S32768x512 .f32 := broadcastInDim S32768x512 ![] bcast_S_S32768x512 main_cst_4
  let main_v20 : IVec S32768x512 1 := cmpf .olt main_v18 main_v19
  let main_c_5 : IVec S_ 1 := constantI S_ 1 1#1
  let main_v21 : IVec S_ 1 := (fun x v => Host.reduce IntOp.andi x v reducesTo_S32768x512_S_d0_1 h_S_) main_v20 main_c_5
  let main_v22 : IVec S_ 1 := andi main_v16 main_v21
  let main_v23 : FVec F S32768x512 .f32 := (extf .f32 · bitsLt_bf16_f32) main_arg4
  let main_v24 : FVec F S32768x512 .f32 := Host.absf main_v23
  let main_cst_6 : FVec F S_ .f32 := constant S_ .f32 0x7F800000#32
  let main_v25 : FVec F S32768x512 .f32 := broadcastInDim S32768x512 ![] bcast_S_S32768x512 main_cst_6
  let main_v26 : IVec S32768x512 1 := cmpf .olt main_v24 main_v25
  let main_c_7 : IVec S_ 1 := constantI S_ 1 1#1
  let main_v27 : IVec S_ 1 := (fun x v => Host.reduce IntOp.andi x v reducesTo_S32768x512_S_d0_1 h_S_) main_v26 main_c_7
  let main_v28 : IVec S_ 1 := andi main_v22 main_v27
  let main_v29 : FVec F S64 .f32 := Host.absf main_arg5
  let main_cst_8 : FVec F S_ .f32 := constant S_ .f32 0x7F800000#32
  let main_v30 : FVec F S64 .f32 := broadcastInDim S64 ![] bcast_S_S64 main_cst_8
  let main_v31 : IVec S64 1 := cmpf .olt main_v29 main_v30
  let main_c_9 : IVec S_ 1 := constantI S_ 1 1#1
  let main_v32 : IVec S_ 1 := (fun x v => Host.reduce IntOp.andi x v reducesTo_S64_S_d0 h_S_) main_v31 main_c_9
  let main_v33 : IVec S_ 1 := andi main_v28 main_v32
  let main_v34 : FVec F S64 .f32 := Host.absf main_arg6
  let main_cst_10 : FVec F S_ .f32 := constant S_ .f32 0x7F800000#32
  fn_part2 (F := F) main_arg7 main_arg8 main_v33 main_v34 main_cst_10

def fn {F : FTy → Type} [FloatOps F] (main_arg0 : FVec F S32768x512 .bf16) (main_arg1 : FVec F S32768x512 .bf16) (main_arg2 : FVec F S32768x512 .bf16) (main_arg3 : FVec F S32768x512 .bf16) (main_arg4 : FVec F S32768x512 .bf16) (main_arg5 : FVec F S64 .f32) (main_arg6 : FVec F S64 .f32) (main_arg7 : FVec F S64 .f32) (main_arg8 : FVec F S64 .f32) (main_arg9 : FVec F S128 .f32) : IVec S_ 1 :=
  let main_v0 : FVec F S32768x512 .f32 := (extf .f32 · bitsLt_bf16_f32) main_arg0
  let main_v1 : FVec F S32768x512 .f32 := Host.absf main_v0
  let main_cst : FVec F S_ .f32 := constant S_ .f32 0x7F800000#32
  let main_v2 : FVec F S32768x512 .f32 := broadcastInDim S32768x512 ![] bcast_S_S32768x512 main_cst
  let main_v3 : IVec S32768x512 1 := cmpf .olt main_v1 main_v2
  let main_c : IVec S_ 1 := constantI S_ 1 1#1
  let main_v4 : IVec S_ 1 := (fun x v => Host.reduce IntOp.andi x v reducesTo_S32768x512_S_d0_1 h_S_) main_v3 main_c
  let main_v5 : FVec F S32768x512 .f32 := (extf .f32 · bitsLt_bf16_f32) main_arg1
  let main_v6 : FVec F S32768x512 .f32 := Host.absf main_v5
  let main_cst_0 : FVec F S_ .f32 := constant S_ .f32 0x7F800000#32
  let main_v7 : FVec F S32768x512 .f32 := broadcastInDim S32768x512 ![] bcast_S_S32768x512 main_cst_0
  let main_v8 : IVec S32768x512 1 := cmpf .olt main_v6 main_v7
  let main_c_1 : IVec S_ 1 := constantI S_ 1 1#1
  let main_v9 : IVec S_ 1 := (fun x v => Host.reduce IntOp.andi x v reducesTo_S32768x512_S_d0_1 h_S_) main_v8 main_c_1
  let main_v10 : IVec S_ 1 := andi main_v4 main_v9
  let main_v11 : FVec F S32768x512 .f32 := (extf .f32 · bitsLt_bf16_f32) main_arg2
  let main_v12 : FVec F S32768x512 .f32 := Host.absf main_v11
  let main_cst_2 : FVec F S_ .f32 := constant S_ .f32 0x7F800000#32
  let main_v13 : FVec F S32768x512 .f32 := broadcastInDim S32768x512 ![] bcast_S_S32768x512 main_cst_2
  let main_v14 : IVec S32768x512 1 := cmpf .olt main_v12 main_v13
  let main_c_3 : IVec S_ 1 := constantI S_ 1 1#1
  let main_v15 : IVec S_ 1 := (fun x v => Host.reduce IntOp.andi x v reducesTo_S32768x512_S_d0_1 h_S_) main_v14 main_c_3
  let main_v16 : IVec S_ 1 := andi main_v10 main_v15
  let main_v17 : FVec F S32768x512 .f32 := (extf .f32 · bitsLt_bf16_f32) main_arg3
  fn_part1 (F := F) main_arg4 main_arg5 main_arg6 main_arg7 main_arg8 main_v16 main_v17
-- ==== Pre_op_finite.lean ====
abbrev S32768x1024 : Shape := ⟨2, ![32768, 1024]⟩
abbrev S32768x512 : Shape := ⟨2, ![32768, 512]⟩
abbrev S32768x128 : Shape := ⟨2, ![32768, 128]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel

variable [Facts]

def fn {F : FTy → Type} [FloatOps F] (main_arg0 : FVec F S32768x1024 .f32) (main_arg1 : FVec F S32768x512 .bf16) (main_arg2 : FVec F S32768x512 .bf16) (main_arg3 : FVec F S32768x512 .bf16) (main_arg4 : FVec F S32768x512 .bf16) (main_arg5 : FVec F S32768x128 .f32) (main_arg6 : FVec F S32768x128 .f32) (main_arg7 : FVec F S32768x128 .f32) (main_arg8 : FVec F S1024x1024 .f32) (main_arg9 : FVec F S1024 .f32) (main_arg10 : FVec F S1024x2816 .f32) (main_arg11 : FVec F S1024x2816 .f32) (main_arg12 : FVec F S2816x1024 .f32) : IVec S_ 1 :=
  let main_v0 : FVec F S32768x128 .f32 := Host.absf main_arg5
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S32768x128 .f32 := Host.absf main_arg6
  let main_cst_0 : FVec F S_ .f32 := constant S_ .f32 0x7F800000#32
  let main_v5 : FVec F S32768x128 .f32 := broadcastInDim S32768x128 ![] bcast_S_S32768x128 main_cst_0
  let main_v6 : IVec S32768x128 1 := cmpf .olt main_v4 main_v5
  let main_c_1 : IVec S_ 1 := constantI S_ 1 1#1
  let main_v7 : IVec S_ 1 := (fun x v => Host.reduce IntOp.andi x v reducesTo_S32768x128_S_d0_1 h_S_) main_v6 main_c_1
  let main_v8 : IVec S_ 1 := andi main_v3 main_v7
  let main_v9 : FVec F S32768x128 .f32 := Host.absf main_arg7
  let main_cst_2 : FVec F S_ .f32 := constant S_ .f32 0x7F800000#32
  let main_v10 : FVec F S32768x128 .f32 := broadcastInDim S32768x128 ![] bcast_S_S32768x128 main_cst_2
  let main_v11 : IVec S32768x128 1 := cmpf .olt main_v9 main_v10
  let main_c_3 : IVec S_ 1 := constantI S_ 1 1#1
  let main_v12 : IVec S_ 1 := (fun x v => Host.reduce IntOp.andi x v reducesTo_S32768x128_S_d0_1 h_S_) main_v11 main_c_3
  let main_v13 : IVec S_ 1 := andi main_v8 main_v12
  main_v13
-- ==== DiffOnline.lean ====
abbrev S32768x512 : Shape := ⟨2, ![32768, 512]⟩
abbrev S64 : Shape := ⟨1, ![64]⟩
abbrev S128 : Shape := ⟨1, ![128]⟩
abbrev S1x64 : Shape := ⟨2, ![1, 64]⟩
abbrev S4x64 : Shape := ⟨2, ![4, 64]⟩
abbrev S1x128 : Shape := ⟨2, ![1, 128]⟩
abbrev S512x128 : Shape := ⟨2, ![512, 128]⟩
abbrev S8192x128 : Shape := ⟨2, ![8192, 128]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 17
  | .vmem => 14
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S4x64, .f32⟩
  | .hbm, ⟨15, _⟩ => ⟨S1x128, .f32⟩
  | .hbm, ⟨16, _⟩ => ⟨S32768x512, .bf16⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S8192x128, .bf16⟩
  | .local _ .vmem, ⟨5, _⟩ => ⟨S8192x128, .bf16⟩
  | .local _ .vmem, ⟨6, _⟩ => ⟨S8192x128, .bf16⟩
  | .local _ .vmem, ⟨7, _⟩ => ⟨S8192x128, .bf16⟩
  | .local _ .vmem, ⟨8, _⟩ => ⟨S8192x128, .bf16⟩
  | .local _ .vmem, ⟨9, _⟩ => ⟨S8192x128, .bf16⟩
  | .local _ .vmem, ⟨10, _⟩ => ⟨S4x64, .f32⟩
  | .local _ .vmem, ⟨11, _⟩ => ⟨S1x128, .f32⟩
  | .local _ .vmem, ⟨12, _⟩ => ⟨S512x128, .bf16⟩
  | .local _ .vmem, ⟨13, _⟩ => ⟨S512x128, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 4, 16], ![false, false, false]⟩

def k0_mult1 (i : grid0.Coords) : BitVec 32 :=
  let arg2 : BitVec 32 := BitVec.ofNat 32 (i 2).val
  let c512_i32 : BitVec 32 := 512#32
  let v2 : BitVec 32 := Scalar.muli arg2 c512_i32
  v2
def k0_off1 (i : grid0.Coords) : Fin 2 → Nat :=
  let arg2 : BitVec 32 := BitVec.ofNat 32 (i 2).val
  let c512_i32 : BitVec 32 := 512#32
  let v2 : BitVec 32 := Scalar.muli arg2 c512_i32
  let v3 : BitVec 32 := v2
  let v4 : Index := Scalar.indexCast v3
  let c0_3 : Index := 0#32
  ![v4.toNat, 0]
@[reducible] def k0_t1_loop (i : grid0.Coords) : Scf.Loop 32 :=
  let c0_i32 : BitVec 32 := 0#32
  let arg2 : BitVec 32 := BitVec.ofNat 32 (i 2).val
  let v40 : BitVec 32 := Scalar.subi arg2 c0_i32
  let c1_i32 : BitVec 32 := 1#32
  let v42 : BitVec 32 := Scalar.divsi v40 c1_i32
  let v43 : BitVec 32 := Scalar.muli v42 c1_i32
  let v44 : BitVec 32 := Scalar.addi c0_i32 v43
  let c1_i32_15 : BitVec 32 := 1#32
  ⟨c0_i32, v44, c1_i32_15⟩
def k0_mult2 (i : grid0.Coords) (k0_t1 : Fin (k0_t1_loop i).trips) : BitVec 32 :=
  let c0_i32 : BitVec 32 := 0#32
  let c1_i32_15 : BitVec 32 := 1#32
  let arg11 : BitVec 32 := Scf.iv c0_i32 c1_i32_15 k0_t1
  let c512_i32_30 : BitVec 32 := 512#32
  let v89 : BitVec 32 := Scalar.muli arg11 c512_i32_30
  v89
def k0_off2 (i : grid0.Coords) (k0_t1 : Fin (k0_t1_loop i).trips) : Fin 2 → Nat :=
  let c0_i32 : BitVec 32 := 0#32
  let c1_i32_15 : BitVec 32 := 1#32
  let arg11 : BitVec 32 := Scf.iv c0_i32 c1_i32_15 k0_t1
  let c512_i32_30 : BitVec 32 := 512#32
  let v89 : BitVec 32 := Scalar.muli arg11 c512_i32_30
  let v90 : BitVec 32 := v89
  let v91 : Index := Scalar.indexCast v90
  let c0_31 : Index := 0#32
  ![v91.toNat, 0]
@[reducible] def k0_t2_loop (i : grid0.Coords) : Scf.Loop 32 :=
  let c0_i32 : BitVec 32 := 0#32
  let arg2 : BitVec 32 := BitVec.ofNat 32 (i 2).val
  let v40 : BitVec 32 := Scalar.subi arg2 c0_i32
  let c1_i32 : BitVec 32 := 1#32
  let v42 : BitVec 32 := Scalar.divsi v40 c1_i32
  let v43 : BitVec 32 := Scalar.muli v42 c1_i32
  let v44 : BitVec 32 := Scalar.addi c0_i32 v43
  let v41 : BitVec 32 := Scalar.addi c0_i32 v40
  let c1_i32_16 : BitVec 32 := 1#32
  ⟨v44, v41, c1_i32_16⟩
def k0_mult3 (i : grid0.Coords) (k0_t2 : Fin (k0_t2_loop i).trips) : BitVec 32 :=
  let c0_i32 : BitVec 32 := 0#32
  let arg2 : BitVec 32 := BitVec.ofNat 32 (i 2).val
  let v40 : BitVec 32 := Scalar.subi arg2 c0_i32
  let c1_i32 : BitVec 32 := 1#32
  let v42 : BitVec 32 := Scalar.divsi v40 c1_i32
  let v43 : BitVec 32 := Scalar.muli v42 c1_i32
  let v44 : BitVec 32 := Scalar.addi c0_i32 v43
  let c1_i32_16 : BitVec 32 := 1#32
  let arg11 : BitVec 32 := Scf.iv v44 c1_i32_16 k0_t2
  let c512_i32_30 : BitVec 32 := 512#32
  let v89 : BitVec 32 := Scalar.muli arg11 c512_i32_30
  v89
def k0_off3 (i : grid0.Coords) (k0_t2 : Fin (k0_t2_loop i).trips) : Fin 2 → Nat :=
  let c0_i32 : BitVec 32 := 0#32
  let arg2 : BitVec 32 := BitVec.ofNat 32 (i 2).val
  let v40 : BitVec 32 := Scalar.subi arg2 c0_i32
  let c1_i32 : BitVec 32 := 1#32
  let v42 : BitVec 32 := Scalar.divsi v40 c1_i32
  let v43 : BitVec 32 := Scalar.muli v42 c1_i32
  let v44 : BitVec 32 := Scalar.addi c0_i32 v43
  let c1_i32_16 : BitVec 32 := 1#32
  let arg11 : BitVec 32 := Scf.iv v44 c1_i32_16 k0_t2
  let c512_i32_30 : BitVec 32 := 512#32
  let v89 : BitVec 32 := Scalar.muli arg11 c512_i32_30
  let v90 : BitVec 32 := v89
  let v91 : Index := Scalar.indexCast v90
  let c0_31 : Index := 0#32
  ![v91.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== DiffOnlineIdeal.lean ====
variable {F : FTy → Type} [FloatOps F] [Named F]
def κ : String → Option EReal := fun
  | "mask" => some ⊥
  | _ => none
-- ==== RefDiffIdeal.lean ====
abbrev S32768x512 : Shape := ⟨2, ![32768, 512]⟩
abbrev S64 : Shape := ⟨1, ![64]⟩
abbrev S128 : Shape := ⟨1, ![128]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S4x8192x4x128 : Shape := ⟨4, ![4, 8192, 4, 128]⟩
abbrev S4x4x8192x8192 : Shape := ⟨4, ![4, 4, 8192, 8192]⟩
abbrev S4x4x8192 : Shape := ⟨3, ![4, 4, 8192]⟩
abbrev S4x4x8192x1 : Shape := ⟨4, ![4, 4, 8192, 1]⟩
abbrev S4x4x128x8192 : Shape := ⟨4, ![4, 4, 128, 8192]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩

abbrev nBuf : Space → Nat
  | .hbm => 108
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S8192, .i32⟩
  | .hbm, ⟨11, _⟩ => ⟨S8192x1, .i32⟩
  | .hbm, ⟨12, _⟩ => ⟨S8192, .i32⟩
  | .hbm, ⟨13, _⟩ => ⟨S1x8192, .i32⟩
  | .hbm, ⟨14, _⟩ => ⟨S8192x8192, .i32⟩
  | .hbm, ⟨15, _⟩ => ⟨S8192x8192, .i32⟩
  | .hbm, ⟨16, _⟩ => ⟨S8192x8192, .i32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S32768x512, .f32⟩
  | .hbm, ⟨29, _⟩ => ⟨S4x8192x4x128, .f32⟩
  | .hbm, ⟨30, _⟩ => ⟨S32768x512, .f32⟩
  | .hbm, ⟨31, _⟩ => ⟨S4x8192x4x128, .f32⟩
  | .hbm, ⟨32, _⟩ => ⟨S4x4x8192x8192, .f32⟩
  | .hbm, ⟨33, _⟩ => ⟨S_, .i32⟩
  | .hbm, ⟨34, _⟩ => ⟨S8192x8192, .i32⟩
  | .hbm, ⟨35, _⟩ => ⟨S8192x8192, .i1⟩
  | .hbm, ⟨36, _⟩ => ⟨S_, .f32⟩
  | .hbm, ⟨37, _⟩ => ⟨S_, .f32⟩
  | .hbm, ⟨38, _⟩ => ⟨S4x4x8192x8192, .i1⟩
  | .hbm, ⟨39, _⟩ => ⟨S4x4x8192x8192, .f32⟩
  | .hbm, ⟨40, _⟩ => ⟨S4x4x8192x8192, .f32⟩
  | .hbm, ⟨41, _⟩ => ⟨S_, .f32⟩
  | .hbm, ⟨42, _⟩ => ⟨S4x4x8192, .f32⟩
  | .hbm, ⟨43, _⟩ => ⟨S4x4x8192x1, .f32⟩
  | .hbm, ⟨44, _⟩ => ⟨S4x4x8192x8192, .f32⟩
  | .hbm, ⟨45, _⟩ => ⟨S4x4x8192x8192, .f32⟩
  | .hbm, ⟨46, _⟩ => ⟨S_, .f32⟩
  | .hbm, ⟨47, _⟩ => ⟨S4x4x8192x8192, .f32⟩
  | .hbm, ⟨48, _⟩ => ⟨S4x4x8192x8192, .f32⟩
  | .hbm, ⟨49, _⟩ => ⟨S_, .f32⟩
  | .hbm, ⟨50, _⟩ => ⟨S4x4x8192, .f32⟩
  | .hbm, ⟨51, _⟩ => ⟨S4x4x8192x1, .f32⟩
  | .hbm, ⟨52, _⟩ => ⟨S4x4x8192x8192, .f32⟩
  | .hbm, ⟨53, _⟩ => ⟨S4x4x8192x8192, .f32⟩
  | .hbm, ⟨54, _⟩ => ⟨S32768x512, .f32⟩
  | .hbm, ⟨55, _⟩ => ⟨S4x8192x4x128, .f32⟩
  | .hbm, ⟨56, _⟩ => ⟨S32768x512, .f32⟩
  | .hbm, ⟨57, _⟩ => ⟨S4x8192x4x128, .f32⟩
  | .hbm, ⟨58, _⟩ => ⟨S4x4x8192x8192, .f32⟩
  | .hbm, ⟨59, _⟩ => ⟨S_, .i32⟩
  | .hbm, ⟨60, _⟩ => ⟨S8192x8192, .i32⟩
  | .hbm, ⟨61, _⟩ => ⟨S8192x8192, .i1⟩
  | .hbm, ⟨62, _⟩ => ⟨S_, .f32⟩
  | .hbm, ⟨63, _⟩ => ⟨S_, .f32⟩
  | .hbm, ⟨64, _⟩ => ⟨S4x4x8192x8192, .i1⟩
  | .hbm, ⟨65, _⟩ => ⟨S4x4x8192x8192, .f32⟩
  | .hbm, ⟨66, _⟩ => ⟨S4x4x8192x8192, .f32⟩
  | .hbm, ⟨67, _⟩ => ⟨S_, .f32⟩
  | .hbm, ⟨68, _⟩ => ⟨S4x4x8192, .f32⟩
  | .hbm, ⟨69, _⟩ => ⟨S4x4x8192x1, .f32⟩
  | .hbm, ⟨70, _⟩ => ⟨S4x4x8192x8192, .f32⟩
  | .hbm, ⟨71, _⟩ => ⟨S4x4x8192x8192, .f32⟩
  | .hbm, ⟨72, _⟩ => ⟨S_, .f32⟩
  | .hbm, ⟨73, _⟩ => ⟨S4x4x8192x8192, .f32⟩
  | .hbm, ⟨74, _⟩ => ⟨S4x4x8192x8192, .f32⟩
  | .hbm, ⟨75, _⟩ => ⟨S_, .f32⟩
  | .hbm, ⟨76, _⟩ => ⟨S4x4x8192, .f32⟩
  | .hbm, ⟨77, _⟩ => ⟨S4x4x8192x1, .f32⟩
  | .hbm, ⟨78, _⟩ => ⟨S4x4x8192x8192, .f32⟩
  | .hbm, ⟨79, _⟩ => ⟨S4x4x8192x8192, .f32⟩
  | .hbm, ⟨80, _⟩ => ⟨S4x4x8192x8192, .f32⟩
  | .hbm, ⟨81, _⟩ => ⟨S4x4x8192x8192, .f32⟩
  | .hbm, ⟨82, _⟩ => ⟨S4x4x8192x8192, .f32⟩
  | .hbm, ⟨83, _⟩ => ⟨S32768x512, .f32⟩
  | .hbm, ⟨84, _⟩ => ⟨S4x8192x4x128, .f32⟩
  | .hbm, ⟨85, _⟩ => ⟨S4x4x128x8192, .f32⟩
  | .hbm, ⟨86, _⟩ => ⟨S4x8192x4x128, .f32⟩
  | .hbm, ⟨87, _⟩ => ⟨S4x8192x4x128, .f32⟩
  | .hbm, ⟨88, _⟩ => ⟨S_, .f32⟩
  | .hbm, ⟨89, _⟩ => ⟨S4x8192x4, .f32⟩
  | .hbm, ⟨90, _⟩ => ⟨S4x8192x4x1, .f32⟩
  | .hbm, ⟨91, _⟩ => ⟨S_, .f32⟩
  | .hbm, ⟨92, _⟩ => ⟨S4x8192x4x1, .f32⟩
  | .hbm, ⟨93, _⟩ => ⟨S4x8192x4x1, .f32⟩
  | .hbm, ⟨94, _⟩ => ⟨S_, .f32⟩
  | .hbm, ⟨95, _⟩ => ⟨S4x8192x4x1, .f32⟩
  | .hbm, ⟨96, _⟩ => ⟨S4x8192x4x1, .f32⟩
  | .hbm, ⟨97, _⟩ => ⟨S4x8192x4x1, .f32⟩
  | .hbm, ⟨98, _⟩ => ⟨S4x8192x4x128, .f32⟩
  | .hbm, ⟨99, _⟩ => ⟨S4x8192x4x128, .f32⟩
  | .hbm, ⟨100, _⟩ => ⟨S1x1x1x128, .f32⟩
  | .hbm, ⟨101, _⟩ => ⟨S4x8192x4x128, .f32⟩
  | .hbm, ⟨102, _⟩ => ⟨S4x8192x4x128, .f32⟩
  | .hbm, ⟨103, _⟩ => ⟨S_, .f32⟩
  | .hbm, ⟨104, _⟩ => ⟨S4x8192x4x128, .f32⟩
  | .hbm, ⟨105, _⟩ => ⟨S4x8192x4x128, .f32⟩
  | .hbm, ⟨106, _⟩ => ⟨S32768x512, .f32⟩
  | .hbm, ⟨107, _⟩ => ⟨S32768x512, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_6 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_9 : Ref sig .tc := ⟨.hbm, 72, rfl⟩
abbrev main_v45 : Ref sig .tc := ⟨.hbm, 73, rfl⟩
abbrev main_v46 : Ref sig .tc := ⟨.hbm, 74, rfl⟩
abbrev main_cst_10 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_11 : Ref sig .tc := ⟨.hbm, 88, rfl⟩
abbrev main_v59 : Ref sig .tc := ⟨.hbm, 89, rfl⟩
abbrev main_v60 : Ref sig .tc := ⟨.hbm, 90, rfl⟩
abbrev main_cst_12 : Ref sig .tc := ⟨.hbm, 91, rfl⟩
abbrev main_v61 : Ref sig .tc := ⟨.hbm, 92, rfl⟩
abbrev main_v62 : Ref sig .tc := ⟨.hbm, 93, rfl⟩
abbrev main_cst_13 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_14 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩

abbrev nD : Nat := 1
abbrev τ : Topo := Topo.v7x

variable {F : FTy → Type} [FloatOps F]
-- ==== DiffUnshifted.lean ====
abbrev S32768x512 : Shape := ⟨2, ![32768, 512]⟩
abbrev S64 : Shape := ⟨1, ![64]⟩
abbrev S128 : Shape := ⟨1, ![128]⟩
abbrev S1x64 : Shape := ⟨2, ![1, 64]⟩
abbrev S4x64 : Shape := ⟨2, ![4, 64]⟩
abbrev S1x128 : Shape := ⟨2, ![1, 128]⟩
abbrev S512x128 : Shape := ⟨2, ![512, 128]⟩
abbrev S8192x128 : Shape := ⟨2, ![8192, 128]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 17
  | .vmem => 14
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S4x64, .f32⟩
  | .hbm, ⟨15, _⟩ => ⟨S1x128, .f32⟩
  | .hbm, ⟨16, _⟩ => ⟨S32768x512, .bf16⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S8192x128, .bf16⟩
  | .local _ .vmem, ⟨5, _⟩ => ⟨S8192x128, .bf16⟩
  | .local _ .vmem, ⟨6, _⟩ => ⟨S8192x128, .bf16⟩
  | .local _ .vmem, ⟨7, _⟩ => ⟨S8192x128, .bf16⟩
  | .local _ .vmem, ⟨8, _⟩ => ⟨S8192x128, .bf16⟩
  | .local _ .vmem, ⟨9, _⟩ => ⟨S8192x128, .bf16⟩
  | .local _ .vmem, ⟨10, _⟩ => ⟨S4x64, .f32⟩
  | .local _ .vmem, ⟨11, _⟩ => ⟨S1x128, .f32⟩
  | .local _ .vmem, ⟨12, _⟩ => ⟨S512x128, .bf16⟩
  | .local _ .vmem, ⟨13, _⟩ => ⟨S512x128, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 4, 16], ![false, false, false]⟩

def k0_mult1 (i : grid0.Coords) : BitVec 32 :=
  let arg2 : BitVec 32 := BitVec.ofNat 32 (i 2).val
  let c512_i32 : BitVec 32 := 512#32
  let v2 : BitVec 32 := Scalar.muli arg2 c512_i32
  v2
def k0_off1 (i : grid0.Coords) : Fin 2 → Nat :=
  let arg2 : BitVec 32 := BitVec.ofNat 32 (i 2).val
  let c512_i32 : BitVec 32 := 512#32
  let v2 : BitVec 32 := Scalar.muli arg2 c512_i32
  let v3 : BitVec 32 := v2
  let v4 : Index := Scalar.indexCast v3
  let c0_3 : Index := 0#32
  ![v4.toNat, 0]
@[reducible] def k0_t1_loop (i : grid0.Coords) : Scf.Loop 32 :=
  let c0_i32 : BitVec 32 := 0#32
  let arg2 : BitVec 32 := BitVec.ofNat 32 (i 2).val
  let v42 : BitVec 32 := Scalar.subi arg2 c0_i32
  let c1_i32 : BitVec 32 := 1#32
  let v44 : BitVec 32 := Scalar.divsi v42 c1_i32
  let v45 : BitVec 32 := Scalar.muli v44 c1_i32
  let v46 : BitVec 32 := Scalar.addi c0_i32 v45
  let c1_i32_11 : BitVec 32 := 1#32
  ⟨c0_i32, v46, c1_i32_11⟩
def k0_mult2 (i : grid0.Coords) (k0_t1 : Fin (k0_t1_loop i).trips) : BitVec 32 :=
  let c0_i32 : BitVec 32 := 0#32
  let c1_i32_11 : BitVec 32 := 1#32
  let arg11 : BitVec 32 := Scf.iv c0_i32 c1_i32_11 k0_t1
  let c512_i32_28 : BitVec 32 := 512#32
  let v95 : BitVec 32 := Scalar.muli arg11 c512_i32_28
  v95
def k0_off2 (i : grid0.Coords) (k0_t1 : Fin (k0_t1_loop i).trips) : Fin 2 → Nat :=
  let c0_i32 : BitVec 32 := 0#32
  let c1_i32_11 : BitVec 32 := 1#32
  let arg11 : BitVec 32 := Scf.iv c0_i32 c1_i32_11 k0_t1
  let c512_i32_28 : BitVec 32 := 512#32
  let v95 : BitVec 32 := Scalar.muli arg11 c512_i32_28
  let v96 : BitVec 32 := v95
  let v97 : Index := Scalar.indexCast v96
  let c0_29 : Index := 0#32
  ![v97.toNat, 0]
@[reducible] def k0_t2_loop (i : grid0.Coords) : Scf.Loop 32 :=
  let c0_i32 : BitVec 32 := 0#32
  let arg2 : BitVec 32 := BitVec.ofNat 32 (i 2).val
  let v42 : BitVec 32 := Scalar.subi arg2 c0_i32
  let c1_i32 : BitVec 32 := 1#32
  let v44 : BitVec 32 := Scalar.divsi v42 c1_i32
  let v45 : BitVec 32 := Scalar.muli v44 c1_i32
  let v46 : BitVec 32 := Scalar.addi c0_i32 v45
  let v43 : BitVec 32 := Scalar.addi c0_i32 v42
  let c1_i32_12 : BitVec 32 := 1#32
  ⟨v46, v43, c1_i32_12⟩
def k0_mult3 (i : grid0.Coords) (k0_t2 : Fin (k0_t2_loop i).trips) : BitVec 32 :=
  let c0_i32 : BitVec 32 := 0#32
  let arg2 : BitVec 32 := BitVec.ofNat 32 (i 2).val
  let v42 : BitVec 32 := Scalar.subi arg2 c0_i32
  let c1_i32 : BitVec 32 := 1#32
  let v44 : BitVec 32 := Scalar.divsi v42 c1_i32
  let v45 : BitVec 32 := Scalar.muli v44 c1_i32
  let v46 : BitVec 32 := Scalar.addi c0_i32 v45
  let c1_i32_12 : BitVec 32 := 1#32
  let arg11 : BitVec 32 := Scf.iv v46 c1_i32_12 k0_t2
  let c512_i32_28 : BitVec 32 := 512#32
  let v95 : BitVec 32 := Scalar.muli arg11 c512_i32_28
  v95
def k0_off3 (i : grid0.Coords) (k0_t2 : Fin (k0_t2_loop i).trips) : Fin 2 → Nat :=
  let c0_i32 : BitVec 32 := 0#32
  let arg2 : BitVec 32 := BitVec.ofNat 32 (i 2).val
  let v42 : BitVec 32 := Scalar.subi arg2 c0_i32
  let c1_i32 : BitVec 32 := 1#32
  let v44 : BitVec 32 := Scalar.divsi v42 c1_i32
  let v45 : BitVec 32 := Scalar.muli v44 c1_i32
  let v46 : BitVec 32 := Scalar.addi c0_i32 v45
  let c1_i32_12 : BitVec 32 := 1#32
  let arg11 : BitVec 32 := Scf.iv v46 c1_i32_12 k0_t2
  let c512_i32_28 : BitVec 32 := 512#32
  let v95 : BitVec 32 := Scalar.muli arg11 c512_i32_28
  let v96 : BitVec 32 := v95
  let v97 : Index := Scalar.indexCast v96
  let c0_29 : Index := 0#32
  ![v97.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== DiffUnshiftedIdeal.lean ====
variable {F : FTy → Type} [FloatOps F] [Named F]
def κ : String → Option EReal := fun
  | "mask" => some ⊥
  | _ => none
-- ==== EvenPost.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x2816 : Shape := ⟨2, ![512, 2816]⟩

abbrev nBuf : Space → Nat
  | .hbm => 14
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024x1024, .bf16⟩
  | .hbm, ⟨9, _⟩ => ⟨S1x1024, .f32⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefEvenPostIdeal.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 43
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S32768x512, .f32⟩
  | .hbm, ⟨9, _⟩ => ⟨S32768x512, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x1024, .f32⟩
  | .hbm, ⟨25, _⟩ => ⟨S32768x1024, .f32⟩
  | .hbm, ⟨26, _⟩ => ⟨S1x1024, .f32⟩
  | .hbm, ⟨27, _⟩ => ⟨S32768x1024, .f32⟩
  | .hbm, ⟨28, _⟩ => ⟨S32768x1024, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S_, .f32⟩
  | .hbm, ⟨33, _⟩ => ⟨S32768x2816, .f32⟩
  | .hbm, ⟨34, _⟩ => ⟨S32768x2816, .f32⟩
  | .hbm, ⟨35, _⟩ => ⟨S_, .f32⟩
  | .hbm, ⟨36, _⟩ => ⟨S32768x2816, .f32⟩
  | .hbm, ⟨37, _⟩ => ⟨S32768x2816, .f32⟩
  | .hbm, ⟨38, _⟩ => ⟨S32768x2816, .f32⟩
  | .hbm, ⟨39, _⟩ => ⟨S32768x2816, .f32⟩
  | .hbm, ⟨40, _⟩ => ⟨S32768x2816, .f32⟩
  | .hbm, ⟨41, _⟩ => ⟨S32768x1024, .f32⟩
  | .hbm, ⟨42, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]
-- ==== OddIn.lean ====
abbrev S32768x1024 : Shape := ⟨2, ![32768, 1024]⟩
abbrev S1024 : Shape := ⟨1, ![1024]⟩
abbrev S1024x3072 : Shape := ⟨2, ![1024, 3072]⟩
abbrev S64 : Shape := ⟨1, ![64]⟩
abbrev S3x512 : Shape := ⟨2, ![3, 512]⟩
abbrev S512x512 : Shape := ⟨2, ![512, 512]⟩
abbrev S_ : Shape := ⟨0, ![]⟩
abbrev S1x1024 : Shape := ⟨2, ![1, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S32768x512 : Shape := ⟨2, ![32768, 512]⟩
abbrev S512x1024 : Shape := ⟨2, ![512, 1024]⟩
abbrev S8x512 : Shape := ⟨2, ![8, 512]⟩
abbrev S512x1 : Shape := ⟨2, ![512, 1]⟩
abbrev S512x3072 : Shape := ⟨2, ![512, 3072]⟩
abbrev S520x512 : Shape := ⟨2, ![520, 512]⟩

abbrev nBuf : Space → Nat
  | .hbm => 48
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S3x512, .f32⟩
  | .hbm, ⟨6, _⟩ => ⟨S512x512, .i32⟩
  | .hbm, ⟨7, _⟩ => ⟨S_, .i32⟩
  | .hbm, ⟨8, _⟩ => ⟨S_, .i32⟩
  | .hbm, ⟨9, _⟩ => ⟨S512x512, .i32⟩
  | .hbm, ⟨10, _⟩ => ⟨S512x512, .i32⟩
  | .hbm, ⟨11, _⟩ => ⟨S512x512, .i32⟩
  | .hbm, ⟨12, _⟩ => ⟨S_, .i32⟩
  | .hbm, ⟨13, _⟩ => ⟨S512x512, .i32⟩
  | .hbm, ⟨14, _⟩ => ⟨S512x512, .i1⟩
  | .hbm, ⟨15, _⟩ => ⟨S512x512, .i32⟩
  | .hbm, ⟨16, _⟩ => ⟨S512x512, .i32⟩
  | .hbm, ⟨17, _⟩ => ⟨S_, .i32⟩
  | .hbm, ⟨18, _⟩ => ⟨S512x512, .i32⟩
  | .hbm, ⟨19, _⟩ => ⟨S512x512, .i1⟩
  | .hbm, ⟨20, _⟩ => ⟨S512x512, .i1⟩
  | .hbm, ⟨21, _⟩ => ⟨S_, .i32⟩
  | .hbm, ⟨22, _⟩ => ⟨S512x512, .i32⟩
  | .hbm, ⟨23, _⟩ => ⟨S512x512, .i32⟩
  | .hbm, ⟨24, _⟩ => ⟨S512x512, .i32⟩
  | .hbm, ⟨25, _⟩ => ⟨S512x512, .i32⟩
  | .hbm, ⟨26, _⟩ => ⟨S512x512, .i1⟩
  | .hbm, ⟨27, _⟩ => ⟨S512x512, .bf16⟩
  | .hbm, ⟨28, _⟩ => ⟨S1x1024, .f32⟩
  | .hbm, ⟨29, _⟩ => ⟨S1024x3072, .bf16⟩
  | .hbm, ⟨30, _⟩ => ⟨S1x64, .f32⟩
  | .hbm, ⟨31, _⟩ => ⟨S8x64, .f32⟩
  | .hbm, ⟨32, _⟩ => ⟨S512, .f32⟩
  | .hbm, ⟨33, _⟩ => ⟨S_, .f32⟩
  | .hbm, ⟨34, _⟩ => ⟨S512, .f32⟩
  | .hbm, ⟨35, _⟩ => ⟨S512, .f32⟩
  | .hbm, ⟨36, _⟩ => ⟨S1x512, .f32⟩
  | .hbm, ⟨37, _⟩ => ⟨S1x64, .f32⟩
  | .hbm, ⟨38, _⟩ => ⟨S8x64, .f32⟩
  | .hbm, ⟨39, _⟩ => ⟨S512, .f32⟩
  | .hbm, ⟨40, _⟩ => ⟨S_, .f32⟩
  | .hbm, ⟨41, _⟩ => ⟨S512, .f32⟩
  | .hbm, ⟨42, _⟩ => ⟨S512, .f32⟩
  | .hbm, ⟨43, _⟩ => ⟨S1x512, .f32⟩
  | .hbm, ⟨44, _⟩ => ⟨S32768x512, .bf16⟩
  | .hbm, ⟨45, _⟩ => ⟨S32768x512, .bf16⟩
  | .hbm, ⟨46, _⟩ => ⟨S32768x512, .bf16⟩
  | .hbm, ⟨47, _⟩ => ⟨S32768x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x512, .bf16⟩
  | .local _ .vmem, ⟨5, _⟩ => ⟨S1x512, .f32⟩
  | .local _ .vmem, ⟨6, _⟩ => ⟨S1x512, .f32⟩
  | .local _ .vmem, ⟨7, _⟩ => ⟨S3x512, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S8x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_0 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19_0 : Ref sig .tc := ⟨.hbm, 44, rfl⟩
abbrev main_v19_1 : Ref sig .tc := ⟨.hbm, 45, rfl⟩
abbrev main_v19_2 : Ref sig .tc := ⟨.hbm, 46, rfl⟩
abbrev main_v19_3 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== RefOddInIdeal.lean ====
abbrev S32768x1024 : Shape := ⟨2, ![32768, 1024]⟩
abbrev S1024 : Shape := ⟨1, ![1024]⟩
abbrev S1024x3072 : Shape := ⟨2, ![1024, 3072]⟩
abbrev S64 : Shape := ⟨1, ![64]⟩
abbrev S3x512 : Shape := ⟨2, ![3, 512]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3072 : Shape := ⟨2, ![32768, 3072]⟩
abbrev S32768x512 : Shape := ⟨2, ![32768, 512]⟩
abbrev S4x8192x512 : Shape := ⟨3, ![4, 8192, 512]⟩
abbrev S1x512 : Shape := ⟨2, ![1, 512]⟩
abbrev S512 : Shape := ⟨1, ![512]⟩
abbrev S4x2x512 : Shape := ⟨3, ![4, 2, 512]⟩
abbrev S4x8190x512 : Shape := ⟨3, ![4, 8190, 512]⟩
abbrev S4x1x512 : Shape := ⟨3, ![4, 1, 512]⟩
abbrev S4x8191x512 : Shape := ⟨3, ![4, 8191, 512]⟩
abbrev S32768x8x64 : Shape := ⟨3, ![32768, 8, 64]⟩
abbrev S32768x8 : Shape := ⟨2, ![32768, 8]⟩
abbrev S32768x8x1 : Shape := ⟨3, ![32768, 8, 1]⟩
abbrev S1x1x64 : Shape := ⟨3, ![1, 1, 64]⟩

abbrev nBuf : Space → Nat
  | .hbm => 103
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S3x512, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S32768x3072, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S4x8192x512, .f32⟩
  | .hbm, ⟨31, _⟩ => ⟨S1x512, .f32⟩
  | .hbm, ⟨32, _⟩ => ⟨S512, .f32⟩
  | .hbm, ⟨33, _⟩ => ⟨S_, .f32⟩
  | .hbm, ⟨34, _⟩ => ⟨S4x2x512, .f32⟩
  | .hbm, ⟨35, _⟩ => ⟨S4x8190x512, .f32⟩
  | .hbm, ⟨36, _⟩ => ⟨S4x8192x512, .f32⟩
  | .hbm, ⟨37, _⟩ => ⟨S32768x512, .f32⟩
  | .hbm, ⟨38, _⟩ => ⟨S1x512, .f32⟩
  | .hbm, ⟨39, _⟩ => ⟨S32768x512, .f32⟩
  | .hbm, ⟨40, _⟩ => ⟨S32768x512, .f32⟩
  | .hbm, ⟨41, _⟩ => ⟨S1x512, .f32⟩
  | .hbm, ⟨42, _⟩ => ⟨S512, .f32⟩
  | .hbm, ⟨43, _⟩ => ⟨S_, .f32⟩
  | .hbm, ⟨44, _⟩ => ⟨S4x1x512, .f32⟩
  | .hbm, ⟨45, _⟩ => ⟨S4x8191x512, .f32⟩
  | .hbm, ⟨46, _⟩ => ⟨S4x8192x512, .f32⟩
  | .hbm, ⟨47, _⟩ => ⟨S32768x512, .f32⟩
  | .hbm, ⟨48, _⟩ => ⟨S1x512, .f32⟩
  | .hbm, ⟨49, _⟩ => ⟨S32768x512, .f32⟩
  | .hbm, ⟨50, _⟩ => ⟨S32768x512, .f32⟩
  | .hbm, ⟨51, _⟩ => ⟨S32768x512, .f32⟩
  | .hbm, ⟨52, _⟩ => ⟨S1x512, .f32⟩
  | .hbm, ⟨53, _⟩ => ⟨S512, .f32⟩
  | .hbm, ⟨54, _⟩ => ⟨S32768x512, .f32⟩
  | .hbm, ⟨55, _⟩ => ⟨S1x512, .f32⟩
  | .hbm, ⟨56, _⟩ => ⟨S32768x512, .f32⟩
  | .hbm, ⟨57, _⟩ => ⟨S32768x512, .f32⟩
  | .hbm, ⟨58, _⟩ => ⟨S32768x512, .f32⟩
  | .hbm, ⟨59, _⟩ => ⟨S32768x512, .f32⟩
  | .hbm, ⟨60, _⟩ => ⟨S32768x8x64, .f32⟩
  | .hbm, ⟨61, _⟩ => ⟨S32768x8x64, .f32⟩
  | .hbm, ⟨62, _⟩ => ⟨S_, .f32⟩
  | .hbm, ⟨63, _⟩ => ⟨S32768x8, .f32⟩
  | .hbm, ⟨64, _⟩ => ⟨S32768x8x1, .f32⟩
  | .hbm, ⟨65, _⟩ => ⟨S_, .f32⟩
  | .hbm, ⟨66, _⟩ => ⟨S32768x8x1, .f32⟩
  | .hbm, ⟨67, _⟩ => ⟨S32768x8x1, .f32⟩
  | .hbm, ⟨68, _⟩ => ⟨S_, .f32⟩
  | .hbm, ⟨69, _⟩ => ⟨S32768x8x1, .f32⟩
  | .hbm, ⟨70, _⟩ => ⟨S32768x8x1, .f32⟩
  | .hbm, ⟨71, _⟩ => ⟨S32768x8x1, .f32⟩
  | .hbm, ⟨72, _⟩ => ⟨S32768x8x64, .f32⟩
  | .hbm, ⟨73, _⟩ => ⟨S32768x8x64, .f32⟩
  | .hbm, ⟨74, _⟩ => ⟨S1x1x64, .f32⟩
  | .hbm, ⟨75, _⟩ => ⟨S32768x8x64, .f32⟩
  | .hbm, ⟨76, _⟩ => ⟨S32768x8x64, .f32⟩
  | .hbm, ⟨77, _⟩ => ⟨S_, .f32⟩
  | .hbm, ⟨78, _⟩ => ⟨S32768x8x64, .f32⟩
  | .hbm, ⟨79, _⟩ => ⟨S32768x8x64, .f32⟩
  | .hbm, ⟨80, _⟩ => ⟨S32768x8x64, .f32⟩
  | .hbm, ⟨81, _⟩ => ⟨S32768x8x64, .f32⟩
  | .hbm, ⟨82, _⟩ => ⟨S_, .f32⟩
  | .hbm, ⟨83, _⟩ => ⟨S32768x8, .f32⟩
  | .hbm, ⟨84, _⟩ => ⟨S32768x8x1, .f32⟩
  | .hbm, ⟨85, _⟩ => ⟨S_, .f32⟩
  | .hbm, ⟨86, _⟩ => ⟨S32768x8x1, .f32⟩
  | .hbm, ⟨87, _⟩ => ⟨S32768x8x1, .f32⟩
  | .hbm, ⟨88, _⟩ => ⟨S_, .f32⟩
  | .hbm, ⟨89, _⟩ => ⟨S32768x8x1, .f32⟩
  | .hbm, ⟨90, _⟩ => ⟨S32768x8x1, .f32⟩
  | .hbm, ⟨91, _⟩ => ⟨S32768x8x1, .f32⟩
  | .hbm, ⟨92, _⟩ => ⟨S32768x8x64, .f32⟩
  | .hbm, ⟨93, _⟩ => ⟨S32768x8x64, .f32⟩
  | .hbm, ⟨94, _⟩ => ⟨S1x1x64, .f32⟩
  | .hbm, ⟨95, _⟩ => ⟨S32768x8x64, .f32⟩
  | .hbm, ⟨96, _⟩ => ⟨S32768x8x64, .f32⟩
  | .hbm, ⟨97, _⟩ => ⟨S32768x512, .bf16⟩
  | .hbm, ⟨98, _⟩ => ⟨S32768x512, .f32⟩
  | .hbm, ⟨99, _⟩ => ⟨S32768x512, .bf16⟩
  | .hbm, ⟨100, _⟩ => ⟨S32768x512, .f32⟩
  | .hbm, ⟨101, _⟩ => ⟨S32768x512, .bf16⟩
  | .hbm, ⟨102, _⟩ => ⟨S32768x512, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_4 : Ref sig .tc := ⟨.hbm, 62, rfl⟩
abbrev main_v51 : Ref sig .tc := ⟨.hbm, 63, rfl⟩
abbrev main_v52 : Ref sig .tc := ⟨.hbm, 64, rfl⟩
abbrev main_cst_5 : Ref sig .tc := ⟨.hbm, 65, rfl⟩
abbrev main_v53 : Ref sig .tc := ⟨.hbm, 66, rfl⟩
abbrev main_v54 : Ref sig .tc := ⟨.hbm, 67, rfl⟩
abbrev main_cst_6 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_7 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_8 : Ref sig .tc := ⟨.hbm, 82, rfl⟩
abbrev main_v67 : Ref sig .tc := ⟨.hbm, 83, rfl⟩
abbrev main_v68 : Ref sig .tc := ⟨.hbm, 84, rfl⟩
abbrev main_cst_9 : Ref sig .tc := ⟨.hbm, 85, rfl⟩
abbrev main_v69 : Ref sig .tc := ⟨.hbm, 86, rfl⟩
abbrev main_v70 : Ref sig .tc := ⟨.hbm, 87, rfl⟩
abbrev main_cst_10 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩

abbrev nD : Nat := 1
abbrev τ : Topo := Topo.v7x

variable {F : FTy → Type} [FloatOps F]
-- ==== OddPost.lean ====
abbrev S32768x1024 : Shape := ⟨2, ![32768, 1024]⟩
abbrev S32768x512 : Shape := ⟨2, ![32768, 512]⟩
abbrev S32768x128 : Shape := ⟨2, ![32768, 128]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512x512 : Shape := ⟨2, ![512, 512]⟩
abbrev S512x128 : Shape := ⟨2, ![512, 128]⟩
abbrev S1x128 : Shape := ⟨2, ![1, 128]⟩
abbrev S512x1 : Shape := ⟨2, ![512, 1]⟩
abbrev S512 : Shape := ⟨1, ![512]⟩
abbrev S512x2816 : Shape := ⟨2, ![512, 2816]⟩

abbrev nBuf : Space → Nat
  | .hbm => 19
  | .vmem => 23
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S32768x128, .f32⟩
  | .hbm, ⟨6, _⟩ => ⟨S32768x128, .f32⟩
  | .hbm, ⟨7, _⟩ => ⟨S32768x128, .f32⟩
  | .hbm, ⟨8, _⟩ => ⟨S1024x1024, .f32⟩
  | .hbm, ⟨9, _⟩ => ⟨S1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S1024x1024, .bf16⟩
  | .hbm, ⟨14, _⟩ => ⟨S1x1024, .f32⟩
  | .hbm, ⟨15, _⟩ => ⟨S1024x2816, .bf16⟩
  | .hbm, ⟨16, _⟩ => ⟨S1024x2816, .bf16⟩
  | .hbm, ⟨17, _⟩ => ⟨S2816x1024, .bf16⟩
  | .hbm, ⟨18, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S1024x1024, .bf16⟩
  | .local _ .vmem, ⟨17, _⟩ => ⟨S1x1024, .f32⟩
  | .local _ .vmem, ⟨18, _⟩ => ⟨S1024x2816, .bf16⟩
  | .local _ .vmem, ⟨19, _⟩ => ⟨S1024x2816, .bf16⟩
  | .local _ .vmem, ⟨20, _⟩ => ⟨S2816x1024, .bf16⟩
  | .local _ .vmem, ⟨21, _⟩ => ⟨S512x1024, .f32⟩
  | .local _ .vmem, ⟨22, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== RefOddPostIdeal.lean ====
abbrev S32768x1024 : Shape := ⟨2, ![32768, 1024]⟩
abbrev S32768x512 : Shape := ⟨2, ![32768, 512]⟩
abbrev S32768x128 : Shape := ⟨2, ![32768, 128]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S32768x8 : Shape := ⟨2, ![32768, 8]⟩
abbrev S1x32768x8 : Shape := ⟨3, ![1, 32768, 8]⟩
abbrev S3x32768x8 : Shape := ⟨3, ![3, 32768, 8]⟩
abbrev S_ : Shape := ⟨0, ![]⟩
abbrev S32768x8x64 : Shape := ⟨3, ![32768, 8, 64]⟩
abbrev S1x32768x8x64 : Shape := ⟨4, ![1, 32768, 8, 64]⟩
abbrev S3x32768x8x64 : Shape := ⟨4, ![3, 32768, 8, 64]⟩
abbrev S3x32768x8x1 : Shape := ⟨4, ![3, 32768, 8, 1]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 84
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S32768x128, .f32⟩
  | .hbm, ⟨6, _⟩ => ⟨S32768x128, .f32⟩
  | .hbm, ⟨7, _⟩ => ⟨S32768x128, .f32⟩
  | .hbm, ⟨8, _⟩ => ⟨S1024x1024, .f32⟩
  | .hbm, ⟨9, _⟩ => ⟨S1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S32768x8, .f32⟩
  | .hbm, ⟨14, _⟩ => ⟨S32768x8, .f32⟩
  | .hbm, ⟨15, _⟩ => ⟨S32768x8, .f32⟩
  | .hbm, ⟨16, _⟩ => ⟨S1x32768x8, .f32⟩
  | .hbm, ⟨17, _⟩ => ⟨S1x32768x8, .f32⟩
  | .hbm, ⟨18, _⟩ => ⟨S1x32768x8, .f32⟩
  | .hbm, ⟨19, _⟩ => ⟨S3x32768x8, .f32⟩
  | .hbm, ⟨20, _⟩ => ⟨S_, .f32⟩
  | .hbm, ⟨21, _⟩ => ⟨S32768x8, .f32⟩
  | .hbm, ⟨22, _⟩ => ⟨S_, .f32⟩
  | .hbm, ⟨23, _⟩ => ⟨S32768x8, .f32⟩
  | .hbm, ⟨24, _⟩ => ⟨S32768x8, .f32⟩
  | .hbm, ⟨25, _⟩ => ⟨S1x32768x8, .f32⟩
  | .hbm, ⟨26, _⟩ => ⟨S3x32768x8, .f32⟩
  | .hbm, ⟨27, _⟩ => ⟨S3x32768x8, .f32⟩
  | .hbm, ⟨28, _⟩ => ⟨S3x32768x8, .f32⟩
  | .hbm, ⟨29, _⟩ => ⟨S_, .f32⟩
  | .hbm, ⟨30, _⟩ => ⟨S32768x8, .f32⟩
  | .hbm, ⟨31, _⟩ => ⟨S1x32768x8, .f32⟩
  | .hbm, ⟨32, _⟩ => ⟨S3x32768x8, .f32⟩
  | .hbm, ⟨33, _⟩ => ⟨S3x32768x8, .f32⟩
  | .hbm, ⟨34, _⟩ => ⟨S32768x512, .f32⟩
  | .hbm, ⟨35, _⟩ => ⟨S32768x8x64, .f32⟩
  | .hbm, ⟨36, _⟩ => ⟨S32768x512, .f32⟩
  | .hbm, ⟨37, _⟩ => ⟨S32768x8x64, .f32⟩
  | .hbm, ⟨38, _⟩ => ⟨S32768x512, .f32⟩
  | .hbm, ⟨39, _⟩ => ⟨S32768x8x64, .f32⟩
  | .hbm, ⟨40, _⟩ => ⟨S1x32768x8x64, .f32⟩
  | .hbm, ⟨41, _⟩ => ⟨S1x32768x8x64, .f32⟩
  | .hbm, ⟨42, _⟩ => ⟨S1x32768x8x64, .f32⟩
  | .hbm, ⟨43, _⟩ => ⟨S3x32768x8x64, .f32⟩
  | .hbm, ⟨44, _⟩ => ⟨S3x32768x8x1, .f32⟩
  | .hbm, ⟨45, _⟩ => ⟨S3x32768x8x64, .f32⟩
  | .hbm, ⟨46, _⟩ => ⟨S3x32768x8x64, .f32⟩
  | .hbm, ⟨47, _⟩ => ⟨S_, .f32⟩
  | .hbm, ⟨48, _⟩ => ⟨S32768x8x64, .f32⟩
  | .hbm, ⟨49, _⟩ => ⟨S32768x512, .f32⟩
  | .hbm, ⟨50, _⟩ => ⟨S32768x512, .f32⟩
  | .hbm, ⟨51, _⟩ => ⟨S32768x1024, .f32⟩
  | .hbm, ⟨52, _⟩ => ⟨S32768x1024, .f32⟩
  | .hbm, ⟨53, _⟩ => ⟨S32768x1024, .f32⟩
  | .hbm, ⟨54, _⟩ => ⟨S32768x1024, .f32⟩
  | .hbm, ⟨55, _⟩ => ⟨S_, .f32⟩
  | .hbm, ⟨56, _⟩ => ⟨S32768, .f32⟩
  | .hbm, ⟨57, _⟩ => ⟨S32768x1, .f32⟩
  | .hbm, ⟨58, _⟩ => ⟨S_, .f32⟩
  | .hbm, ⟨59, _⟩ => ⟨S32768x1, .f32⟩
  | .hbm, ⟨60, _⟩ => ⟨S32768x1, .f32⟩
  | .hbm, ⟨61, _⟩ => ⟨S_, .f32⟩
  | .hbm, ⟨62, _⟩ => ⟨S32768x1, .f32⟩
  | .hbm, ⟨63, _⟩ => ⟨S32768x1, .f32⟩
  | .hbm, ⟨64, _⟩ => ⟨S32768x1, .f32⟩
  | .hbm, ⟨65, _⟩ => ⟨S32768x1024, .f32⟩
  | .hbm, ⟨66, _⟩ => ⟨S32768x1024, .f32⟩
  | .hbm, ⟨67, _⟩ => ⟨S1x1024, .f32⟩
  | .hbm, ⟨68, _⟩ => ⟨S32768x1024, .f32⟩
  | .hbm, ⟨69, _⟩ => ⟨S32768x1024, .f32⟩
  | .hbm, ⟨70, _⟩ => ⟨S32768x2816, .f32⟩
  | .hbm, ⟨71, _⟩ => ⟨S32768x2816, .f32⟩
  | .hbm, ⟨72, _⟩ => ⟨S32768x2816, .f32⟩
  | .hbm, ⟨73, _⟩ => ⟨S_, .f32⟩
  | .hbm, ⟨74, _⟩ => ⟨S32768x2816, .f32⟩
  | .hbm, ⟨75, _⟩ => ⟨S32768x2816, .f32⟩
  | .hbm, ⟨76, _⟩ => ⟨S_, .f32⟩
  | .hbm, ⟨77, _⟩ => ⟨S32768x2816, .f32⟩
  | .hbm, ⟨78, _⟩ => ⟨S32768x2816, .f32⟩
  | .hbm, ⟨79, _⟩ => ⟨S32768x2816, .f32⟩
  | .hbm, ⟨80, _⟩ => ⟨S32768x2816, .f32⟩
  | .hbm, ⟨81, _⟩ => ⟨S32768x2816, .f32⟩
  | .hbm, ⟨82, _⟩ => ⟨S32768x1024, .f32⟩
  | .hbm, ⟨83, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_2 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_3 : Ref sig .tc := ⟨.hbm, 55, rfl⟩
abbrev main_v38 : Ref sig .tc := ⟨.hbm, 56, rfl⟩
abbrev main_v39 : Ref sig .tc := ⟨.hbm, 57, rfl⟩
abbrev main_cst_4 : Ref sig .tc := ⟨.hbm, 58, rfl⟩
abbrev main_v40 : Ref sig .tc := ⟨.hbm, 59, rfl⟩
abbrev main_v41 : Ref sig .tc := ⟨.hbm, 60, rfl⟩
abbrev main_cst_5 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call0_v0 : Ref sig .tc := ⟨.hbm, 71, rfl⟩
abbrev main_call0_v1 : Ref sig .tc := ⟨.hbm, 72, rfl⟩
abbrev main_call0_cst : Ref sig .tc := ⟨.hbm, 73, rfl⟩
abbrev main_call0_v2 : Ref sig .tc := ⟨.hbm, 74, rfl⟩
abbrev main_call0_v3 : Ref sig .tc := ⟨.hbm, 75, rfl⟩
abbrev main_call0_cst_0 : Ref sig .tc := ⟨.hbm, 76, rfl⟩
abbrev main_call0_v4 : Ref sig .tc := ⟨.hbm, 77, rfl⟩
abbrev main_call0_v5 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩

abbrev nD : Nat := 1
abbrev τ : Topo := Topo.v7x

variable {F : FTy → Type} [FloatOps F]
-- ==== Proof.PostRows.lean ====
/-
  The second half of a layer, one token at a time: the row of the residual stream, its root-mean-square norm, and the
  gated feed-forward layer added to it. Both the kernels and the references are read as these functions.
-/
module

public import Idealize.ShloMosaic.Lib.Pointwise
public import Idealize.ShloMosaic.Lib.Pipeline.ValueKit

@[expose] public section

set_option maxRecDepth 16384

noncomputable section

open Idealize.ShloMosaic

namespace Cert.PostRows

/-- A row divided by its root mean square (the mean of the squares plus the printed epsilon), times the gain. -/
def rowNorm (w g : Fin 1024 → EReal) (k : Fin 1024) : EReal :=
  w k * Ideal.rsqrt (Ideal.div (∑ x, w x * w x) (Ideal.ofBits FTy.f32 1149239296#32) + Ideal.ofBits FTy.f32 897988541#32) * g k

/-- The rowHidden row: gate times sigmoid of gate times up. -/
def rowHidden (w g : Fin 1024 → EReal) (wg wu : Fin 1024 → Fin 2816 → EReal) (n : Fin 2816) : EReal :=
  (∑ x, rowNorm w g x * wg x n) * Ideal.logistic (∑ x, rowNorm w g x * wg x n) * ∑ x, rowNorm w g x * wu x n

/-- The row with the feed-forward layer's result added. -/
def rowFfn (w g : Fin 1024 → EReal) (wg wu : Fin 1024 → Fin 2816 → EReal) (wd : Fin 2816 → Fin 1024 → EReal) (q : Fin 1024) : EReal :=
  w q + ∑ n, rowHidden w g wg wu n * wd n q

end Cert.PostRows
end
-- ==== Proof.EvenPostRows.lean ====
module

public import proofs.«01_k».proof.Defs
public import proofs.«01_k».proof.Proof.PostRows
public import proofs.«01_k».proof.Proof.Gen.EvenPostIdeal.Value
public import proofs.«01_k».proof.Proof.Gen.RefEvenPostIdeal.Read

/-! The second half of the even sub-layer.  The kernel projects the two attention outputs back one after the other,
adds the residual and applies the feed-forward layer block by block; the reference joins the two outputs, projects
them at once and does the same on whole arrays.  Both are one function of each token's row. -/

@[expose] public section

set_option maxRecDepth 16384

noncomputable section

open Idealize.ShloMosaic Idealize.ShloMosaic.TcCoe Idealize.SL.Sem Cert.PostRows

namespace Cert.EvenPostIdeal.Rows
open Cert.EvenPostIdeal Cert.EvenPostIdeal.Gen

theorem pay2_apply (v0 : Vec Ideal S512x1024 .f32) (v1 : Vec Ideal S512x512 .bf16) (v2 : Vec Ideal S512x1024 .bf16) (v6 : Vec Ideal S512x512 .bf16) (v7 : Vec Ideal S512x1024 .bf16) (p : Fin 512) (q : Fin 1024) :
    k0_pay2 (F := Ideal) v0 v1 v2 v6 v7 (ix2 p q) = v0 (ix2 p q) + ∑ x : Fin 512, v1 (ix2 p x) * v2 (ix2 x q) + ∑ x : Fin 512, v6 (ix2 p x) * v7 (ix2 x q) := by
  pointwise [k0_pay2]

theorem pay1_apply (v10 : FVec Ideal S512x1024 .f32) (v35 : FVec Ideal S512x2816 .bf16) (v36 : Vec Ideal S2816x1024 .bf16) (p : Fin 512) (q : Fin 1024) :
    k0_pay1 (F := Ideal) v10 v35 v36 (ix2 p q) = v10 (ix2 p q) + ∑ x : Fin 2816, v35 (ix2 p x) * v36 (ix2 x q) := by
  pointwise [k0_pay1]

theorem pay3_apply (v0 : Vec Ideal S512x1024 .f32) (v1 : Vec Ideal S512x512 .bf16) (v2 : Vec Ideal S512x1024 .bf16) (v6 : Vec Ideal S512x512 .bf16) (v7 : Vec Ideal S512x1024 .bf16) (v21 : Vec Ideal S1x1024 .f32) (v26 v29 : Vec Ideal S1024x2816 .bf16) (p : Fin 512) (q : Fin 2816) :
    k0_pay3 (F := Ideal) v0 v1 v2 v6 v7 v21 v26 v29 (ix2 p q)
      = rowHidden (fun k => k0_pay2 (F := Ideal) v0 v1 v2 v6 v7 (ix2 p k)) (fun k => v21 (ix2 0 k)) (fun k n => v26 (ix2 k n)) (fun k n => v29 (ix2 k n)) q := by
  unfold k0_pay3
  generalize k0_pay2 (F := Ideal) v0 v1 v2 v6 v7 = w
  pointwise []
  rfl

variable (m : (ℓ : Loc nD τ sig) → Buf (Elt Ideal) ℓ) (c : Dev nD)

theorem idx : ∀ t : Fin grid0.N, win0_0.index t = ![(grid0.coords t 0).val, 0] ∧ win0_1.index t = ![(grid0.coords t 0).val, 0]
    ∧ win0_2.index t = ![(grid0.coords t 0).val, 0] ∧ win0_3.index t = ![0, 0] ∧ win0_4.index t = ![0, 0] ∧ win0_5.index t = ![0, 0]
    ∧ win0_6.index t = ![0, 0] ∧ win0_7.index t = ![0, 0] ∧ win0_8.index t = ![(grid0.coords t 0).val, 0] := by decide +kernel

/-- The residual stream after the attention's projection, at token `r`. -/
def mid (x0 : Vec Ideal S32768x1024 .f32) (x1 x2 : Vec Ideal S32768x512 .bf16) (x3 : Vec Ideal S1024x1024 .f32) (r : Fin 32768) (k : Fin 1024) : EReal :=
  x0 (ix2 r k) + ∑ x : Fin 512, x1 (ix2 r x) * x3 (ix2 ⟨↑x, by omega⟩ k) + ∑ x : Fin 512, x2 (ix2 r x) * x3 (ix2 ⟨512 + ↑x, by omega⟩ k)

/-- The result array, from the argument arrays. -/
def G (x0 : Vec Ideal S32768x1024 .f32) (x1 x2 : Vec Ideal S32768x512 .bf16) (x3 : Vec Ideal S1024x1024 .f32) (x4 : Vec Ideal S1024 .f32)
    (x5 x6 : Vec Ideal S1024x2816 .f32) (x7 : Vec Ideal S2816x1024 .f32) : Vec Ideal S32768x1024 .f32 := fun i =>
  rowFfn (mid x0 x1 x2 x3 (i 0)) (fun k => x4 (ix1 k)) (fun k n => x5 (ix2 k n)) (fun k n => x6 (ix2 k n)) (fun n k => x7 (ix2 n k)) (i 1)

/-- The token that row `p` of block `t` is. -/
def tok (t : Fin grid0.N) (p : Fin 512) : Fin 32768 := ⟨(grid0.coords t 0).val * 512 + ↑p, by have := (grid0.coords t 0).isLt; change _ < 64 at this; omega⟩

theorem blk0 (t : Fin grid0.N) (p : Fin 512) (k : Fin 1024) : iblk m c 0 t (ix2 p k) = m ((c.tc : Thread nD τ).loc main_arg0) (ix2 (tok t p) k) := by
  blk_ext [iblk, V, idx t, tok]
theorem blk1 (t : Fin grid0.N) (p : Fin 512) (k : Fin 512) : iblk m c 1 t (ix2 p k) = m ((c.tc : Thread nD τ).loc main_arg1) (ix2 (tok t p) k) := by
  blk_ext [iblk, V, idx t, tok]
theorem blk2 (t : Fin grid0.N) (p : Fin 512) (k : Fin 512) : iblk m c 2 t (ix2 p k) = m ((c.tc : Thread nD τ).loc main_arg2) (ix2 (tok t p) k) := by
  blk_ext [iblk, V, idx t, tok]
theorem blk3 (t : Fin grid0.N) (p k : Fin 1024) : iblk m c 3 t (ix2 p k) = m ((c.tc : Thread nD τ).loc main_arg3) (ix2 p k) := by
  blk_ext! [iblk, V, idx t]
theorem blk4 (t : Fin grid0.N) (k : Fin 1024) : iblk m c 4 t (ix2 0 k) = m ((c.tc : Thread nD τ).loc main_arg4) (ix1 k) := by
  blk_ext! [iblk, V, idx t]
theorem blk5 (t : Fin grid0.N) (k : Fin 1024) (n : Fin 2816) : iblk m c 5 t (ix2 k n) = m ((c.tc : Thread nD τ).loc main_arg5) (ix2 k n) := by
  blk_ext! [iblk, V, idx t]
theorem blk6 (t : Fin grid0.N) (k : Fin 1024) (n : Fin 2816) : iblk m c 6 t (ix2 k n) = m ((c.tc : Thread nD τ).loc main_arg6) (ix2 k n) := by
  blk_ext! [iblk, V, idx t]
theorem blk7 (t : Fin grid0.N) (n : Fin 2816) (k : Fin 1024) : iblk m c 7 t (ix2 n k) = m ((c.tc : Thread nD τ).loc main_arg7) (ix2 n k) := by
  blk_ext! [iblk, V, idx t]
theorem ld2 (t : Fin grid0.N) (x : Fin 512) (q : Fin 1024) :
    View.ld (iblk m c 3 t) r0_2 (ix2 x q) = m ((c.tc : Thread nD τ).loc main_arg3) (ix2 ⟨↑x, by omega⟩ q) := by
  refine Eq.trans ?_ (blk3 m c t ⟨↑x, by omega⟩ q)
  generalize iblk m c 3 t = X
  change View.ld (S := S1024x1024) X r0_2 (ix2 x q) = _
  pointwise []
theorem ld3 (t : Fin grid0.N) (x : Fin 512) (q : Fin 1024) :
    View.ld (iblk m c 3 t) r0_3 (ix2 x q) = m ((c.tc : Thread nD τ).loc main_arg3) (ix2 ⟨512 + ↑x, by omega⟩ q) := by
  refine Eq.trans ?_ (blk3 m c t ⟨512 + ↑x, by omega⟩ q)
  generalize iblk m c 3 t = X
  change View.ld (S := S1024x1024) X r0_3 (ix2 x q) = _
  pointwise []

theorem final : (dats m 0 c).arrAt 8 cfg0.N = G (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7)) := by
  refine (dats m 0 c).arrAt_eq_of_covers 8 _ (by decide +kernel) fun t hf y => ?_
  blk_simp
  rw [after0_8]
  frame_out
  obtain ⟨p, q, rfl⟩ : ∃ (p : Fin 512) (q : Fin 1024), y = ix2 p q := ⟨y 0, y 1, eq_ix2 y⟩
  have hy : ((View.whole main_v5).slice (win0_8.rect t)).emb (ix2 p q) = ix2 (tok t p) q := by
    blk_ext [idx t, tok]
  rw [hy, pay1_apply]
  simp only [pay3_apply, pay2_apply, ld2, ld3, blk0, blk1, blk2, blk3, blk4, blk5, blk6, blk7]
  rfl

end Cert.EvenPostIdeal.Rows

namespace Cert.RefEvenPostIdeal.Rows
open Cert.RefEvenPostIdeal Cert.RefEvenPostIdeal.Gen Cert.RefEvenPostIdeal.Read

variable (x0 : Vec Ideal S32768x1024 .f32) (x1 x2 : Vec Ideal S32768x512 .bf16) (x3 : Vec Ideal S1024x1024 .f32) (x4 : Vec Ideal S1024 .f32) (x5 x6 : Vec Ideal S1024x2816 .f32) (x7 : Vec Ideal S2816x1024 .f32)

theorem v4_apply (p : Fin 32768) (q : Fin 1024) :
    val_main_v4 (F := Ideal) x0 x1 x2 x3 (ix2 p q) = x0 (ix2 p q) + (∑ x : Fin 512, x1 (ix2 p x) * x3 (ix2 ⟨↑x, by omega⟩ q) + ∑ x : Fin 512, x2 (ix2 p x) * x3 (ix2 ⟨512 + ↑x, by omega⟩ q)) := by
  unfold val_main_v4 val_main_v3 val_main_v2 val_main_v1 val_main_v0
  pointwise []

theorem v17_apply (p : Fin 32768) (q : Fin 1024) :
    val_main_v17 (F := Ideal) x0 x1 x2 x3 x4 (ix2 p q) = rowNorm (fun k => val_main_v4 (F := Ideal) x0 x1 x2 x3 (ix2 p k)) (fun k => x4 (ix1 k)) q := by
  unfold val_main_v17 val_main_v16 val_main_v15 val_main_v14 val_main_v13 val_main_v12 val_main_v11 val_main_v10 val_main_v9 val_main_v8 val_main_v7 val_main_v6 val_main_v5 val_main_cst_1 val_main_cst_0 val_main_cst
  generalize val_main_v4 (F := Ideal) x0 x1 x2 x3 = w
  pointwise []
  rfl

theorem v21_apply (p : Fin 32768) (q : Fin 2816) :
    val_main_v21 (F := Ideal) x0 x1 x2 x3 x4 x5 x6 (ix2 p q) = rowHidden (fun k => val_main_v4 (F := Ideal) x0 x1 x2 x3 (ix2 p k)) (fun k => x4 (ix1 k)) (fun k n => x5 (ix2 k n)) (fun k n => x6 (ix2 k n)) q := by
  unfold val_main_v21 val_main_v20 val_main_v19 val_main_call0_v5 val_main_call0_v4 val_main_call0_v3 val_main_call0_v2 val_main_call0_v1 val_main_call0_v0 val_main_call0_cst val_main_call0_cst_0 val_main_v18
  simp only [rowHidden, ← v17_apply]
  generalize val_main_v17 (F := Ideal) x0 x1 x2 x3 x4 = w
  pointwise []
  rfl

theorem v23_apply (p : Fin 32768) (q : Fin 1024) :
    val_main_v23 (F := Ideal) x0 x1 x2 x3 x4 x5 x6 x7 (ix2 p q) = rowFfn (fun k => val_main_v4 (F := Ideal) x0 x1 x2 x3 (ix2 p k)) (fun k => x4 (ix1 k)) (fun k n => x5 (ix2 k n)) (fun k n => x6 (ix2 k n)) (fun n k => x7 (ix2 n k)) q := by
  unfold val_main_v23 val_main_v22
  simp only [rowFfn, ← v21_apply]
  generalize val_main_v21 (F := Ideal) x0 x1 x2 x3 x4 x5 x6 = w
  pointwise []

theorem value_eq : val_main_v23 (F := Ideal) x0 x1 x2 x3 x4 x5 x6 x7 = Cert.EvenPostIdeal.Rows.G x0 x1 x2 x3 x4 x5 x6 x7 := by
  funext i
  obtain ⟨p, q, rfl⟩ : ∃ (p : Fin 32768) (q : Fin 1024), i = ix2 p q := ⟨i 0, i 1, eq_ix2 i⟩
  rw [v23_apply]
  simp only [v4_apply, ← add_assoc]
  rfl

end Cert.RefEvenPostIdeal.Rows

namespace Cert.Proof

theorem algebraic_even_post : Cert.algebraic_EvenPostIdeal_RefEvenPostIdeal := by
  pair_intro
  · run_from Cert.EvenPostIdeal.Value.run_blocks m g
  · run_from Cert.RefEvenPostIdeal.Value.run m' g'
    rw [Cert.RefEvenPostIdeal.Read.val_main_v23_eq, Cert.RefEvenPostIdeal.Rows.value_eq, Cert.EvenPostIdeal.Rows.final]
    obtain ⟨h0, h1, h2, h3, h4, h5, h6, h7⟩ := hagree c
    rw [h0, h1, h2, h3, h4, h5, h6, h7]

end Cert.Proof
end
-- ==== Proof.RealRows.lean ====
module

public import Idealize.ShloMosaic.Lib.ReduceAll
public import Idealize.ShloMosaic.Lib.Pointwise
public import Idealize.ShloMosaic.PureOps.Ideal

/-! Real numbers among the extended reals: reading the preconditions that say an array is finite, sums of reals,
and the constants at the two ends. -/

@[expose] public section

noncomputable section

open Idealize.ShloMosaic

namespace Cert.RealRows

theorem ofBits_neg_inf : Ideal.ofBits FTy.f32 4286578688#32 = ⊥ := by simp [Ideal.ofBits, Ideal.ieee]
theorem ofBits_inf : Ideal.ofBits FTy.f32 2139095040#32 = ⊤ := by simp [Ideal.ofBits, Ideal.ieee]

/-- An extended real is a real number. -/
def IsReal (x : EReal) : Prop := ∃ r : ℝ, x = (r : EReal)

theorem isReal_of_ne {x : EReal} (hb : x ≠ ⊥) (ht : x ≠ ⊤) : IsReal x := ⟨x.toReal, (EReal.coe_toReal ht hb).symm⟩

/-- What the precondition's comparison says of one entry. -/
theorem isReal_of_abs_lt {x : EReal} (h : Ideal.cmp .olt (max x (-x)) ⊤ = 1#1) : IsReal x := by
  have h' : max x (-x) < ⊤ := by
    by_contra hn
    simp [Ideal.cmp, hn] at h
  refine isReal_of_ne (fun e => ?_) (fun e => ?_) <;> simp [e] at h'

theorem andi_one {a b : BitVec 1} (h : IntOp.andi a b = 1#1) : a = 1#1 ∧ b = 1#1 := by
  revert h; revert a b; decide

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_max (a b : ℝ) : max (a : EReal) (b : EReal) = ((max a b : ℝ) : EReal) :=
  (EReal.coe_strictMono.monotone.map_max).symm

end Cert.RealRows
end
-- ==== Proof.AttnReal.lean ====
module

public import proofs.«01_k».proof.Proof.RealRows

/-! One row of attention over the reals, in powers of two.  A row's scores are real numbers or, where the causal mask
hides the key, minus infinity.  The facts here say what a softmax of such a row is, how a running maximum and the sums
scaled by it take in one more block of keys, and how the sum over all keys splits into the blocks that a row meets. -/

@[expose] public section

noncomputable section

open Idealize.ShloMosaic Cert.RealRows

namespace Cert.Attn

/-- What key `i` weighs: two to its score, or nothing if it is masked. -/
def wt {n : ℕ} (P : Fin n → Prop) [DecidablePred P] (t : Fin n → ℝ) (i : Fin n) : ℝ := if P i then (2 : ℝ) ^ t i else 0

theorem two_rpow_sub (a b : ℝ) : (2 : ℝ) ^ (a - b) = (2 : ℝ) ^ (-b) * (2 : ℝ) ^ a := by
  rw [← Real.rpow_add two_pos]; congr 1; ring

theorem exp2_real (x : ℝ) : Ideal.exp2 (x : EReal) = (((2 : ℝ) ^ x : ℝ) : EReal) := Ideal.exp2_coe x

theorem pow_real (x : ℝ) : Ideal.pow ((2 : ℝ) : EReal) (x : EReal) = (((2 : ℝ) ^ x : ℝ) : EReal) := Ideal.pow_coe_coe 2 x

theorem coe_sub' (a b : ℝ) : (a : EReal) - (b : EReal) = ((a - b : ℝ) : EReal) := (EReal.coe_sub a b).symm

section Row
variable {n : ℕ} (P : Fin n → Prop) [DecidablePred P] (t : Fin n → ℝ) (s : Fin n → EReal)

/-- The maximum of a row with at least one key is a real number. -/
theorem row_max (hs : ∀ i, s i = if P i then (t i : EReal) else ⊥) (hP : ∃ i, P i) :
    ∃ M : ℝ, Finset.univ.fold max ⊥ s = (M : EReal) := by
  obtain ⟨i, hi⟩ := hP
  refine isReal_of_ne (fun e => ?_) (fun e => ?_)
  · have h : ⊥ < Finset.univ.fold max ⊥ s := by
      rw [Finset.lt_fold_max]
      exact Or.inr ⟨i, Finset.mem_univ _, by rw [hs, if_pos hi]; exact EReal.bot_lt_coe _⟩
    exact absurd e h.ne'
  · have h : Finset.univ.fold max ⊥ s < ⊤ := by
      rw [Finset.fold_max_lt]
      refine ⟨bot_lt_top, fun j _ => ?_⟩
      rw [hs]
      split
      · exact EReal.coe_lt_top _
      · exact bot_lt_top
    exact absurd e h.ne

/-- The exponential of a score less a real number. -/
theorem exp2_score (hs : ∀ i, s i = if P i then (t i : EReal) else ⊥) (M : ℝ) (i : Fin n) :
    Ideal.exp2 (s i - (M : EReal)) = (((2 : ℝ) ^ (-M) * wt P t i : ℝ) : EReal) := by
  rw [hs, wt]
  split
  · rw [coe_sub', exp2_real, two_rpow_sub]
  · rw [EReal.bot_sub, Ideal.exp2_bot, mul_zero, EReal.coe_zero]

/-- The same with the power written out. -/
theorem pow_score (hs : ∀ i, s i = if P i then (t i : EReal) else ⊥) (M : ℝ) (i : Fin n) :
    Ideal.pow ((2 : ℝ) : EReal) (s i - (M : EReal)) = (((2 : ℝ) ^ (-M) * wt P t i : ℝ) : EReal) := by
  rw [hs, wt]
  split
  · rw [coe_sub', pow_real, two_rpow_sub]
  · rw [EReal.bot_sub, Ideal.pow_coe_bot, mul_zero, EReal.coe_zero]; norm_num

theorem sum_wt_pos (hP : ∃ i, P i) : 0 < ∑ i, wt P t i := by
  obtain ⟨i, hi⟩ := hP
  refine Finset.sum_pos' (fun j _ => ?_) ⟨i, Finset.mem_univ _, ?_⟩
  · rw [wt]; split
    · exact (Real.rpow_pos_of_pos two_pos _).le
    · exact le_rfl
  · rw [wt, if_pos hi]; exact Real.rpow_pos_of_pos two_pos _

end Row

/-! ### The running maximum and the sums scaled by it -/

/-- The state of a row: some real `M`, and the sums `A` and `C` scaled by two to `-M`. -/
def Row (m l : EReal) (acc : Fin 128 → EReal) (A : ℝ) (C : Fin 128 → ℝ) : Prop :=
  ∃ M : ℝ, m = (M : EReal) ∧ l = (((2 : ℝ) ^ (-M) * A : ℝ) : EReal) ∧ ∀ d, acc d = (((2 : ℝ) ^ (-M) * C d : ℝ) : EReal)

/-- The first block of a row. -/
theorem Row.start {n : ℕ} (P : Fin n → Prop) [DecidablePred P] (t : Fin n → ℝ) (s : Fin n → EReal) (v : Fin n → Fin 128 → EReal)
    (w : Fin n → Fin 128 → ℝ) (hs : ∀ i, s i = if P i then (t i : EReal) else ⊥) (hP : ∃ i, P i) (hv : ∀ i d, v i d = (w i d : EReal)) :
    Row (Finset.univ.fold max ⊥ s) (∑ i, Ideal.exp2 (s i - Finset.univ.fold max ⊥ s))
      (fun d => ∑ i, Ideal.exp2 (s i - Finset.univ.fold max ⊥ s) * v i d) (∑ i, wt P t i) (fun d => ∑ i, wt P t i * w i d) := by
  obtain ⟨M, hM⟩ := row_max P t s hs hP
  rw [hM]
  refine ⟨M, rfl, ?_, fun d => ?_⟩
  · simp only [exp2_score P t s hs, coe_sum, Finset.mul_sum]
  · simp only [exp2_score P t s hs, hv, ← EReal.coe_mul, coe_sum, Finset.mul_sum, mul_assoc]

/-- One more block of keys, none of them masked. -/
theorem Row.step {n : ℕ} [NeZero n] {m l : EReal} {acc : Fin 128 → EReal} {A : ℝ} {C : Fin 128 → ℝ} (h : Row m l acc A C)
    (t : Fin n → ℝ) (s : Fin n → EReal) (v : Fin n → Fin 128 → EReal) (w : Fin n → Fin 128 → ℝ) (hs : ∀ i, s i = (t i : EReal))
    (hv : ∀ i d, v i d = (w i d : EReal)) :
    Row (max m (Finset.univ.fold max ⊥ s))
      (Ideal.exp2 (m - max m (Finset.univ.fold max ⊥ s)) * l + ∑ i, Ideal.exp2 (s i - max m (Finset.univ.fold max ⊥ s)))
      (fun d => Ideal.exp2 (m - max m (Finset.univ.fold max ⊥ s)) * acc d + ∑ i, Ideal.exp2 (s i - max m (Finset.univ.fold max ⊥ s)) * v i d)
      (A + ∑ i, (2 : ℝ) ^ t i) (fun d => C d + ∑ i, (2 : ℝ) ^ t i * w i d) := by
  obtain ⟨M, rfl, rfl, hacc⟩ := h
  have hs' : ∀ i, s i = if (fun _ : Fin n => True) i then (t i : EReal) else ⊥ := fun i => by rw [hs, if_pos trivial]
  obtain ⟨N, hN⟩ := row_max (fun _ => True) t s hs' ⟨0, trivial⟩
  rw [hN, coe_max]
  generalize max M N = K
  have e1 : ∀ i, Ideal.exp2 (s i - (K : EReal)) = (((2 : ℝ) ^ (-K) * (2 : ℝ) ^ t i : ℝ) : EReal) := fun i => by
    rw [exp2_score _ t s hs', wt, if_pos trivial]
  have e2 : ∀ a : ℝ, (2 : ℝ) ^ (M - K) * ((2 : ℝ) ^ (-M) * a) = (2 : ℝ) ^ (-K) * a := fun a => by
    rw [← mul_assoc, ← Real.rpow_add two_pos]; congr 2; ring
  refine ⟨K, rfl, ?_, fun d => ?_⟩
  · rw [coe_sub', exp2_real]
    simp only [e1, coe_sum, ← EReal.coe_mul, ← EReal.coe_add, e2, ← Finset.mul_sum, ← mul_add]
  · rw [coe_sub', exp2_real]
    simp only [e1, hv, hacc, coe_sum, ← EReal.coe_mul, ← EReal.coe_add, e2, mul_assoc, ← Finset.mul_sum, ← mul_add]

/-- The quotient that a row ends with. -/
theorem Row.quot {m l : EReal} {acc : Fin 128 → EReal} {A : ℝ} {C : Fin 128 → ℝ} (h : Row m l acc A C) (hA : 0 < A) (d : Fin 128) :
    Ideal.div (acc d) l = ((C d / A : ℝ) : EReal) := by
  obtain ⟨M, -, rfl, hacc⟩ := h
  have hp : (0 : ℝ) < (2 : ℝ) ^ (-M) := Real.rpow_pos_of_pos two_pos _
  rw [hacc, Ideal.div_coe (by positivity), ← EReal.coe_mul]
  congr 1
  field_simp

/-! ### The sums without a maximum, one partial sum per lane -/

/-- The state of a row: real partial sums with sum `A`, and the sums `C`. -/
def Part (l acc : Fin 128 → EReal) (A : ℝ) (C : Fin 128 → ℝ) : Prop :=
  (∃ L : Fin 128 → ℝ, (∀ i, l i = (L i : EReal)) ∧ ∑ i, L i = A) ∧ ∀ d, acc d = (C d : EReal)

/-- Lane `j` of chunk `k` of a block of 512 keys. -/
def chunk (k : ℕ) (j : Fin 128) (hk : k < 4) : Fin 512 := ⟨128 * k + j.val, by omega⟩

theorem sum_chunks (f : Fin 512 → ℝ) :
    ∑ j : Fin 128, (f (chunk 0 j (by decide)) + f (chunk 1 j (by decide)) + f (chunk 2 j (by decide)) + f (chunk 3 j (by decide))) = ∑ i, f i := by
  have h : ∑ i : Fin 512, f i = ∑ k : Fin 4, ∑ j : Fin 128, f (finProdFinEquiv (k, j)) := by
    rw [← Fintype.sum_prod_type']
    exact (Equiv.sum_comp (finProdFinEquiv (m := 4) (n := 128)) f).symm
  rw [h, Fin.sum_univ_four, ← Finset.sum_add_distrib, ← Finset.sum_add_distrib, ← Finset.sum_add_distrib]
  refine Finset.sum_congr rfl fun j _ => ?_
  congr 1
  · congr 1
    · congr 1 <;> exact congrArg f (Fin.ext (by simp [chunk, finProdFinEquiv]; try omega))
    · exact congrArg f (Fin.ext (by simp [chunk, finProdFinEquiv]; try omega))
  · exact congrArg f (Fin.ext (by simp [chunk, finProdFinEquiv]; try omega))

/-- The weights of a block, summed lane by lane, and the weighted values. -/
theorem Part.start (u : Fin 512 → ℝ) (p : Fin 512 → EReal) (v : Fin 512 → Fin 128 → EReal) (w : Fin 512 → Fin 128 → ℝ)
    (hp : ∀ i, p i = (u i : EReal)) (hv : ∀ i d, v i d = (w i d : EReal)) :
    Part (fun j => p (chunk 0 j (by decide)) + p (chunk 1 j (by decide)) + p (chunk 2 j (by decide)) + p (chunk 3 j (by decide)))
      (fun d => ∑ i, p i * v i d) (∑ i, u i) (fun d => ∑ i, u i * w i d) := by
  refine ⟨⟨_, fun j => ?_, sum_chunks u⟩, fun d => ?_⟩
  · simp only [hp, ← EReal.coe_add]
  · simp only [hp, hv, ← EReal.coe_mul, coe_sum]

/-- One more block. -/
theorem Part.step {l acc : Fin 128 → EReal} {A : ℝ} {C : Fin 128 → ℝ} (h : Part l acc A C) (u : Fin 512 → ℝ) (p : Fin 512 → EReal)
    (v : Fin 512 → Fin 128 → EReal) (w : Fin 512 → Fin 128 → ℝ) (hp : ∀ i, p i = (u i : EReal)) (hv : ∀ i d, v i d = (w i d : EReal)) :
    Part (fun j => l j + (p (chunk 0 j (by decide)) + p (chunk 1 j (by decide)) + p (chunk 2 j (by decide)) + p (chunk 3 j (by decide))))
      (fun d => acc d + ∑ i, p i * v i d) (A + ∑ i, u i) (fun d => C d + ∑ i, u i * w i d) := by
  obtain ⟨⟨L, hl, rfl⟩, hacc⟩ := h
  obtain ⟨⟨L', hl', hA'⟩, hacc'⟩ := Part.start u p v w hp hv
  refine ⟨⟨fun j => L j + L' j, fun j => ?_, ?_⟩, fun d => ?_⟩
  · exact (congrArg₂ (· + ·) (hl j) (hl' j)).trans (EReal.coe_add _ _).symm
  · rw [Finset.sum_add_distrib, hA']
  · exact (congrArg₂ (· + ·) (hacc d) (hacc' d)).trans (EReal.coe_add _ _).symm

/-- The quotient that a row ends with. -/
theorem Part.quot {l acc : Fin 128 → EReal} {A : ℝ} {C : Fin 128 → ℝ} (h : Part l acc A C) (hA : 0 < A) (d : Fin 128) :
    Ideal.div (acc d) (∑ i, l i) = ((C d / A : ℝ) : EReal) := by
  obtain ⟨⟨L, hl, rfl⟩, hacc⟩ := h
  simp only [hl, coe_sum]
  rw [hacc, Ideal.div_coe hA.ne', ← EReal.coe_mul]
  congr 1
  field_simp

/-! ### The keys that a row meets, block by block -/

/-- The sum over the keys up to the row's own: the row's block up to the diagonal, and the whole blocks before it. -/
theorem sum_causal (f : ℕ → ℝ) (q x : ℕ) (hq : q < 16) (hx : x < 512) :
    ∑ k : Fin 8192, (if k.val ≤ 512 * q + x then f k.val else 0)
      = ∑ i : Fin 512, (if i.val ≤ x then f (512 * q + i.val) else 0) + ∑ j ∈ Finset.range q, ∑ i : Fin 512, f (512 * j + i.val) := by
  have h1 : ∀ N : ℕ, ∑ k ∈ Finset.range (512 * N), (if k ≤ 512 * q + x then f k else 0)
      = ∑ j ∈ Finset.range N, ∑ i : Fin 512, (if 512 * j + i.val ≤ 512 * q + x then f (512 * j + i.val) else 0) := by
    intro N
    induction N with
    | zero => simp
    | succ N ih =>
      rw [Nat.mul_succ, Finset.sum_range_add, ih,
        Finset.sum_range (fun i => if 512 * N + i ≤ 512 * q + x then f (512 * N + i) else 0), Finset.sum_range_succ]
  have h2 : ∀ j ∈ Finset.range 16, j ∉ Finset.range (q + 1) →
      ∑ i : Fin 512, (if 512 * j + i.val ≤ 512 * q + x then f (512 * j + i.val) else 0) = 0 := by
    intro j _ hj
    rw [Finset.mem_range] at hj
    exact Finset.sum_eq_zero fun i _ => if_neg (by omega)
  rw [← Finset.sum_range (fun k => if k ≤ 512 * q + x then f k else 0), show 8192 = 512 * 16 from rfl, h1,
    ← Finset.sum_subset (Finset.range_subset_range.2 (by omega)) h2, Finset.sum_range_succ, add_comm]
  congr 1
  · refine Finset.sum_congr rfl fun i _ => ?_
    by_cases h : i.val ≤ x
    · rw [if_pos h, if_pos (by omega)]
    · rw [if_neg h, if_neg (by omega)]
  · refine Finset.sum_congr rfl fun j hj => Finset.sum_congr rfl fun i _ => if_pos ?_
    have := Finset.mem_range.1 hj
    omega

/-! ### The layer's formula -/

/-- Column `d` of head `h`. -/
def col (h : Fin 4) (d : Fin 128) : Fin 512 := ⟨h.val * 128 + d.val, by omega⟩

/-- Position `k` of the sequence that token `r` belongs to. -/
def krow (r : Fin 32768) (k : ℕ) : Fin 32768 := ⟨(r.val / 8192 * 8192 + k) % 32768, by omega⟩

variable (Q K V : Fin 32768 → Fin 512 → ℝ) (r : Fin 32768) (h : Fin 4)

/-- The score of token `r` against position `k` of its sequence. -/
def score (k : ℕ) : ℝ := ∑ d : Fin 128, Q r (col h d) * K (krow r k) (col h d)

/-- The sum of the weights of the positions up to the token's own. -/
def den : ℝ := ∑ k : Fin 8192, if k.val ≤ r.val % 8192 then (2 : ℝ) ^ score Q K r h k.val else 0

/-- The weighted sum of the values at these positions. -/
def num (d : Fin 128) : ℝ :=
  ∑ k : Fin 8192, if k.val ≤ r.val % 8192 then (2 : ℝ) ^ score Q K r h k.val * V (krow r k.val) (col h d) else 0

theorem den_pos : 0 < den Q K r h :=
  sum_wt_pos (fun k : Fin 8192 => k.val ≤ r.val % 8192) (fun k => score Q K r h k.val) ⟨⟨0, by decide⟩, Nat.zero_le _⟩

/-- The weights of the positions up to a token's own: those of its own block of 512, and those of the blocks before. -/
theorem den_split (q : ℕ) (p : Fin 512) (hq : q < 16) (hr : r.val % 8192 = 512 * q + p.val) : den Q K r h
    = ∑ i, wt (fun i : Fin 512 => i.val ≤ p.val) (fun n => score Q K r h (512 * q + n.val)) i
      + ∑ b ∈ Finset.range q, ∑ n : Fin 512, (2 : ℝ) ^ score Q K r h (512 * b + n.val) := by
  unfold den
  rw [hr]
  exact sum_causal (fun k => (2 : ℝ) ^ score Q K r h k) _ _ hq p.isLt

/-- The same of the weighted values. -/
theorem num_split (q : ℕ) (p : Fin 512) (hq : q < 16) (hr : r.val % 8192 = 512 * q + p.val) : num Q K V r h
    = fun d => ∑ i, wt (fun i : Fin 512 => i.val ≤ p.val) (fun n => score Q K r h (512 * q + n.val)) i * V (krow r (512 * q + i.val)) (col h d)
      + ∑ b ∈ Finset.range q, ∑ n : Fin 512, (2 : ℝ) ^ score Q K r h (512 * b + n.val) * V (krow r (512 * b + n.val)) (col h d) := by
  funext d
  unfold num
  rw [hr, sum_causal (fun k => (2 : ℝ) ^ score Q K r h k * V (krow r k) (col h d)) _ _ hq p.isLt]
  simp only [wt, ite_mul, zero_mul]

/-- The difference of the two maps, at one column of the head. -/
def att (Q1 Q2 K1 K2 V : Fin 32768 → Fin 512 → ℝ) (lam : EReal) (r : Fin 32768) (h : Fin 4) (d : Fin 128) : EReal :=
  ((num Q1 K1 V r h d / den Q1 K1 r h : ℝ) : EReal) - lam * ((num Q2 K2 V r h d / den Q2 K2 r h : ℝ) : EReal)

/-- How much of the second map is taken away. -/
def lamOf (a b c d : Fin 64 → EReal) : EReal :=
  Ideal.exp (∑ i, a i * b i) - Ideal.exp (∑ i, c i * d i) + Ideal.ofBits FTy.f32 0x3E4CCCCD#32

/-- A head's output divided by its root mean square, with a gain and the layer's constant factor. -/
def normed (o : Fin 128 → EReal) (g : EReal) (d : Fin 128) : EReal :=
  o d * Ideal.rsqrt (Ideal.div (∑ j, o j * o j) (Ideal.ofBits FTy.f32 0x43000000#32) + Ideal.ofBits FTy.f32 0x358637BD#32) * g
    * Ideal.ofBits FTy.f32 0x3F4CCCCD#32

theorem dot_eq (a b : Fin 128 → EReal) (f g : Fin 128 → ℝ) (ha : ∀ d, a d = (f d : EReal)) (hb : ∀ d, b d = (g d : EReal)) :
    ∑ d, a d * b d = ((∑ d, f d * g d : ℝ) : EReal) := by
  simp only [ha, hb, ← EReal.coe_mul, coe_sum]

theorem normed_congr {o o' : Fin 128 → EReal} (h : o = o') (g : EReal) (d : Fin 128) : normed o g d = normed o' g d := by rw [h]

/-- The layer's output at token `r` and column `e`. -/
def outAt (Q1 Q2 K1 K2 V : Fin 32768 → Fin 512 → ℝ) (lam : EReal) (gain : Fin 128 → EReal) (r : Fin 32768) (e : Fin 512) : EReal :=
  normed (att Q1 Q2 K1 K2 V lam r ⟨e.val / 128, by omega⟩) (gain ⟨e.val % 128, by omega⟩) ⟨e.val % 128, by omega⟩

end Cert.Attn
end
-- ==== Proof.DiffOnlineRows.lean ====
module

public import proofs.«01_k».proof.Proof.Gen.DiffOnlineIdeal.Value
public import proofs.«01_k».proof.Proof.AttnReal
public import proofs.«01_k».proof.Proof.PostRows

/-! The differential attention with running maxima, read at an index: each row carries a maximum, and the sums taken
over the keys met so far, divided by a power of two of that maximum. -/

@[expose] public section

set_option maxRecDepth 16384

noncomputable section

open Idealize.ShloMosaic Idealize.ShloMosaic.TcCoe Idealize.SL.Sem Cert.RealRows Cert.Attn

namespace Cert.DiffOnlineIdeal.Rows
open Cert.DiffOnlineIdeal Cert.DiffOnlineIdeal.Gen

abbrev St : Type := FVec Ideal S512x1 .f32 × FVec Ideal S512x1 .f32 × FVec Ideal S512x128 .f32 × FVec Ideal S512x1 .f32 × FVec Ideal S512x1 .f32 × FVec Ideal S512x128 .f32

/-! ### The two blocks of operations, at an index -/

section Payloads
variable (v0 v7 v5 : Vec Ideal S512x128 .bf16) (a b : FVec Ideal S512x1 .f32) (acc : FVec Ideal S512x128 .f32) (p i : Fin 512) (d : Fin 128)

theorem mask_eq (x : EReal) : Scalar.select (IntOp.cmpi CmpIPredicate.sgt (BitVec.ofNat 32 i.val) (BitVec.ofNat 32 p.val)) (Named.named (F := Ideal) κ "mask" (φ := FTy.f32) 0xF149F2CA#32) x
    = if i.val ≤ p.val then x else ⊥ := by
  have e : (Named.named (F := Ideal) κ "mask" (φ := FTy.f32) 0xF149F2CA#32) = (⊥ : EReal) := IdealRules.named_const.ideal_named_scalar κ "mask" _ _ rfl
  rw [e, WordCmp.cmpi_sgt_ofNat (w := 32) (a := i.val) (b := p.val) (by omega) (by omega)]
  by_cases h : i.val ≤ p.val
  · rw [if_pos h, decide_eq_false (by omega)]; rfl
  · rw [if_neg h, decide_eq_true (by omega)]; rfl

/-- The masked scores of the diagonal block. -/
theorem pay2_apply : k0_pay2 (F := Ideal) v0 v7 (ix2 p i) = if i.val ≤ p.val then ∑ x : Fin 128, v0 (ix2 p x) * v7 (ix2 i x) else ⊥ := by
  unfold k0_pay2; pointwise []; exact mask_eq p i _
theorem pay3_apply : k0_pay3 (F := Ideal) v0 v7 (ix2 p 0) = Finset.univ.fold max ⊥ (fun x => k0_pay2 (F := Ideal) v0 v7 (ix2 p x)) := by
  unfold k0_pay3; generalize k0_pay2 v0 v7 = w; pointwise []; rw [ofBits_neg_inf]
theorem pay4_apply : k0_pay4 (F := Ideal) v0 v7 (ix2 p i) = Ideal.exp2 (k0_pay2 (F := Ideal) v0 v7 (ix2 p i) - k0_pay3 (F := Ideal) v0 v7 (ix2 p 0)) := by
  unfold k0_pay4; generalize k0_pay2 v0 v7 = w; generalize k0_pay3 v0 v7 = w'; pointwise []; rfl
theorem pay5_apply : k0_pay5 (F := Ideal) v0 v7 (ix2 p 0) = ∑ x, k0_pay4 (F := Ideal) v0 v7 (ix2 p x) := by
  unfold k0_pay5; generalize k0_pay4 v0 v7 = w; pointwise []
theorem pay6_apply : k0_pay6 (F := Ideal) v0 v5 v7 (ix2 p d) = ∑ x, k0_pay4 (F := Ideal) v0 v7 (ix2 p x) * v5 (ix2 x d) := by
  unfold k0_pay6; generalize k0_pay4 v0 v7 = w; pointwise []
theorem pay13_apply : k0_pay13 (F := Ideal) v0 v7 (ix2 p i) = ∑ x : Fin 128, v0 (ix2 p x) * v7 (ix2 i x) := by
  unfold k0_pay13; pointwise []
theorem pay14_apply : k0_pay14 (F := Ideal) v0 a v7 (ix2 p 0) = max (a (ix2 p 0)) (Finset.univ.fold max ⊥ (fun x => k0_pay13 (F := Ideal) v0 v7 (ix2 p x))) := by
  unfold k0_pay14; generalize k0_pay13 v0 v7 = w; pointwise []; rw [ofBits_neg_inf]
theorem pay15_apply : k0_pay15 (F := Ideal) v0 a v7 (ix2 p 0) = Ideal.exp2 (a (ix2 p 0) - k0_pay14 (F := Ideal) v0 a v7 (ix2 p 0)) := by
  unfold k0_pay15; generalize k0_pay14 v0 a v7 = w; pointwise []; rfl
theorem pay16_apply : k0_pay16 (F := Ideal) v0 a v7 (ix2 p i) = Ideal.exp2 (k0_pay13 (F := Ideal) v0 v7 (ix2 p i) - k0_pay14 (F := Ideal) v0 a v7 (ix2 p 0)) := by
  unfold k0_pay16; generalize k0_pay13 v0 v7 = w; generalize k0_pay14 v0 a v7 = w'; pointwise []; rfl
theorem pay17_apply : k0_pay17 (F := Ideal) v0 a b v7 (ix2 p 0) = k0_pay15 (F := Ideal) v0 a v7 (ix2 p 0) * b (ix2 p 0) + ∑ x, k0_pay16 (F := Ideal) v0 a v7 (ix2 p x) := by
  unfold k0_pay17; generalize k0_pay16 v0 a v7 = w; generalize k0_pay15 v0 a v7 = w'; pointwise []
theorem pay18_apply : k0_pay18 (F := Ideal) v0 a acc v5 v7 (ix2 p d) = k0_pay15 (F := Ideal) v0 a v7 (ix2 p 0) * acc (ix2 p d) + ∑ x, k0_pay16 (F := Ideal) v0 a v7 (ix2 p x) * v5 (ix2 x d) := by
  unfold k0_pay18; generalize k0_pay16 v0 a v7 = w; generalize k0_pay15 v0 a v7 = w'; pointwise []

/-- The block that is written, from the two maps' sums. -/
theorem pay37_apply (b' : FVec Ideal S512x1 .f32) (acc' : FVec Ideal S512x128 .f32) (l : Vec Ideal S4x64 .f32) (g : Vec Ideal S1x128 .f32) :
    k0_pay1 (F := Ideal) (k0_pay37 b acc b' acc' l g) (ix2 p d)
      = normed (fun x => Ideal.div (acc (ix2 p x)) (b (ix2 p 0))
          - lamOf (fun x => l (ix2 0 x)) (fun x => l (ix2 1 x)) (fun x => l (ix2 2 x)) (fun x => l (ix2 3 x)) * Ideal.div (acc' (ix2 p x)) (b' (ix2 p 0))) (g (ix2 0 d)) d := by
  unfold k0_pay1 k0_pay37; pointwise []; rfl

/-- The first block of keys of a row, the one on the diagonal. -/
theorem first_row (t : Fin 512 → ℝ) (w : Fin 512 → Fin 128 → ℝ) (hs : ∀ i, ∑ x : Fin 128, v0 (ix2 p x) * v7 (ix2 i x) = (t i : EReal))
    (hv : ∀ i d, v5 (ix2 i d) = (w i d : EReal)) :
    Row (k0_pay3 (F := Ideal) v0 v7 (ix2 p 0)) (k0_pay5 (F := Ideal) v0 v7 (ix2 p 0)) (fun d => k0_pay6 (F := Ideal) v0 v5 v7 (ix2 p d))
      (∑ i, wt (fun i : Fin 512 => i.val ≤ p.val) t i) (fun d => ∑ i, wt (fun i : Fin 512 => i.val ≤ p.val) t i * w i d) := by
  simp only [pay6_apply, pay5_apply, pay4_apply, pay3_apply]
  exact Row.start _ t _ (fun i d => v5 (ix2 i d)) w (fun i => by rw [pay2_apply, hs]) ⟨p, le_rfl⟩ hv

/-- One more block of keys. -/
theorem next_row {A : ℝ} {C : Fin 128 → ℝ} (h : Row (a (ix2 p 0)) (b (ix2 p 0)) (fun d => acc (ix2 p d)) A C)
    (t : Fin 512 → ℝ) (w : Fin 512 → Fin 128 → ℝ) (hs : ∀ i, ∑ x : Fin 128, v0 (ix2 p x) * v7 (ix2 i x) = (t i : EReal))
    (hv : ∀ i d, v5 (ix2 i d) = (w i d : EReal)) :
    Row (k0_pay14 (F := Ideal) v0 a v7 (ix2 p 0)) (k0_pay17 (F := Ideal) v0 a b v7 (ix2 p 0)) (fun d => k0_pay18 (F := Ideal) v0 a acc v5 v7 (ix2 p d))
      (A + ∑ i, (2 : ℝ) ^ t i) (fun d => C d + ∑ i, (2 : ℝ) ^ t i * w i d) := by
  simp only [pay18_apply, pay17_apply, pay16_apply, pay15_apply, pay14_apply]
  exact h.step t _ (fun i d => v5 (ix2 i d)) w (fun i => by rw [pay13_apply, hs]) hv

end Payloads

/-! ### The loop over the blocks before the diagonal -/

theorem ld_tile (X : Vec Ideal S8192x128 .bf16) (off : Fin 2 → ℕ) (h) (j : ℕ) (hj : off = ![512 * j, 0]) (x : Fin 512) (d : Fin 128) (hb : 512 * j + x.val < 8192) :
    View.ld (S := S8192x128) X (Rect.unit (s := S8192x128) off ![512, 128] h) (ix2 x d) = X (ix2 ⟨512 * j + x.val, hb⟩ d) := by
  subst hj
  refine View.ld_unit_apply_of X _ _ _ _ _ fun a => ?_
  match a with
  | 0 => rfl
  | 1 => exact (Nat.zero_add _).symm

/-- Both maps' states at row `p`. -/
def Both (S : St) (p : Fin 512) (A1 : ℝ) (C1 : Fin 128 → ℝ) (A2 : ℝ) (C2 : Fin 128 → ℝ) : Prop :=
  Row (S.1 (ix2 p 0)) (S.2.1 (ix2 p 0)) (fun d => S.2.2.1 (ix2 p d)) A1 C1
    ∧ Row (S.2.2.2.1 (ix2 p 0)) (S.2.2.2.2.1 (ix2 p 0)) (fun d => S.2.2.2.2.2 (ix2 p d)) A2 C2

/-- After `j` trips the loop has taken in the blocks `0` to `j - 1`. -/
theorem loop_rows (𝒱 : Variants) (c : Dev nD) (bd : Option 𝒱.V) (i : grid0.Coords) (arg3 : Memref sig .tc .vmem S512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S512x128 .bf16) (harg10 : arg10.IsWhole) (arg2 : BitVec 32) (v0 : Vec Ideal S512x128 .bf16) (v1 : Vec Ideal S512x128 .bf16) (v5 : Vec Ideal S512x128 .bf16) (v15 : FVec Ideal S512x1 .f32) (v20 : FVec Ideal S512x1 .f32) (v22 : FVec Ideal S512x128 .f32) (v32 : FVec Ideal S512x1 .f32) (v37 : FVec Ideal S512x1 .f32) (v38 : FVec Ideal S512x512 .bf16) (cst_14 : FVec Ideal S512x128 .f32) (x2 : Vec Ideal S8192x128 .bf16) (x3 : Vec Ideal S8192x128 .bf16) (x4 : Vec Ideal S8192x128 .bf16) (init : St) (p : Fin 512)
    (hoff : ∀ k : Fin (k0_t1_loop i).trips, k0_off2 i k = ![512 * k.val, 0]) (htr : (k0_t1_loop i).trips < 16)
    (t1 t2 : ℕ → ℝ) (w : ℕ → Fin 128 → ℝ)
    (hx2 : ∀ n : Fin 8192, ∑ x : Fin 128, v0 (ix2 p x) * x2 (ix2 n x) = (t1 n.val : EReal))
    (hx3 : ∀ n : Fin 8192, ∑ x : Fin 128, v1 (ix2 p x) * x3 (ix2 n x) = (t2 n.val : EReal))
    (hx4 : ∀ (n : Fin 8192) (d : Fin 128), x4 (ix2 n d) = (w n.val d : EReal))
    {A1 A2 : ℝ} {C1 C2 : Fin 128 → ℝ} (h : Both init p A1 C1 A2 C2) (j : ℕ) (hj : j ≤ (k0_t1_loop i).trips) :
    Both (st_k0_t1 (F := Ideal) 𝒱 c bd i arg3 harg3 arg4 harg4 arg5 harg5 arg6 harg6 arg7 harg7 arg8 harg8 arg9 harg9 arg10 harg10 arg2 v0 v1 v5 v15 v20 v22 v32 v37 v38 cst_14 (harg5.unread x2) (harg6.unread x3) (harg7.unread x4) init j) p
      (A1 + ∑ b ∈ Finset.range j, ∑ n : Fin 512, (2 : ℝ) ^ t1 (512 * b + n.val))
      (fun d => C1 d + ∑ b ∈ Finset.range j, ∑ n : Fin 512, (2 : ℝ) ^ t1 (512 * b + n.val) * w (512 * b + n.val) d)
      (A2 + ∑ b ∈ Finset.range j, ∑ n : Fin 512, (2 : ℝ) ^ t2 (512 * b + n.val))
      (fun d => C2 d + ∑ b ∈ Finset.range j, ∑ n : Fin 512, (2 : ℝ) ^ t2 (512 * b + n.val) * w (512 * b + n.val) d) := by
  induction j with
  | zero =>
    rw [st_k0_t1_zero]
    simpa only [Finset.range_zero, Finset.sum_empty, add_zero] using h
  | succ j ih =>
    have ih := ih (Nat.le_of_succ_le hj)
    have e := st_k0_t1_succ (F := Ideal) 𝒱 c bd i arg3 harg3 arg4 harg4 arg5 harg5 arg6 harg6 arg7 harg7 arg8 harg8 arg9 harg9 arg10 harg10 arg2 v0 v1 v5 v15 v20 v22 v32 v37 v38 cst_14 (harg5.unread x2) (harg6.unread x3) (harg7.unread x4) init ⟨j, hj⟩
    refine Eq.mpr (congrArg (fun S => Both S p _ _ _ _) e) ?_
    change Both _ p _ _ _ _ at ih
    generalize st_k0_t1 (F := Ideal) 𝒱 c bd i arg3 harg3 arg4 harg4 arg5 harg5 arg6 harg6 arg7 harg7 arg8 harg8 arg9 harg9 arg10 harg10 arg2 v0 v1 v5 v15 v20 v22 v32 v37 v38 cst_14 (harg5.unread x2) (harg6.unread x3) (harg7.unread x4) init j = S at ih ⊢
    unfold tripR_k0_t1 trip_k0_t1
    frame_out
    simp only [Finset.sum_range_succ, ← add_assoc]
    have hb : ∀ n : Fin 512, 512 * j + n.val < 8192 := fun n => by omega
    refine ⟨?_, ?_⟩
    · refine next_row _ _ _ _ _ _ p ih.1 (fun n => t1 (512 * j + n.val)) (fun n d => w (512 * j + n.val) d) (fun n => ?_) (fun n d => ?_)
      · exact (Finset.sum_congr rfl fun x _ => congrArg _ (ld_tile x2 _ _ j (hoff ⟨j, hj⟩) n x (hb n))).trans (hx2 ⟨512 * j + n.val, hb n⟩)
      · exact (ld_tile x4 _ _ j (hoff ⟨j, hj⟩) n d (hb n)).trans (hx4 ⟨512 * j + n.val, hb n⟩ d)
    · refine next_row _ _ _ _ _ _ p ih.2 (fun n => t2 (512 * j + n.val)) (fun n d => w (512 * j + n.val) d) (fun n => ?_) (fun n d => ?_)
      · exact (Finset.sum_congr rfl fun x _ => congrArg _ (ld_tile x3 _ _ j (hoff ⟨j, hj⟩) n x (hb n))).trans (hx3 ⟨512 * j + n.val, hb n⟩)
      · exact (ld_tile x4 _ _ j (hoff ⟨j, hj⟩) n d (hb n)).trans (hx4 ⟨512 * j + n.val, hb n⟩ d)

/-- A loop without trips leaves its state. -/
theorem no_trips (𝒱 : Variants) (c : Dev nD) (bd : Option 𝒱.V) (i : grid0.Coords) (arg3 : Memref sig .tc .vmem S512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S512x128 .bf16) (harg10 : arg10.IsWhole) (arg2 : BitVec 32) (v0 : Vec Ideal S512x128 .bf16) (v1 : Vec Ideal S512x128 .bf16) (v5 : Vec Ideal S512x128 .bf16) (v15 : FVec Ideal S512x1 .f32) (v20 : FVec Ideal S512x1 .f32) (v22 : FVec Ideal S512x128 .f32) (v32 : FVec Ideal S512x1 .f32) (v37 : FVec Ideal S512x1 .f32) (v38 : FVec Ideal S512x512 .bf16) (cst_14 : FVec Ideal S512x128 .f32) (X_arg5 : BufTy.Contents (Elt Ideal) arg5.view.ty) (X_arg6 : BufTy.Contents (Elt Ideal) arg6.view.ty) (X_arg7 : BufTy.Contents (Elt Ideal) arg7.view.ty) (init : St) (j : ℕ) (hj : j = 0) :
    st_k0_t2 (F := Ideal) 𝒱 c bd i arg3 harg3 arg4 harg4 arg5 harg5 arg6 harg6 arg7 harg7 arg8 harg8 arg9 harg9 arg10 harg10 arg2 v0 v1 v5 v15 v20 v22 v32 v37 v38 cst_14 X_arg5 X_arg6 X_arg7 init j = init := by
  subst hj; exact st_k0_t2_zero ..

/-- The quotients of the two maps' sums. -/
theorem quots {S : St} {p : Fin 512} {A1 A2 : ℝ} {C1 C2 : Fin 128 → ℝ} (h : Both S p A1 C1 A2 C2) (h1 : 0 < A1) (h2 : 0 < A2) (lam : EReal) :
    (fun x => Ideal.div (S.2.2.1 (ix2 p x)) (S.2.1 (ix2 p 0)) - lam * Ideal.div (S.2.2.2.2.2 (ix2 p x)) (S.2.2.2.2.1 (ix2 p 0)))
      = fun x => ((C1 x / A1 : ℝ) : EReal) - lam * ((C2 x / A2 : ℝ) : EReal) :=
  funext fun x => congrArg₂ (fun a b => a - lam * b) (h.1.quot h1 x) (h.2.quot h2 x)

/-! ### The result array -/

section Final
variable (m : (ℓ : Loc nD τ sig) → Buf (Elt Ideal) ℓ) (c : Dev nD)

theorem idx : ∀ t : Fin grid0.N, win0_0.index t = ![(grid0.coords t 0).val * 16 + (grid0.coords t 2).val, (grid0.coords t 1).val]
    ∧ win0_1.index t = ![(grid0.coords t 0).val * 16 + (grid0.coords t 2).val, (grid0.coords t 1).val]
    ∧ win0_2.index t = ![(grid0.coords t 0).val, (grid0.coords t 1).val] ∧ win0_3.index t = ![(grid0.coords t 0).val, (grid0.coords t 1).val]
    ∧ win0_4.index t = ![(grid0.coords t 0).val, (grid0.coords t 1).val] ∧ win0_5.index t = ![0, 0] ∧ win0_6.index t = ![0, 0]
    ∧ win0_7.index t = ![(grid0.coords t 0).val * 16 + (grid0.coords t 2).val, (grid0.coords t 1).val] := by decide +kernel

theorem coord_lt : ∀ t : Fin grid0.N, (grid0.coords t 0).val < 4 ∧ (grid0.coords t 1).val < 4 ∧ (grid0.coords t 2).val < 16 := by decide +kernel

theorem off1_eq : ∀ t : Fin grid0.N, k0_off1 (grid0.coords t) = ![512 * (grid0.coords t 2).val, 0] := by decide +kernel
theorem off2_eq : ∀ (t : Fin grid0.N) (k : Fin (k0_t1_loop (grid0.coords t)).trips), k0_off2 (grid0.coords t) k = ![512 * k.val, 0] := by decide +kernel
theorem trips1 : ∀ t : Fin grid0.N, (k0_t1_loop (grid0.coords t)).trips = (grid0.coords t 2).val := by decide +kernel
theorem trips2 : ∀ t : Fin grid0.N, (k0_t2_loop (grid0.coords t)).trips = 0 := by decide +kernel

theorem concat_row (u0 u1 u2 u3 : Vec Ideal S1x64 .f32) (a : Fin 4) (k : Fin 64) :
    concatenate S4x64 0 [⟨S1x64, u0⟩, ⟨S1x64, u1⟩, ⟨S1x64, u2⟩, ⟨S1x64, u3⟩] concatenates_S1x64_S1x64_S1x64_S1x64_S4x64_d0 (ix2 a k) = (![u0, u1, u2, u3] : Fin 4 → Vec Ideal S1x64 .f32) a (ix2 0 k) := by
  match a with
  | 0 => pointwise []
  | 1 => pointwise []
  | 2 => pointwise []
  | 3 => pointwise []

theorem bcast_row (y : Vec Ideal S64 .f32) (k : Fin 64) : broadcastInDim S1x64 ![1] bcast_S64_S1x64_1 y (ix2 0 k) = y (ix1 k) := by
  pointwise []

/-- The token that row `p` of block `t` is. -/
def tok (t : Fin grid0.N) (p : Fin 512) : Fin 32768 :=
  ⟨((grid0.coords t 0).val * 16 + (grid0.coords t 2).val) * 512 + p.val, by have := coord_lt t; omega⟩

/-- The token at position `n` of the sequence of block `t`. -/
def key (t : Fin grid0.N) (n : Fin 8192) : Fin 32768 := ⟨(grid0.coords t 0).val * 8192 + n.val, by have := coord_lt t; omega⟩

/-- The head of block `t`. -/
def hd (t : Fin grid0.N) : Fin 4 := ⟨(grid0.coords t 1).val, (coord_lt t).2.1⟩

theorem krow_tok (t : Fin grid0.N) (p : Fin 512) (n : Fin 8192) : krow (tok t p) n.val = key t n := by
  have := coord_lt t
  refine Fin.ext ?_
  simp only [krow, tok, key]
  omega

theorem tok_mod (t : Fin grid0.N) (p : Fin 512) : (tok t p).val % 8192 = 512 * (grid0.coords t 2).val + p.val := by
  have := coord_lt t
  simp only [tok]
  omega

theorem blk0 (t : Fin grid0.N) (p : Fin 512) (d : Fin 128) : iblk m c 0 t (ix2 p d) = m ((c.tc : Thread nD τ).loc main_arg0) (ix2 (tok t p) (col (hd t) d)) := by
  blk_ext [iblk, V, idx t, tok, col, hd]
theorem blk1 (t : Fin grid0.N) (p : Fin 512) (d : Fin 128) : iblk m c 1 t (ix2 p d) = m ((c.tc : Thread nD τ).loc main_arg1) (ix2 (tok t p) (col (hd t) d)) := by
  blk_ext [iblk, V, idx t, tok, col, hd]
theorem blk2 (t : Fin grid0.N) (n : Fin 8192) (d : Fin 128) : iblk m c 2 t (ix2 n d) = m ((c.tc : Thread nD τ).loc main_arg2) (ix2 (key t n) (col (hd t) d)) := by
  blk_ext [iblk, V, idx t, key, col, hd]
theorem blk3 (t : Fin grid0.N) (n : Fin 8192) (d : Fin 128) : iblk m c 3 t (ix2 n d) = m ((c.tc : Thread nD τ).loc main_arg3) (ix2 (key t n) (col (hd t) d)) := by
  blk_ext [iblk, V, idx t, key, col, hd]
theorem blk4 (t : Fin grid0.N) (n : Fin 8192) (d : Fin 128) : iblk m c 4 t (ix2 n d) = m ((c.tc : Thread nD τ).loc main_arg4) (ix2 (key t n) (col (hd t) d)) := by
  blk_ext [iblk, V, idx t, key, col, hd]
theorem lams (a : Fin 4) (k : Fin 64) : V m c main_v4 (ix2 a k) = (![fun k => m ((c.tc : Thread nD τ).loc main_arg5) (ix1 k), fun k => m ((c.tc : Thread nD τ).loc main_arg6) (ix1 k),
    fun k => m ((c.tc : Thread nD τ).loc main_arg7) (ix1 k), fun k => m ((c.tc : Thread nD τ).loc main_arg8) (ix1 k)] : Fin 4 → Fin 64 → EReal) a k := by
  change StableHlo.after hostOps0 (fun b => m (c, b)) (Proc.devRef .tc main_v4) (ix2 a k) = _
  unfold hostOps0
  simp only [StableHlo.after_cons, StableHlo.after_nil]
  rw [StableHlo.reshape_result_ne (h := by decide)]
  generalize hF : HloOp.result (StableHlo.unary main_arg8 main_v3 _ _ _) _ = F
  rw [StableHlo.nary_result]
  have f0 : F (Proc.devRef .tc main_v0) = broadcastInDim S1x64 ![1] bcast_S64_S1x64_1 (m ((c.tc : Thread nD τ).loc main_arg5)) := by
    rw [← hF, StableHlo.unary_result_ne (h := by decide), StableHlo.unary_result_ne (h := by decide), StableHlo.unary_result_ne (h := by decide), StableHlo.unary_result]
  have f1 : F (Proc.devRef .tc main_v1) = broadcastInDim S1x64 ![1] bcast_S64_S1x64_1 (m ((c.tc : Thread nD τ).loc main_arg6)) := by
    rw [← hF, StableHlo.unary_result_ne (h := by decide), StableHlo.unary_result_ne (h := by decide), StableHlo.unary_result, StableHlo.unary_result_ne (h := by decide)]
  have f2 : F (Proc.devRef .tc main_v2) = broadcastInDim S1x64 ![1] bcast_S64_S1x64_1 (m ((c.tc : Thread nD τ).loc main_arg7)) := by
    rw [← hF, StableHlo.unary_result_ne (h := by decide), StableHlo.unary_result, StableHlo.unary_result_ne (h := by decide), StableHlo.unary_result_ne (h := by decide)]
  have f3 : F (Proc.devRef .tc main_v3) = broadcastInDim S1x64 ![1] bcast_S64_S1x64_1 (m ((c.tc : Thread nD τ).loc main_arg8)) := by
    rw [← hF, StableHlo.unary_result, StableHlo.unary_result_ne (h := by decide), StableHlo.unary_result_ne (h := by decide), StableHlo.unary_result_ne (h := by decide)]
  refine (concat_row (F (Proc.devRef .tc main_v0)) (F (Proc.devRef .tc main_v1)) (F (Proc.devRef .tc main_v2)) (F (Proc.devRef .tc main_v3)) a k).trans ?_
  rw [f0, f1, f2, f3]
  match a with
  | 0 => exact bcast_row _ k
  | 1 => exact bcast_row _ k
  | 2 => exact bcast_row _ k
  | 3 => exact bcast_row _ k
theorem blk5 (t : Fin grid0.N) (a : Fin 4) (k : Fin 64) : iblk m c 5 t (ix2 a k) = (![fun k => m ((c.tc : Thread nD τ).loc main_arg5) (ix1 k), fun k => m ((c.tc : Thread nD τ).loc main_arg6) (ix1 k),
    fun k => m ((c.tc : Thread nD τ).loc main_arg7) (ix1 k), fun k => m ((c.tc : Thread nD τ).loc main_arg8) (ix1 k)] : Fin 4 → Fin 64 → EReal) a k := by
  have e : (win0_5.blk t).view.emb (ix2 a k) = ix2 a k := by blk_ext [idx t]
  unfold iblk; blk_simp [idx t]; rw [e]
  exact lams m c a k
theorem blk6 (t : Fin grid0.N) (k : Fin 128) : iblk m c 6 t (ix2 0 k) = m ((c.tc : Thread nD τ).loc main_arg9) (ix1 k) := by
  blk_ext! [iblk, V, idx t]

theorem den_eq (Q K : Fin 32768 → Fin 512 → ℝ) (t : Fin grid0.N) (p : Fin 512) : den Q K (tok t p) (hd t)
    = ∑ i, wt (fun i : Fin 512 => i.val ≤ p.val) (fun n => score Q K (tok t p) (hd t) (512 * (grid0.coords t 2).val + n.val)) i
      + ∑ b ∈ Finset.range (k0_t1_loop (grid0.coords t)).trips, ∑ n : Fin 512, (2 : ℝ) ^ score Q K (tok t p) (hd t) (512 * b + n.val) := by
  rw [trips1]
  exact den_split Q K _ _ _ p (coord_lt t).2.2 (tok_mod t p)

theorem num_eq (Q K W : Fin 32768 → Fin 512 → ℝ) (t : Fin grid0.N) (p : Fin 512) : num Q K W (tok t p) (hd t)
    = fun d => ∑ i, wt (fun i : Fin 512 => i.val ≤ p.val) (fun n => score Q K (tok t p) (hd t) (512 * (grid0.coords t 2).val + n.val)) i
        * W (krow (tok t p) (512 * (grid0.coords t 2).val + i.val)) (col (hd t) d)
      + ∑ b ∈ Finset.range (k0_t1_loop (grid0.coords t)).trips, ∑ n : Fin 512, (2 : ℝ) ^ score Q K (tok t p) (hd t) (512 * b + n.val)
        * W (krow (tok t p) (512 * b + n.val)) (col (hd t) d) := by
  rw [trips1]
  exact num_split Q K W _ _ _ p (coord_lt t).2.2 (tok_mod t p)

variable (Q1 Q2 K1 K2 W : Fin 32768 → Fin 512 → ℝ)

/-- The result array after the run. -/
theorem final (h0 : ∀ r e, m ((c.tc : Thread nD τ).loc main_arg0) (ix2 r e) = (Q1 r e : EReal)) (h1 : ∀ r e, m ((c.tc : Thread nD τ).loc main_arg1) (ix2 r e) = (Q2 r e : EReal))
    (h2 : ∀ r e, m ((c.tc : Thread nD τ).loc main_arg2) (ix2 r e) = (K1 r e : EReal)) (h3 : ∀ r e, m ((c.tc : Thread nD τ).loc main_arg3) (ix2 r e) = (K2 r e : EReal))
    (h4 : ∀ r e, m ((c.tc : Thread nD τ).loc main_arg4) (ix2 r e) = (W r e : EReal)) (y : S32768x512.Idx) :
    (dats m 0 c).arrAt 7 cfg0.N y
      = outAt Q1 Q2 K1 K2 W (lamOf (fun k => m ((c.tc : Thread nD τ).loc main_arg5) (ix1 k)) (fun k => m ((c.tc : Thread nD τ).loc main_arg6) (ix1 k))
          (fun k => m ((c.tc : Thread nD τ).loc main_arg7) (ix1 k)) (fun k => m ((c.tc : Thread nD τ).loc main_arg8) (ix1 k)))
          (fun k => m ((c.tc : Thread nD τ).loc main_arg9) (ix1 k)) (y 0) (y 1) := by
  refine congrFun ((dats m 0 c).arrAt_eq_of_covers 7 (fun y : S32768x512.Idx => outAt Q1 Q2 K1 K2 W (lamOf (fun k => m ((c.tc : Thread nD τ).loc main_arg5) (ix1 k)) (fun k => m ((c.tc : Thread nD τ).loc main_arg6) (ix1 k))
          (fun k => m ((c.tc : Thread nD τ).loc main_arg7) (ix1 k)) (fun k => m ((c.tc : Thread nD τ).loc main_arg8) (ix1 k)))
          (fun k => m ((c.tc : Thread nD τ).loc main_arg9) (ix1 k)) (y 0) (y 1)) (by decide +kernel) fun t hf y => ?_) y
  blk_simp
  rw [after0_7]
  simp only [outsAt0]
  frame_out
  obtain ⟨p, q, rfl⟩ : ∃ (p : Fin 512) (q : Fin 128), y = ix2 p q := ⟨y 0, y 1, eq_ix2 y⟩
  have hy : ((View.whole main_v6).slice (win0_7.rect t)).emb (ix2 p q) = ix2 (tok t p) (col (hd t) q) := by
    blk_ext [idx t, tok, col, hd]
  have hc := coord_lt t
  have hb : ∀ n : Fin 512, 512 * (grid0.coords t 2).val + n.val < 8192 := fun n => by omega
  rw [hy, pay37_apply]
  rw [no_trips (hj := trips2 t)]
  have hk1 : ∀ (n : Fin 8192) (d : Fin 128), iblk m c 2 t (ix2 n d) = (K1 (krow (tok t p) n.val) (col (hd t) d) : EReal) := fun n d => by
    rw [blk2, h2, krow_tok]
  have hk2 : ∀ (n : Fin 8192) (d : Fin 128), iblk m c 3 t (ix2 n d) = (K2 (krow (tok t p) n.val) (col (hd t) d) : EReal) := fun n d => by
    rw [blk3, h3, krow_tok]
  have hv : ∀ (n : Fin 8192) (d : Fin 128), iblk m c 4 t (ix2 n d) = (W (krow (tok t p) n.val) (col (hd t) d) : EReal) := fun n d => by
    rw [blk4, h4, krow_tok]
  have hq1 : ∀ d : Fin 128, iblk m c 0 t (ix2 p d) = (Q1 (tok t p) (col (hd t) d) : EReal) := fun d => by rw [blk0, h0]
  have hq2 : ∀ d : Fin 128, iblk m c 1 t (ix2 p d) = (Q2 (tok t p) (col (hd t) d) : EReal) := fun d => by rw [blk1, h1]
  dsimp only
  generalize hS : st_k0_t1 (F := Ideal) _ _ _ _ _ _ _ _ _ _ _ _ _ _ _ _ _ _ _ _ _ _ _ _ _ _ _ _ _ _ _ _ _ _ _ _ = S
  have s1 : ∀ n : Fin 512, _ = ((score Q1 K1 (tok t p) (hd t) (512 * (grid0.coords t 2).val + n.val) : ℝ) : EReal) := fun n => dot_eq _ _ _ _ hq1 fun d =>
    (ld_tile (iblk m c 2 t) _ (k0_off1_inb (grid0.coords t)) _ (off1_eq t) n d (hb n)).trans (hk1 _ _)
  have s2 : ∀ n : Fin 512, _ = ((score Q2 K2 (tok t p) (hd t) (512 * (grid0.coords t 2).val + n.val) : ℝ) : EReal) := fun n => dot_eq _ _ _ _ hq2 fun d =>
    (ld_tile (iblk m c 3 t) _ (k0_off1_inb (grid0.coords t)) _ (off1_eq t) n d (hb n)).trans (hk2 _ _)
  have u : ∀ (n : Fin 512) (d : Fin 128), _ = ((W (krow (tok t p) (512 * (grid0.coords t 2).val + n.val)) (col (hd t) d) : ℝ) : EReal) := fun n d =>
    (ld_tile (iblk m c 4 t) _ (k0_off1_inb (grid0.coords t)) _ (off1_eq t) n d (hb n)).trans (hv _ _)
  have hB : Both S p (den Q1 K1 (tok t p) (hd t)) (num Q1 K1 W (tok t p) (hd t)) (den Q2 K2 (tok t p) (hd t)) (num Q2 K2 W (tok t p) (hd t)) := by
    rw [← hS, den_eq, num_eq, den_eq, num_eq]
    refine loop_rows (hoff := off2_eq t) (htr := by rw [trips1]; exact hc.2.2) (t1 := score Q1 K1 (tok t p) (hd t)) (t2 := score Q2 K2 (tok t p) (hd t))
      (w := fun n d => W (krow (tok t p) n) (col (hd t) d)) (hx2 := fun n => dot_eq _ _ _ _ hq1 (hk1 n)) (hx3 := fun n => dot_eq _ _ _ _ hq2 (hk2 n)) (hx4 := hv)
      (j := (k0_t1_loop (grid0.coords t)).trips) (hj := le_rfl) (h := And.intro ?_ ?_) ..
    · dsimp only
      exact first_row _ _ _ p _ _ s1 u
    · dsimp only
      exact first_row (iblk m c 1 t) (View.ld (S := S8192x128) (iblk m c 3 t) (Rect.unit (k0_off1 (grid0.coords t)) ![512, 128] _))
        (View.ld (S := S8192x128) (iblk m c 4 t) (Rect.unit (k0_off1 (grid0.coords t)) ![512, 128] _)) p _ _ s2 u
  have he : (⟨(col (hd t) q).val / 128, by have := (col (hd t) q).isLt; omega⟩ : Fin 4) = hd t := Fin.ext (by simp only [col]; omega)
  have hd' : (⟨(col (hd t) q).val % 128, by omega⟩ : Fin 128) = q := Fin.ext (by simp only [col]; omega)
  refine (normed_congr (quots hB (den_pos ..) (den_pos ..) _) _ _).trans ?_
  change _ = normed (att Q1 Q2 K1 K2 W _ (tok t p) ⟨(col (hd t) q).val / 128, _⟩) (m ((c.tc : Thread nD τ).loc main_arg9) (ix1 ⟨(col (hd t) q).val % 128, _⟩)) ⟨(col (hd t) q).val % 128, _⟩
  rw [he, hd', blk6]
  simp only [blk5]
  rfl

end Final

end Cert.DiffOnlineIdeal.Rows
-- ==== Proof.DiffUnshiftedRows.lean ====
module

public import proofs.«01_k».proof.Proof.Gen.DiffUnshiftedIdeal.Value
public import proofs.«01_k».proof.Proof.DiffOnlineRows

/-! The differential attention without running maxima, read at an index: every weight is an exponential of a score, and
a row's weights are summed lane by lane until the end. -/

@[expose] public section

set_option maxRecDepth 16384

noncomputable section

open Idealize.ShloMosaic Idealize.ShloMosaic.TcCoe Idealize.SL.Sem Cert.RealRows Cert.Attn

namespace Cert.DiffUnshiftedIdeal.Rows
open Cert.DiffUnshiftedIdeal Cert.DiffUnshiftedIdeal.Gen

abbrev St : Type := FVec Ideal S512x128 .f32 × FVec Ideal S512x128 .f32 × FVec Ideal S512x128 .f32 × FVec Ideal S512x128 .f32

/-! ### The two blocks of operations, at an index -/

section Payloads
variable (v0 v7 v5 : Vec Ideal S512x128 .bf16) (a acc : FVec Ideal S512x128 .f32) (p i : Fin 512) (d : Fin 128)

/-- The weights of the diagonal block. -/
theorem pay2_apply : k0_pay2 (F := Ideal) v0 v7 (ix2 p i) = Ideal.exp2 (if i.val ≤ p.val then ∑ x : Fin 128, v0 (ix2 p x) * v7 (ix2 i x) else ⊥) := by
  unfold k0_pay2; pointwise []; exact congrArg Ideal.exp2 (Cert.DiffOnlineIdeal.Rows.mask_eq p i _)
theorem pay3_apply : k0_pay3 (F := Ideal) v0 v7 (ix2 p d) = k0_pay2 (F := Ideal) v0 v7 (ix2 p (chunk 0 d (by decide))) + k0_pay2 (F := Ideal) v0 v7 (ix2 p (chunk 1 d (by decide)))
    + k0_pay2 (F := Ideal) v0 v7 (ix2 p (chunk 2 d (by decide))) + k0_pay2 (F := Ideal) v0 v7 (ix2 p (chunk 3 d (by decide))) := by
  unfold k0_pay3; generalize k0_pay2 v0 v7 = w; pointwise []; simp only [chunk, Nat.mul_zero, Nat.zero_add, Nat.reduceMul]
theorem pay4_apply : k0_pay4 (F := Ideal) v0 v5 v7 (ix2 p d) = ∑ x, k0_pay2 (F := Ideal) v0 v7 (ix2 p x) * v5 (ix2 x d) := by
  unfold k0_pay4; generalize k0_pay2 v0 v7 = w; pointwise []
theorem pay8_apply : k0_pay8 (F := Ideal) v0 v7 (ix2 p i) = Ideal.exp2 (∑ x : Fin 128, v0 (ix2 p x) * v7 (ix2 i x)) := by
  unfold k0_pay8; pointwise []; rfl
theorem pay9_apply : k0_pay9 (F := Ideal) v0 a v7 (ix2 p d) = a (ix2 p d) + (k0_pay8 (F := Ideal) v0 v7 (ix2 p (chunk 0 d (by decide))) + k0_pay8 (F := Ideal) v0 v7 (ix2 p (chunk 1 d (by decide)))
    + k0_pay8 (F := Ideal) v0 v7 (ix2 p (chunk 2 d (by decide))) + k0_pay8 (F := Ideal) v0 v7 (ix2 p (chunk 3 d (by decide)))) := by
  unfold k0_pay9; generalize k0_pay8 v0 v7 = w; pointwise []; simp only [chunk, Nat.mul_zero, Nat.zero_add, Nat.reduceMul]
theorem pay10_apply : k0_pay10 (F := Ideal) v0 acc v5 v7 (ix2 p d) = acc (ix2 p d) + ∑ x, k0_pay8 (F := Ideal) v0 v7 (ix2 p x) * v5 (ix2 x d) := by
  unfold k0_pay10; generalize k0_pay8 v0 v7 = w; pointwise []

/-- The block that is written, from the two maps' sums. -/
theorem pay20_apply (a' acc' : FVec Ideal S512x128 .f32) (l : Vec Ideal S4x64 .f32) (g : Vec Ideal S1x128 .f32) :
    k0_pay1 (F := Ideal) (k0_pay20 a acc a' acc' l) g (ix2 p d)
      = normed (fun x => Ideal.div (acc (ix2 p x)) (∑ n : Fin 128, a (ix2 p n))
          - lamOf (fun x => l (ix2 0 x)) (fun x => l (ix2 1 x)) (fun x => l (ix2 2 x)) (fun x => l (ix2 3 x)) * Ideal.div (acc' (ix2 p x)) (∑ n : Fin 128, a' (ix2 p n))) (g (ix2 0 d)) d := by
  unfold k0_pay1 k0_pay20; pointwise []; rfl

/-- The first block of keys of a row, the one on the diagonal. -/
theorem first_part (t : Fin 512 → ℝ) (w : Fin 512 → Fin 128 → ℝ) (hs : ∀ i, ∑ x : Fin 128, v0 (ix2 p x) * v7 (ix2 i x) = (t i : EReal))
    (hv : ∀ i d, v5 (ix2 i d) = (w i d : EReal)) :
    Part (fun d => k0_pay3 (F := Ideal) v0 v7 (ix2 p d)) (fun d => k0_pay4 (F := Ideal) v0 v5 v7 (ix2 p d))
      (∑ i, wt (fun i : Fin 512 => i.val ≤ p.val) t i) (fun d => ∑ i, wt (fun i : Fin 512 => i.val ≤ p.val) t i * w i d) := by
  simp only [pay4_apply, pay3_apply]
  refine Part.start (wt (fun i : Fin 512 => i.val ≤ p.val) t) (fun i => k0_pay2 (F := Ideal) v0 v7 (ix2 p i)) (fun i d => v5 (ix2 i d)) w (fun i => ?_) hv
  rw [pay2_apply, hs, wt]
  split
  · exact exp2_real _
  · exact Ideal.exp2_bot.trans EReal.coe_zero.symm

/-- One more block of keys. -/
theorem next_part {A : ℝ} {C : Fin 128 → ℝ} (h : Part (fun d => a (ix2 p d)) (fun d => acc (ix2 p d)) A C)
    (t : Fin 512 → ℝ) (w : Fin 512 → Fin 128 → ℝ) (hs : ∀ i, ∑ x : Fin 128, v0 (ix2 p x) * v7 (ix2 i x) = (t i : EReal))
    (hv : ∀ i d, v5 (ix2 i d) = (w i d : EReal)) :
    Part (fun d => k0_pay9 (F := Ideal) v0 a v7 (ix2 p d)) (fun d => k0_pay10 (F := Ideal) v0 acc v5 v7 (ix2 p d))
      (A + ∑ i, (2 : ℝ) ^ t i) (fun d => C d + ∑ i, (2 : ℝ) ^ t i * w i d) := by
  simp only [pay10_apply, pay9_apply]
  exact h.step (fun i => (2 : ℝ) ^ t i) (fun i => k0_pay8 (F := Ideal) v0 v7 (ix2 p i)) (fun i d => v5 (ix2 i d)) w (fun i => by rw [pay8_apply, hs, exp2_real]) hv

end Payloads

/-! ### The loop over the blocks before the diagonal -/

/-- Both maps' states at row `p`. -/
def Both (S : St) (p : Fin 512) (A1 : ℝ) (C1 : Fin 128 → ℝ) (A2 : ℝ) (C2 : Fin 128 → ℝ) : Prop :=
  Part (fun d => S.1 (ix2 p d)) (fun d => S.2.1 (ix2 p d)) A1 C1 ∧ Part (fun d => S.2.2.1 (ix2 p d)) (fun d => S.2.2.2 (ix2 p d)) A2 C2

/-- After `j` trips the loop has taken in the blocks `0` to `j - 1`. -/
theorem loop_rows (𝒱 : Variants) (c : Dev nD) (bd : Option 𝒱.V) (i : grid0.Coords) (arg3 : Memref sig .tc .vmem S512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S512x128 .bf16) (harg10 : arg10.IsWhole) (arg2 : BitVec 32) (v0 : Vec Ideal S512x128 .bf16) (v1 : Vec Ideal S512x128 .bf16) (v21 : FVec Ideal S512x128 .f32) (v23 : FVec Ideal S512x128 .f32) (v39 : FVec Ideal S512x128 .f32) (v41 : FVec Ideal S512x128 .f32) (c0_i32 : BitVec 32) (x2 : Vec Ideal S8192x128 .bf16) (x3 : Vec Ideal S8192x128 .bf16) (x4 : Vec Ideal S8192x128 .bf16) (init : St) (p : Fin 512)
    (hoff : ∀ k : Fin (k0_t1_loop i).trips, k0_off2 i k = ![512 * k.val, 0]) (htr : (k0_t1_loop i).trips < 16)
    (t1 t2 : ℕ → ℝ) (w : ℕ → Fin 128 → ℝ)
    (hx2 : ∀ n : Fin 8192, ∑ x : Fin 128, v0 (ix2 p x) * x2 (ix2 n x) = (t1 n.val : EReal))
    (hx3 : ∀ n : Fin 8192, ∑ x : Fin 128, v1 (ix2 p x) * x3 (ix2 n x) = (t2 n.val : EReal))
    (hx4 : ∀ (n : Fin 8192) (d : Fin 128), x4 (ix2 n d) = (w n.val d : EReal))
    {A1 A2 : ℝ} {C1 C2 : Fin 128 → ℝ} (h : Both init p A1 C1 A2 C2) (j : ℕ) (hj : j ≤ (k0_t1_loop i).trips) :
    Both (st_k0_t1 (F := Ideal) 𝒱 c bd i arg3 harg3 arg4 harg4 arg5 harg5 arg6 harg6 arg7 harg7 arg8 harg8 arg9 harg9 arg10 harg10 arg2 v0 v1 v21 v23 v39 v41 c0_i32 (harg5.unread x2) (harg6.unread x3) (harg7.unread x4) init j) p
      (A1 + ∑ b ∈ Finset.range j, ∑ n : Fin 512, (2 : ℝ) ^ t1 (512 * b + n.val))
      (fun d => C1 d + ∑ b ∈ Finset.range j, ∑ n : Fin 512, (2 : ℝ) ^ t1 (512 * b + n.val) * w (512 * b + n.val) d)
      (A2 + ∑ b ∈ Finset.range j, ∑ n : Fin 512, (2 : ℝ) ^ t2 (512 * b + n.val))
      (fun d => C2 d + ∑ b ∈ Finset.range j, ∑ n : Fin 512, (2 : ℝ) ^ t2 (512 * b + n.val) * w (512 * b + n.val) d) := by
  induction j with
  | zero =>
    rw [st_k0_t1_zero]
    simpa only [Finset.range_zero, Finset.sum_empty, add_zero] using h
  | succ j ih =>
    have ih := ih (Nat.le_of_succ_le hj)
    have e := st_k0_t1_succ (F := Ideal) 𝒱 c bd i arg3 harg3 arg4 harg4 arg5 harg5 arg6 harg6 arg7 harg7 arg8 harg8 arg9 harg9 arg10 harg10 arg2 v0 v1 v21 v23 v39 v41 c0_i32 (harg5.unread x2) (harg6.unread x3) (harg7.unread x4) init ⟨j, hj⟩
    refine Eq.mpr (congrArg (fun S => Both S p _ _ _ _) e) ?_
    change Both _ p _ _ _ _ at ih
    generalize st_k0_t1 (F := Ideal) 𝒱 c bd i arg3 harg3 arg4 harg4 arg5 harg5 arg6 harg6 arg7 harg7 arg8 harg8 arg9 harg9 arg10 harg10 arg2 v0 v1 v21 v23 v39 v41 c0_i32 (harg5.unread x2) (harg6.unread x3) (harg7.unread x4) init j = S at ih ⊢
    unfold tripR_k0_t1 trip_k0_t1
    frame_out
    simp only [Finset.sum_range_succ, ← add_assoc]
    have hb : ∀ n : Fin 512, 512 * j + n.val < 8192 := fun n => by omega
    refine ⟨?_, ?_⟩
    · refine next_part _ _ _ _ _ p ih.1 (fun n => t1 (512 * j + n.val)) (fun n d => w (512 * j + n.val) d) (fun n => ?_) (fun n d => ?_)
      · exact (Finset.sum_congr rfl fun x _ => congrArg _ (Cert.DiffOnlineIdeal.Rows.ld_tile x2 _ _ j (hoff ⟨j, hj⟩) n x (hb n))).trans (hx2 ⟨512 * j + n.val, hb n⟩)
      · exact (Cert.DiffOnlineIdeal.Rows.ld_tile x4 _ _ j (hoff ⟨j, hj⟩) n d (hb n)).trans (hx4 ⟨512 * j + n.val, hb n⟩ d)
    · refine next_part _ _ _ _ _ p ih.2 (fun n => t2 (512 * j + n.val)) (fun n d => w (512 * j + n.val) d) (fun n => ?_) (fun n d => ?_)
      · exact (Finset.sum_congr rfl fun x _ => congrArg _ (Cert.DiffOnlineIdeal.Rows.ld_tile x3 _ _ j (hoff ⟨j, hj⟩) n x (hb n))).trans (hx3 ⟨512 * j + n.val, hb n⟩)
      · exact (Cert.DiffOnlineIdeal.Rows.ld_tile x4 _ _ j (hoff ⟨j, hj⟩) n d (hb n)).trans (hx4 ⟨512 * j + n.val, hb n⟩ d)

/-- A loop without trips leaves its state. -/
theorem no_trips (𝒱 : Variants) (c : Dev nD) (bd : Option 𝒱.V) (i : grid0.Coords) (arg3 : Memref sig .tc .vmem S512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S512x128 .bf16) (harg10 : arg10.IsWhole) (arg2 : BitVec 32) (v0 : Vec Ideal S512x128 .bf16) (v1 : Vec Ideal S512x128 .bf16) (v21 : FVec Ideal S512x128 .f32) (v23 : FVec Ideal S512x128 .f32) (v39 : FVec Ideal S512x128 .f32) (v41 : FVec Ideal S512x128 .f32) (c0_i32 : BitVec 32) (X_arg5 : BufTy.Contents (Elt Ideal) arg5.view.ty) (X_arg6 : BufTy.Contents (Elt Ideal) arg6.view.ty) (X_arg7 : BufTy.Contents (Elt Ideal) arg7.view.ty) (init : St) (j : ℕ) (hj : j = 0) :
    st_k0_t2 (F := Ideal) 𝒱 c bd i arg3 harg3 arg4 harg4 arg5 harg5 arg6 harg6 arg7 harg7 arg8 harg8 arg9 harg9 arg10 harg10 arg2 v0 v1 v21 v23 v39 v41 c0_i32 X_arg5 X_arg6 X_arg7 init j = init := by
  subst hj; exact st_k0_t2_zero ..

/-- The quotients of the two maps' sums. -/
theorem quots {S : St} {p : Fin 512} {A1 A2 : ℝ} {C1 C2 : Fin 128 → ℝ} (h : Both S p A1 C1 A2 C2) (h1 : 0 < A1) (h2 : 0 < A2) (lam : EReal) :
    (fun x => Ideal.div (S.2.1 (ix2 p x)) (∑ n : Fin 128, S.1 (ix2 p n)) - lam * Ideal.div (S.2.2.2 (ix2 p x)) (∑ n : Fin 128, S.2.2.1 (ix2 p n)))
      = fun x => ((C1 x / A1 : ℝ) : EReal) - lam * ((C2 x / A2 : ℝ) : EReal) :=
  funext fun x => congrArg₂ (fun a b => a - lam * b) (h.1.quot h1 x) (h.2.quot h2 x)

/-! ### The result array -/

section Final
variable (m : (ℓ : Loc nD τ sig) → Buf (Elt Ideal) ℓ) (c : Dev nD)

theorem idx : ∀ t : Fin grid0.N, win0_0.index t = ![(grid0.coords t 0).val * 16 + (grid0.coords t 2).val, (grid0.coords t 1).val]
    ∧ win0_1.index t = ![(grid0.coords t 0).val * 16 + (grid0.coords t 2).val, (grid0.coords t 1).val]
    ∧ win0_2.index t = ![(grid0.coords t 0).val, (grid0.coords t 1).val] ∧ win0_3.index t = ![(grid0.coords t 0).val, (grid0.coords t 1).val]
    ∧ win0_4.index t = ![(grid0.coords t 0).val, (grid0.coords t 1).val] ∧ win0_5.index t = ![0, 0] ∧ win0_6.index t = ![0, 0]
    ∧ win0_7.index t = ![(grid0.coords t 0).val * 16 + (grid0.coords t 2).val, (grid0.coords t 1).val] := by decide +kernel

theorem coord_lt : ∀ t : Fin grid0.N, (grid0.coords t 0).val < 4 ∧ (grid0.coords t 1).val < 4 ∧ (grid0.coords t 2).val < 16 := by decide +kernel

theorem off1_eq : ∀ t : Fin grid0.N, k0_off1 (grid0.coords t) = ![512 * (grid0.coords t 2).val, 0] := by decide +kernel
theorem off2_eq : ∀ (t : Fin grid0.N) (k : Fin (k0_t1_loop (grid0.coords t)).trips), k0_off2 (grid0.coords t) k = ![512 * k.val, 0] := by decide +kernel
theorem trips1 : ∀ t : Fin grid0.N, (k0_t1_loop (grid0.coords t)).trips = (grid0.coords t 2).val := by decide +kernel
theorem trips2 : ∀ t : Fin grid0.N, (k0_t2_loop (grid0.coords t)).trips = 0 := by decide +kernel

/-- The token that row `p` of block `t` is. -/
def tok (t : Fin grid0.N) (p : Fin 512) : Fin 32768 :=
  ⟨((grid0.coords t 0).val * 16 + (grid0.coords t 2).val) * 512 + p.val, by have := coord_lt t; omega⟩

/-- The token at position `n` of the sequence of block `t`. -/
def key (t : Fin grid0.N) (n : Fin 8192) : Fin 32768 := ⟨(grid0.coords t 0).val * 8192 + n.val, by have := coord_lt t; omega⟩

/-- The head of block `t`. -/
def hd (t : Fin grid0.N) : Fin 4 := ⟨(grid0.coords t 1).val, (coord_lt t).2.1⟩

theorem krow_tok (t : Fin grid0.N) (p : Fin 512) (n : Fin 8192) : krow (tok t p) n.val = key t n := by
  have := coord_lt t
  refine Fin.ext ?_
  simp only [krow, tok, key]
  omega

theorem tok_mod (t : Fin grid0.N) (p : Fin 512) : (tok t p).val % 8192 = 512 * (grid0.coords t 2).val + p.val := by
  have := coord_lt t
  simp only [tok]
  omega

theorem blk0 (t : Fin grid0.N) (p : Fin 512) (d : Fin 128) : iblk m c 0 t (ix2 p d) = m ((c.tc : Thread nD τ).loc main_arg0) (ix2 (tok t p) (col (hd t) d)) := by
  blk_ext [iblk, V, idx t, tok, col, hd]
theorem blk1 (t : Fin grid0.N) (p : Fin 512) (d : Fin 128) : iblk m c 1 t (ix2 p d) = m ((c.tc : Thread nD τ).loc main_arg1) (ix2 (tok t p) (col (hd t) d)) := by
  blk_ext [iblk, V, idx t, tok, col, hd]
theorem blk2 (t : Fin grid0.N) (n : Fin 8192) (d : Fin 128) : iblk m c 2 t (ix2 n d) = m ((c.tc : Thread nD τ).loc main_arg2) (ix2 (key t n) (col (hd t) d)) := by
  blk_ext [iblk, V, idx t, key, col, hd]
theorem blk3 (t : Fin grid0.N) (n : Fin 8192) (d : Fin 128) : iblk m c 3 t (ix2 n d) = m ((c.tc : Thread nD τ).loc main_arg3) (ix2 (key t n) (col (hd t) d)) := by
  blk_ext [iblk, V, idx t, key, col, hd]
theorem blk4 (t : Fin grid0.N) (n : Fin 8192) (d : Fin 128) : iblk m c 4 t (ix2 n d) = m ((c.tc : Thread nD τ).loc main_arg4) (ix2 (key t n) (col (hd t) d)) := by
  blk_ext [iblk, V, idx t, key, col, hd]
theorem lams (a : Fin 4) (k : Fin 64) : V m c main_v4 (ix2 a k) = (![fun k => m ((c.tc : Thread nD τ).loc main_arg5) (ix1 k), fun k => m ((c.tc : Thread nD τ).loc main_arg6) (ix1 k),
    fun k => m ((c.tc : Thread nD τ).loc main_arg7) (ix1 k), fun k => m ((c.tc : Thread nD τ).loc main_arg8) (ix1 k)] : Fin 4 → Fin 64 → EReal) a k := by
  change StableHlo.after hostOps0 (fun b => m (c, b)) (Proc.devRef .tc main_v4) (ix2 a k) = _
  unfold hostOps0
  simp only [StableHlo.after_cons, StableHlo.after_nil]
  rw [StableHlo.reshape_result_ne (h := by decide)]
  generalize hF : HloOp.result (StableHlo.unary main_arg8 main_v3 _ _ _) _ = F
  rw [StableHlo.nary_result]
  have f0 : F (Proc.devRef .tc main_v0) = broadcastInDim S1x64 ![1] bcast_S64_S1x64_1 (m ((c.tc : Thread nD τ).loc main_arg5)) := by
    rw [← hF, StableHlo.unary_result_ne (h := by decide), StableHlo.unary_result_ne (h := by decide), StableHlo.unary_result_ne (h := by decide), StableHlo.unary_result]
  have f1 : F (Proc.devRef .tc main_v1) = broadcastInDim S1x64 ![1] bcast_S64_S1x64_1 (m ((c.tc : Thread nD τ).loc main_arg6)) := by
    rw [← hF, StableHlo.unary_result_ne (h := by decide), StableHlo.unary_result_ne (h := by decide), StableHlo.unary_result, StableHlo.unary_result_ne (h := by decide)]
  have f2 : F (Proc.devRef .tc main_v2) = broadcastInDim S1x64 ![1] bcast_S64_S1x64_1 (m ((c.tc : Thread nD τ).loc main_arg7)) := by
    rw [← hF, StableHlo.unary_result_ne (h := by decide), StableHlo.unary_result, StableHlo.unary_result_ne (h := by decide), StableHlo.unary_result_ne (h := by decide)]
  have f3 : F (Proc.devRef .tc main_v3) = broadcastInDim S1x64 ![1] bcast_S64_S1x64_1 (m ((c.tc : Thread nD τ).loc main_arg8)) := by
    rw [← hF, StableHlo.unary_result, StableHlo.unary_result_ne (h := by decide), StableHlo.unary_result_ne (h := by decide), StableHlo.unary_result_ne (h := by decide)]
  refine (Cert.DiffOnlineIdeal.Rows.concat_row (F (Proc.devRef .tc main_v0)) (F (Proc.devRef .tc main_v1)) (F (Proc.devRef .tc main_v2)) (F (Proc.devRef .tc main_v3)) a k).trans ?_
  rw [f0, f1, f2, f3]
  match a with
  | 0 => exact Cert.DiffOnlineIdeal.Rows.bcast_row _ k
  | 1 => exact Cert.DiffOnlineIdeal.Rows.bcast_row _ k
  | 2 => exact Cert.DiffOnlineIdeal.Rows.bcast_row _ k
  | 3 => exact Cert.DiffOnlineIdeal.Rows.bcast_row _ k
theorem blk5 (t : Fin grid0.N) (a : Fin 4) (k : Fin 64) : iblk m c 5 t (ix2 a k) = (![fun k => m ((c.tc : Thread nD τ).loc main_arg5) (ix1 k), fun k => m ((c.tc : Thread nD τ).loc main_arg6) (ix1 k),
    fun k => m ((c.tc : Thread nD τ).loc main_arg7) (ix1 k), fun k => m ((c.tc : Thread nD τ).loc main_arg8) (ix1 k)] : Fin 4 → Fin 64 → EReal) a k := by
  have e : (win0_5.blk t).view.emb (ix2 a k) = ix2 a k := by blk_ext [idx t]
  unfold iblk; blk_simp [idx t]; rw [e]
  exact lams m c a k
theorem blk6 (t : Fin grid0.N) (k : Fin 128) : iblk m c 6 t (ix2 0 k) = m ((c.tc : Thread nD τ).loc main_arg9) (ix1 k) := by
  blk_ext! [iblk, V, idx t]

theorem den_eq (Q K : Fin 32768 → Fin 512 → ℝ) (t : Fin grid0.N) (p : Fin 512) : den Q K (tok t p) (hd t)
    = ∑ i, wt (fun i : Fin 512 => i.val ≤ p.val) (fun n => score Q K (tok t p) (hd t) (512 * (grid0.coords t 2).val + n.val)) i
      + ∑ b ∈ Finset.range (k0_t1_loop (grid0.coords t)).trips, ∑ n : Fin 512, (2 : ℝ) ^ score Q K (tok t p) (hd t) (512 * b + n.val) := by
  rw [trips1]
  exact den_split Q K _ _ _ p (coord_lt t).2.2 (tok_mod t p)

theorem num_eq (Q K W : Fin 32768 → Fin 512 → ℝ) (t : Fin grid0.N) (p : Fin 512) : num Q K W (tok t p) (hd t)
    = fun d => ∑ i, wt (fun i : Fin 512 => i.val ≤ p.val) (fun n => score Q K (tok t p) (hd t) (512 * (grid0.coords t 2).val + n.val)) i
        * W (krow (tok t p) (512 * (grid0.coords t 2).val + i.val)) (col (hd t) d)
      + ∑ b ∈ Finset.range (k0_t1_loop (grid0.coords t)).trips, ∑ n : Fin 512, (2 : ℝ) ^ score Q K (tok t p) (hd t) (512 * b + n.val)
        * W (krow (tok t p) (512 * b + n.val)) (col (hd t) d) := by
  rw [trips1]
  exact num_split Q K W _ _ _ p (coord_lt t).2.2 (tok_mod t p)

variable (Q1 Q2 K1 K2 W : Fin 32768 → Fin 512 → ℝ)

/-- The result array after the run. -/
theorem final (h0 : ∀ r e, m ((c.tc : Thread nD τ).loc main_arg0) (ix2 r e) = (Q1 r e : EReal)) (h1 : ∀ r e, m ((c.tc : Thread nD τ).loc main_arg1) (ix2 r e) = (Q2 r e : EReal))
    (h2 : ∀ r e, m ((c.tc : Thread nD τ).loc main_arg2) (ix2 r e) = (K1 r e : EReal)) (h3 : ∀ r e, m ((c.tc : Thread nD τ).loc main_arg3) (ix2 r e) = (K2 r e : EReal))
    (h4 : ∀ r e, m ((c.tc : Thread nD τ).loc main_arg4) (ix2 r e) = (W r e : EReal)) (y : S32768x512.Idx) :
    (dats m 0 c).arrAt 7 cfg0.N y
      = outAt Q1 Q2 K1 K2 W (lamOf (fun k => m ((c.tc : Thread nD τ).loc main_arg5) (ix1 k)) (fun k => m ((c.tc : Thread nD τ).loc main_arg6) (ix1 k))
          (fun k => m ((c.tc : Thread nD τ).loc main_arg7) (ix1 k)) (fun k => m ((c.tc : Thread nD τ).loc main_arg8) (ix1 k)))
          (fun k => m ((c.tc : Thread nD τ).loc main_arg9) (ix1 k)) (y 0) (y 1) := by
  refine congrFun ((dats m 0 c).arrAt_eq_of_covers 7 (fun y : S32768x512.Idx => outAt Q1 Q2 K1 K2 W (lamOf (fun k => m ((c.tc : Thread nD τ).loc main_arg5) (ix1 k)) (fun k => m ((c.tc : Thread nD τ).loc main_arg6) (ix1 k))
          (fun k => m ((c.tc : Thread nD τ).loc main_arg7) (ix1 k)) (fun k => m ((c.tc : Thread nD τ).loc main_arg8) (ix1 k)))
          (fun k => m ((c.tc : Thread nD τ).loc main_arg9) (ix1 k)) (y 0) (y 1)) (by decide +kernel) fun t hf y => ?_) y
  blk_simp
  rw [after0_7]
  simp only [outsAt0]
  frame_out
  obtain ⟨p, q, rfl⟩ : ∃ (p : Fin 512) (q : Fin 128), y = ix2 p q := ⟨y 0, y 1, eq_ix2 y⟩
  have hy : ((View.whole main_v6).slice (win0_7.rect t)).emb (ix2 p q) = ix2 (tok t p) (col (hd t) q) := by
    blk_ext [idx t, tok, col, hd]
  have hc := coord_lt t
  have hb : ∀ n : Fin 512, 512 * (grid0.coords t 2).val + n.val < 8192 := fun n => by omega
  rw [hy, pay20_apply]
  rw [no_trips (hj := trips2 t)]
  have hk1 : ∀ (n : Fin 8192) (d : Fin 128), iblk m c 2 t (ix2 n d) = (K1 (krow (tok t p) n.val) (col (hd t) d) : EReal) := fun n d => by
    rw [blk2, h2, krow_tok]
  have hk2 : ∀ (n : Fin 8192) (d : Fin 128), iblk m c 3 t (ix2 n d) = (K2 (krow (tok t p) n.val) (col (hd t) d) : EReal) := fun n d => by
    rw [blk3, h3, krow_tok]
  have hv : ∀ (n : Fin 8192) (d : Fin 128), iblk m c 4 t (ix2 n d) = (W (krow (tok t p) n.val) (col (hd t) d) : EReal) := fun n d => by
    rw [blk4, h4, krow_tok]
  have hq1 : ∀ d : Fin 128, iblk m c 0 t (ix2 p d) = (Q1 (tok t p) (col (hd t) d) : EReal) := fun d => by rw [blk0, h0]
  have hq2 : ∀ d : Fin 128, iblk m c 1 t (ix2 p d) = (Q2 (tok t p) (col (hd t) d) : EReal) := fun d => by rw [blk1, h1]
  dsimp only
  generalize hS : st_k0_t1 (F := Ideal) _ _ _ _ _ _ _ _ _ _ _ _ _ _ _ _ _ _ _ _ _ _ _ _ _ _ _ _ _ _ _ _ _ = S
  have s1 : ∀ n : Fin 512, _ = ((score Q1 K1 (tok t p) (hd t) (512 * (grid0.coords t 2).val + n.val) : ℝ) : EReal) := fun n => dot_eq _ _ _ _ hq1 fun d =>
    (Cert.DiffOnlineIdeal.Rows.ld_tile (iblk m c 2 t) _ (k0_off1_inb (grid0.coords t)) _ (off1_eq t) n d (hb n)).trans (hk1 _ _)
  have s2 : ∀ n : Fin 512, _ = ((score Q2 K2 (tok t p) (hd t) (512 * (grid0.coords t 2).val + n.val) : ℝ) : EReal) := fun n => dot_eq _ _ _ _ hq2 fun d =>
    (Cert.DiffOnlineIdeal.Rows.ld_tile (iblk m c 3 t) _ (k0_off1_inb (grid0.coords t)) _ (off1_eq t) n d (hb n)).trans (hk2 _ _)
  have u : ∀ (n : Fin 512) (d : Fin 128), _ = ((W (krow (tok t p) (512 * (grid0.coords t 2).val + n.val)) (col (hd t) d) : ℝ) : EReal) := fun n d =>
    (Cert.DiffOnlineIdeal.Rows.ld_tile (iblk m c 4 t) _ (k0_off1_inb (grid0.coords t)) _ (off1_eq t) n d (hb n)).trans (hv _ _)
  have hB : Both S p (den Q1 K1 (tok t p) (hd t)) (num Q1 K1 W (tok t p) (hd t)) (den Q2 K2 (tok t p) (hd t)) (num Q2 K2 W (tok t p) (hd t)) := by
    rw [← hS, den_eq, num_eq, den_eq, num_eq]
    refine loop_rows (hoff := off2_eq t) (htr := by rw [trips1]; exact hc.2.2) (t1 := score Q1 K1 (tok t p) (hd t)) (t2 := score Q2 K2 (tok t p) (hd t))
      (w := fun n d => W (krow (tok t p) n) (col (hd t) d)) (hx2 := fun n => dot_eq _ _ _ _ hq1 (hk1 n)) (hx3 := fun n => dot_eq _ _ _ _ hq2 (hk2 n)) (hx4 := hv)
      (j := (k0_t1_loop (grid0.coords t)).trips) (hj := le_rfl) (h := And.intro ?_ ?_) ..
    · dsimp only
      exact first_part _ _ _ p _ _ s1 u
    · dsimp only
      exact first_part (iblk m c 1 t) (View.ld (S := S8192x128) (iblk m c 3 t) (Rect.unit (k0_off1 (grid0.coords t)) ![512, 128] _))
        (View.ld (S := S8192x128) (iblk m c 4 t) (Rect.unit (k0_off1 (grid0.coords t)) ![512, 128] _)) p _ _ s2 u
  have he : (⟨(col (hd t) q).val / 128, by have := (col (hd t) q).isLt; omega⟩ : Fin 4) = hd t := Fin.ext (by simp only [col]; omega)
  have hd' : (⟨(col (hd t) q).val % 128, by omega⟩ : Fin 128) = q := Fin.ext (by simp only [col]; omega)
  refine (normed_congr (quots hB (den_pos ..) (den_pos ..) _) _ _).trans ?_
  change _ = normed (att Q1 Q2 K1 K2 W _ (tok t p) ⟨(col (hd t) q).val / 128, _⟩) (m ((c.tc : Thread nD τ).loc main_arg9) (ix1 ⟨(col (hd t) q).val % 128, _⟩)) ⟨(col (hd t) q).val % 128, _⟩
  rw [he, hd', blk6]
  simp only [blk5]
  rfl

end Final

end Cert.DiffUnshiftedIdeal.Rows
-- ==== Proof.RefDiffRows.lean ====
module

public import proofs.«01_k».proof.Proof.Gen.RefDiffIdeal.Run
public import proofs.«01_k».proof.Proof.Gen.RefDiffIdeal.Read
public import proofs.«01_k».proof.Proof.Gen.Pre_da_finite
public import proofs.«01_k».proof.Proof.PostRows
public import proofs.«01_k».proof.Proof.AttnReal

/-! The reference of the differential attention, read at an index.  Its softmax subtracts the maximum of a whole row
of scores and divides by the sum of the row's weights; for real arguments the maximum is a real number and cancels, so
that the row's output is the difference of two quotients of real sums. -/

@[expose] public section

set_option maxRecDepth 16384

noncomputable section

open Idealize.ShloMosaic Idealize.ShloMosaic.TcCoe Idealize.SL.Sem Cert.RealRows Cert.Attn

namespace Cert.RefDiffIdeal.Rows
open Cert.RefDiffIdeal Cert.RefDiffIdeal.Read

/-- The token at position `n` of sequence `b`. -/
def tk (b : Fin 4) (n : Fin 8192) : Fin 32768 := ⟨b.val * 8192 + n.val, by omega⟩

theorem krow_tk (b : Fin 4) (q k : Fin 8192) : krow (tk b q) k.val = tk b k := by
  refine Fin.ext ?_
  simp only [krow, tk]
  omega

theorem tk_mod (b : Fin 4) (q : Fin 8192) : (tk b q).val % 8192 = q.val := by
  simp only [tk]
  omega

theorem heads_apply (x : Vec Ideal S32768x512 .bf16) (b : Fin 4) (n : Fin 8192) (h : Fin 4) (d : Fin 128) :
    val_main_v16 (F := Ideal) x (ix4 b n h d) = x (ix2 (tk b n) (col h d)) := by
  rw [val_main_v16_apply, val_main_v15_apply]
  refine congrArg x (funext fun a => Fin.ext ?_)
  match a with
  | 0 => show (((b.val * 8192 + n.val) * 4 + h.val) * 128 + d.val) / 512 = b.val * 8192 + n.val; omega
  | 1 => show (((b.val * 8192 + n.val) * 4 + h.val) * 128 + d.val) % 512 = h.val * 128 + d.val; omega

/-- The comparison of two positions by the sign of their difference. -/
theorem sel_ge (q k : Fin 8192) (a c : EReal) :
    Scalar.select (IntOp.cmpi CmpIPredicate.sge (IntOp.subi (BitVec.ofNat 32 q.val) (BitVec.ofNat 32 k.val)) 0#32) a c = if k.val ≤ q.val then a else c := by
  have e : (BitVec.ofNat 32 q.val - BitVec.ofNat 32 k.val).toInt = (q.val : ℤ) - k.val := by
    have h1 := q.isLt
    have h2 := k.isLt
    have w : ∀ n : ℕ, n < 8192 → (BitVec.ofNat 32 n).toInt = (n : ℤ) := fun n hn => by
      rw [BitVec.toInt_eq_toNat_cond, BitVec.toNat_ofNat]
      omega
    rw [BitVec.toInt_sub, w _ h1, w _ h2]
    simp only [Int.bmod_def]
    omega
  have e' : IntOp.cmpi CmpIPredicate.sge (IntOp.subi (BitVec.ofNat 32 q.val) (BitVec.ofNat 32 k.val)) 0#32 = BitVec.ofBool (decide (k.val ≤ q.val)) := by
    refine congrArg BitVec.ofBool ?_
    show BitVec.sle _ _ = _
    rw [BitVec.sle_eq_decide]
    refine decide_eq_decide.mpr ?_
    show (0#32).toInt ≤ (BitVec.ofNat 32 q.val - BitVec.ofNat 32 k.val).toInt ↔ _
    rw [e]
    simp
  rw [e']
  by_cases h : k.val ≤ q.val
  · rw [if_pos h, decide_eq_true h]; rfl
  · rw [if_neg h, decide_eq_false h]; rfl

section Sums
variable (Q K V : Fin 32768 → Fin 512 → ℝ) (b h : Fin 4) (q : Fin 8192)

theorem den_wt : den Q K (tk b q) h = ∑ k, wt (fun k : Fin 8192 => k.val ≤ q.val) (fun k => score Q K (tk b q) h k.val) k := by
  simp only [den, tk_mod]
  rfl

theorem num_wt (d : Fin 128) : num Q K V (tk b q) h d
    = ∑ k, wt (fun k : Fin 8192 => k.val ≤ q.val) (fun k => score Q K (tk b q) h k.val) k * V (tk b k) (col h d) := by
  simp only [num, tk_mod, krow_tk, wt, ite_mul, zero_mul]
end Sums

theorem ofBits_zero : Ideal.ofBits FTy.f32 0#32 = (0 : EReal) := by simp [Ideal.ofBits, Ideal.ieee]

section Map
variable (x0 x2 : Vec Ideal S32768x512 .bf16) (Q K : Fin 32768 → Fin 512 → ℝ)
  (hQ : ∀ r e, x0 (ix2 r e) = (Q r e : EReal)) (hK : ∀ r e, x2 (ix2 r e) = (K r e : EReal))
  (b h : Fin 4) (q k : Fin 8192)
include hQ hK

theorem score_apply : val_main_v19 (F := Ideal) x0 x2 (ix4 b h q k) = (score Q K (tk b q) h k.val : EReal) := by
  rw [val_main_v19_apply]
  refine dot_eq _ _ (fun d => Q (tk b q) (col h d)) (fun d => K (krow (tk b q) k.val) (col h d)) (fun d => ?_) (fun d => ?_)
  · rw [eq_ix4 (lidx_main_v19 (ix4 b h q k) d), ← hQ]; exact heads_apply x0 b q h d
  · rw [eq_ix4 (ridx_main_v19 (ix4 b h q k) d), ← hK, krow_tk]; exact heads_apply x2 b k h d

theorem masked_apply : val_main_v22 (F := Ideal) x0 x2 (ix4 b h q k)
    = if k.val ≤ q.val then (score Q K (tk b q) h k.val : EReal) else ⊥ := by
  rw [val_main_v22_apply, score_apply x0 x2 Q K hQ hK, ← ofBits_neg_inf]
  exact sel_ge q k _ _

theorem expo_apply : ∃ M : ℝ, ∀ k : Fin 8192, val_main_v28 (F := Ideal) x0 x2 (ix4 b h q k)
    = (((2 : ℝ) ^ (-M) * wt (fun k : Fin 8192 => k.val ≤ q.val) (fun k => score Q K (tk b q) h k.val) k : ℝ) : EReal) := by
  have hs := fun k => masked_apply x0 x2 Q K hQ hK b h q k
  obtain ⟨M, hM⟩ := row_max (fun k : Fin 8192 => k.val ≤ q.val) (fun k => score Q K (tk b q) h k.val) (fun k => val_main_v22 (F := Ideal) x0 x2 (ix4 b h q k)) hs ⟨q, le_rfl⟩
  refine ⟨M, fun k => ?_⟩
  have e : val_main_v25 (F := Ideal) x0 x2 (ix4 b h q k) = (M : EReal) := by
    rw [← hM]
    unfold val_main_v25 val_main_v24 val_main_v23 val_main_cst_3
    generalize val_main_v22 (F := Ideal) x0 x2 = w
    pointwise []
    rw [ofBits_neg_inf]
  rw [val_main_v28_apply, val_main_v26_apply, e]
  refine (congrArg (fun z : EReal => Ideal.pow z _) (?_ : Ideal.ofBits FTy.f32 0x40000000#32 = ((2 : ℝ) : EReal))).trans (pow_score _ _ _ hs M k)
  simp [Ideal.ofBits, Ideal.ieee]
  rw [← EReal.coe_mul]
  norm_num

theorem prob_apply : val_main_v32 (F := Ideal) x0 x2 (ix4 b h q k)
    = ((wt (fun k : Fin 8192 => k.val ≤ q.val) (fun k => score Q K (tk b q) h k.val) k / den Q K (tk b q) h : ℝ) : EReal) := by
  obtain ⟨M, hM⟩ := expo_apply x0 x2 Q K hQ hK b h q
  have hp : (0 : ℝ) < (2 : ℝ) ^ (-M) := Real.rpow_pos_of_pos two_pos _
  have hd := den_pos Q K (tk b q) h
  have e : val_main_v31 (F := Ideal) x0 x2 (ix4 b h q k) = (((2 : ℝ) ^ (-M) * den Q K (tk b q) h : ℝ) : EReal) := by
    rw [val_main_v31_apply, val_main_v30_apply, val_main_v29_apply]
    have : ∀ k, val_main_v28 (F := Ideal) x0 x2 (idx_main_v29 (idx_main_v30 (idx_main_v31 (ix4 b h q k))) k) = _ := fun k =>
      (congrArg _ (eq_ix4 _)).trans (hM k)
    refine (congrArg₂ (fun y z : EReal => y + z) ofBits_zero (Finset.sum_congr rfl fun k _ => this k)).trans ?_
    rw [zero_add, coe_sum, ← Finset.mul_sum, ← den_wt]
  rw [val_main_v32_apply, hM, e]
  refine (Ideal.div_coe (by positivity) _).trans ?_
  rw [← EReal.coe_mul]
  congr 1
  field_simp
end Map

section Row
variable (x0 x1 x2 x3 x4 : Vec Ideal S32768x512 .bf16) (x5 x6 x7 x8 : Vec Ideal S64 .f32) (x9 : Vec Ideal S128 .f32) (Q1 Q2 K1 K2 W : Fin 32768 → Fin 512 → ℝ) (L : ℝ)

theorem lam_apply : val_main_v14 (F := Ideal) x5 x6 x7 x8 ix0 = lamOf (fun k => x5 (ix1 k)) (fun k => x6 (ix1 k)) (fun k => x7 (ix1 k)) (fun k => x8 (ix1 k)) := by
  unfold val_main_v14 val_main_v13 val_main_v12 val_main_v11 val_main_v10 val_main_v9 val_main_v8 val_main_v7 val_main_cst val_main_cst_0 val_main_cst_1
  pointwise []
  rfl

theorem second : val_main_v50 (F := Ideal) x1 x3 = val_main_v32 (F := Ideal) x1 x3 := rfl
theorem values : val_main_v55 (F := Ideal) x4 = val_main_v16 (F := Ideal) x4 := rfl

theorem out_apply (h0 : ∀ r e, x0 (ix2 r e) = (Q1 r e : EReal)) (h1 : ∀ r e, x1 (ix2 r e) = (Q2 r e : EReal)) (h2 : ∀ r e, x2 (ix2 r e) = (K1 r e : EReal))
    (h3 : ∀ r e, x3 (ix2 r e) = (K2 r e : EReal)) (h4 : ∀ r e, x4 (ix2 r e) = (W r e : EReal))
    (hL : lamOf (fun k => x5 (ix1 k)) (fun k => x6 (ix1 k)) (fun k => x7 (ix1 k)) (fun k => x8 (ix1 k)) = (L : EReal)) (b : Fin 4) (n : Fin 8192) (h : Fin 4) (d : Fin 128) :
    val_main_v57 (F := Ideal) x0 x1 x2 x3 x4 x5 x6 x7 x8 (ix4 b n h d) = att Q1 Q2 K1 K2 W (L : EReal) (tk b n) h d := by
  have e : ∀ k, val_main_v53 (F := Ideal) x0 x1 x2 x3 x5 x6 x7 x8 (ix4 b h n k)
      = ((wt (fun k : Fin 8192 => k.val ≤ n.val) (fun k => score Q1 K1 (tk b n) h k.val) k / den Q1 K1 (tk b n) h
        - L * (wt (fun k : Fin 8192 => k.val ≤ n.val) (fun k => score Q2 K2 (tk b n) h k.val) k / den Q2 K2 (tk b n) h) : ℝ) : EReal) := fun k => by
    have el : val_main_v51 (F := Ideal) x5 x6 x7 x8 (ix4 b h n k) = (L : EReal) := by
      rw [val_main_v51_apply, ← hL, ← lam_apply]
      exact congrArg _ (funext fun a => a.elim0)
    rw [val_main_v53_apply, val_main_v52_apply, second, prob_apply x0 x2 Q1 K1 h0 h2, prob_apply x1 x3 Q2 K2 h1 h3, el, EReal.coe_sub, EReal.coe_mul]
    rfl
  rw [val_main_v57_apply, val_main_v56_apply]
  have : ∀ k, val_main_v55 (F := Ideal) x4 (lidx_main_v56 (idx_main_v57 (ix4 b n h d)) k) * val_main_v53 (F := Ideal) x0 x1 x2 x3 x5 x6 x7 x8 (ridx_main_v56 (idx_main_v57 (ix4 b n h d)) k) = _ :=
    fun k => congrArg₂ (· * ·) ((congrArg _ (eq_ix4 _)).trans ((heads_apply x4 b k h d).trans (h4 _ _))) ((congrArg _ (eq_ix4 _)).trans (e k))
  simp only [this, ← EReal.coe_mul, coe_sum, att, coe_sub', num_wt]
  congr 1
  simp only [Finset.sum_div, Finset.mul_sum, ← Finset.sum_sub_distrib]
  exact Finset.sum_congr rfl fun k _ => by ring

theorem norm_apply (b : Fin 4) (n : Fin 8192) (h : Fin 4) (d : Fin 128) : val_main_v72 (F := Ideal) x0 x1 x2 x3 x4 x5 x6 x7 x8 x9 (ix4 b n h d)
    = normed (fun d => val_main_v57 (F := Ideal) x0 x1 x2 x3 x4 x5 x6 x7 x8 (ix4 b n h d)) (x9 (ix1 d)) d := by
  unfold val_main_v72 val_main_v71 val_main_v70 val_main_v69 val_main_v68 val_main_v67 val_main_v66 val_main_v65 val_main_v64 val_main_v63 val_main_v62 val_main_v61 val_main_v60 val_main_v59 val_main_v58
    val_main_cst_11 val_main_cst_12 val_main_cst_13 val_main_cst_14
  generalize val_main_v57 (F := Ideal) x0 x1 x2 x3 x4 x5 x6 x7 x8 = w
  pointwise []
  rfl

/-- The reference's output, when the queries, keys, values and the factor of the second map are real. -/
theorem value (h0 : ∀ r e, x0 (ix2 r e) = (Q1 r e : EReal)) (h1 : ∀ r e, x1 (ix2 r e) = (Q2 r e : EReal)) (h2 : ∀ r e, x2 (ix2 r e) = (K1 r e : EReal))
    (h3 : ∀ r e, x3 (ix2 r e) = (K2 r e : EReal)) (h4 : ∀ r e, x4 (ix2 r e) = (W r e : EReal))
    (hL : lamOf (fun k => x5 (ix1 k)) (fun k => x6 (ix1 k)) (fun k => x7 (ix1 k)) (fun k => x8 (ix1 k)) = (L : EReal)) (r : Fin 32768) (e : Fin 512) :
    val_main_v74 (F := Ideal) x0 x1 x2 x3 x4 x5 x6 x7 x8 x9 (ix2 r e) = outAt Q1 Q2 K1 K2 W (L : EReal) (fun k => x9 (ix1 k)) r e := by
  have hi : idx_main_v73 (ix2 r e) = ix4 ⟨r.val / 8192, by omega⟩ ⟨r.val % 8192, by omega⟩ ⟨e.val / 128, by omega⟩ ⟨e.val % 128, by omega⟩ := by
    refine funext fun a => Fin.ext ?_
    match a with
    | 0 => show (r.val * 512 + e.val) / 4194304 = r.val / 8192; omega
    | 1 => show (r.val * 512 + e.val) / 512 % 8192 = r.val % 8192; omega
    | 2 => show (r.val * 512 + e.val) / 128 % 4 = e.val / 128; omega
    | 3 => show (r.val * 512 + e.val) % 128 = e.val % 128; omega
  have hr : tk ⟨r.val / 8192, by omega⟩ ⟨r.val % 8192, by omega⟩ = r := Fin.ext (by simp only [tk]; omega)
  rw [val_main_v74_apply, val_main_v73_apply, hi]
  refine (norm_apply ..).trans ?_
  simp only [out_apply x0 x1 x2 x3 x4 x5 x6 x7 x8 Q1 Q2 K1 K2 W L h0 h1 h2 h3 h4 hL, hr]
  rfl

/-- What the precondition says: the queries, keys, values and the four vectors behind the factor of the second map are
real numbers. -/
theorem finite_of_pre (h : Cert.Pre_da_finite.fn (F := Ideal) x0 x1 x2 x3 x4 x5 x6 x7 x8 x9 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ (∀ i, IsReal (x6 i)) ∧ (∀ i, IsReal (x7 i)) ∧ (∀ i, IsReal (x8 i)) := by
  have h' := congrFun h ix0
  dsimp only [Cert.Pre_da_finite.fn, Cert.Pre_da_finite.fn_part1, Cert.Pre_da_finite.fn_part2] at h'
  obtain ⟨h', p8⟩ := andi_one h'
  obtain ⟨h', p7⟩ := andi_one h'
  obtain ⟨h', p6⟩ := andi_one h'
  obtain ⟨h', p5⟩ := andi_one h'
  obtain ⟨h', p4⟩ := andi_one h'
  obtain ⟨h', p3⟩ := andi_one h'
  obtain ⟨h', p2⟩ := andi_one h'
  obtain ⟨p0, p1⟩ := andi_one h'
  haveI : Subsingleton S_.Idx := ⟨fun a b => funext fun k => k.elim0⟩
  refine ⟨fun i => isReal_of_abs_lt ?_, fun i => isReal_of_abs_lt ?_, fun i => isReal_of_abs_lt ?_, fun i => isReal_of_abs_lt ?_, fun i => isReal_of_abs_lt ?_,
    fun i => isReal_of_abs_lt ?_, fun i => isReal_of_abs_lt ?_, fun i => isReal_of_abs_lt ?_, fun i => isReal_of_abs_lt ?_⟩ <;> rw [← ofBits_inf]
  · exact Host.reduce_andi_all _ _ _ _ _ p0 i
  · exact Host.reduce_andi_all _ _ _ _ _ p1 i
  · exact Host.reduce_andi_all _ _ _ _ _ p2 i
  · exact Host.reduce_andi_all _ _ _ _ _ p3 i
  · exact Host.reduce_andi_all _ _ _ _ _ p4 i
  · exact Host.reduce_andi_all _ _ _ _ _ p5 i
  · exact Host.reduce_andi_all _ _ _ _ _ p6 i
  · exact Host.reduce_andi_all _ _ _ _ _ p7 i
  · exact Host.reduce_andi_all _ _ _ _ _ p8 i

theorem lam_real (a b c d : Fin 64 → EReal) (ha : ∀ i, IsReal (a i)) (hb : ∀ i, IsReal (b i)) (hc : ∀ i, IsReal (c i)) (hd : ∀ i, IsReal (d i)) :
    IsReal (lamOf a b c d) := by
  choose a' ha using ha
  choose b' hb using hb
  choose c' hc using hc
  choose d' hd using hd
  have hk : IsReal (Ideal.ofBits FTy.f32 0x3E4CCCCD#32) := by
    simp [Ideal.ofBits, Ideal.ieee]
    rw [← EReal.coe_mul]
    exact ⟨_, rfl⟩
  obtain ⟨k, hk⟩ := hk
  simp only [lamOf, ha, hb, hc, hd, hk, ← EReal.coe_mul, coe_sum, Ideal.exp_coe, coe_sub', ← EReal.coe_add]
  exact ⟨_, rfl⟩

/-- A kernel whose output is the same function of real arguments has the reference's output. -/
theorem value_eq (h : Cert.Pre_da_finite.fn (F := Ideal) x0 x1 x2 x3 x4 x5 x6 x7 x8 x9 = fun _ => 1#1) (out : S32768x512.Idx → EReal)
    (hout : ∀ Q1 Q2 K1 K2 W : Fin 32768 → Fin 512 → ℝ, (∀ r e, x0 (ix2 r e) = (Q1 r e : EReal)) → (∀ r e, x1 (ix2 r e) = (Q2 r e : EReal)) →
      (∀ r e, x2 (ix2 r e) = (K1 r e : EReal)) → (∀ r e, x3 (ix2 r e) = (K2 r e : EReal)) → (∀ r e, x4 (ix2 r e) = (W r e : EReal)) →
      ∀ y, out y = outAt Q1 Q2 K1 K2 W (lamOf (fun k => x5 (ix1 k)) (fun k => x6 (ix1 k)) (fun k => x7 (ix1 k)) (fun k => x8 (ix1 k))) (fun k => x9 (ix1 k)) (y 0) (y 1)) :
    out = val_main_v74 (F := Ideal) x0 x1 x2 x3 x4 x5 x6 x7 x8 x9 := by
  obtain ⟨f0, f1, f2, f3, f4, f5, f6, f7, f8⟩ := finite_of_pre x0 x1 x2 x3 x4 x5 x6 x7 x8 x9 h
  choose Q1 h0 using fun r e => f0 (ix2 r e)
  choose Q2 h1 using fun r e => f1 (ix2 r e)
  choose K1 h2 using fun r e => f2 (ix2 r e)
  choose K2 h3 using fun r e => f3 (ix2 r e)
  choose W h4 using fun r e => f4 (ix2 r e)
  obtain ⟨L, hL⟩ := lam_real _ _ _ _ (fun k => f5 (ix1 k)) (fun k => f6 (ix1 k)) (fun k => f7 (ix1 k)) (fun k => f8 (ix1 k))
  funext y
  rw [hout Q1 Q2 K1 K2 W h0 h1 h2 h3 h4, hL]
  exact (value x0 x1 x2 x3 x4 x5 x6 x7 x8 x9 Q1 Q2 K1 K2 W L h0 h1 h2 h3 h4 hL (y 0) (y 1)).symm.trans (congrArg _ (eq_ix2 y)).symm

end Row

end Cert.RefDiffIdeal.Rows
end
-- ==== Proof.DiffClaims.lean ====
module

public import proofs.«01_k».proof.Defs
public import proofs.«01_k».proof.Proof.DiffOnlineRows
public import proofs.«01_k».proof.Proof.DiffUnshiftedRows
public import proofs.«01_k».proof.Proof.RefDiffRows

/-! The kernels of the differential attention have the reference's output. -/

@[expose] public section

set_option maxRecDepth 16384

noncomputable section

open Idealize.ShloMosaic Idealize.ShloMosaic.TcCoe Idealize.SL.Sem

namespace Cert.Proof

theorem algebraic_diff_online : Cert.algebraic_DiffOnlineIdeal_RefDiffIdeal_pre_da_finite := by
  pair_intro
  · run_from Cert.DiffOnlineIdeal.Value.run_blocks m g
  · run_from Cert.RefDiffIdeal.Value.run m' g'
    obtain ⟨h0, h1, h2, h3, h4, h5, h6, h7, h8, h9⟩ := hagree c
    rw [Cert.RefDiffIdeal.Read.val_main_v74_eq, h0, h1, h2, h3, h4, h5, h6, h7, h8, h9]
    exact (Cert.RefDiffIdeal.Rows.value_eq _ _ _ _ _ _ _ _ _ _ (hpre c) _ (fun Q1 Q2 K1 K2 W => Cert.DiffOnlineIdeal.Rows.final m c Q1 Q2 K1 K2 W)).symm

theorem algebraic_diff_unshifted : Cert.algebraic_DiffUnshiftedIdeal_RefDiffIdeal_pre_da_finite := by
  pair_intro
  · run_from Cert.DiffUnshiftedIdeal.Value.run_blocks m g
  · run_from Cert.RefDiffIdeal.Value.run m' g'
    obtain ⟨h0, h1, h2, h3, h4, h5, h6, h7, h8, h9⟩ := hagree c
    rw [Cert.RefDiffIdeal.Read.val_main_v74_eq, h0, h1, h2, h3, h4, h5, h6, h7, h8, h9]
    exact (Cert.RefDiffIdeal.Rows.value_eq _ _ _ _ _ _ _ _ _ _ (hpre c) _ (fun Q1 Q2 K1 K2 W => Cert.DiffUnshiftedIdeal.Rows.final m c Q1 Q2 K1 K2 W)).symm

end Cert.Proof
end
-- ==== Proof.OddPostRows.lean ====
module

public import proofs.«01_k».proof.Defs
public import proofs.«01_k».proof.Proof.PostRows
public import proofs.«01_k».proof.Proof.RealRows
public import proofs.«01_k».proof.Proof.Gen.OddPostIdeal.Value
public import proofs.«01_k».proof.Proof.Gen.RefOddPostIdeal.Read
public import proofs.«01_k».proof.Proof.Gen.Pre_op_finite

/-! The second half of the odd sub-layer.  The kernel weighs three dilated branches by the softmax of their
log-sums (one weight per head, one normalising reciprocal for all three), projects the two halves of the heads
back, adds the residual and applies the feed-forward layer.  The reference says the same on whole arrays with a
softmax that divides.  The two weights agree when the log-sums are finite. -/

@[expose] public section

set_option maxRecDepth 16384

noncomputable section

open Idealize.ShloMosaic Idealize.ShloMosaic.TcCoe Idealize.SL.Sem Cert.PostRows Cert.RealRows

namespace Cert.OddPostIdeal.Rows
open Cert.OddPostIdeal Cert.OddPostIdeal.Gen

/-- The weight of the branch whose log-sum is `l`, of three branches with log-sums `a`, `b`, `c`. -/
def wgt (a b c l : EReal) : EReal :=
  Ideal.exp (l - max (max a b) c) * Ideal.div 1 (Ideal.exp (a - max (max a b) c) + Ideal.exp (b - max (max a b) c) + Ideal.exp (c - max (max a b) c))

/-- The weighted sum of three branches at column `d`, each branch's weight being that of the column's head. -/
def mixAt (w1 w2 w3 : Fin 128 → EReal) (o1 o2 o3 : Fin 512 → EReal) (d : Fin 512) : EReal :=
  w1 ⟨↑d / 64, by omega⟩ * o1 d + w2 ⟨↑d / 64, by omega⟩ * o2 d + w3 ⟨↑d / 64, by omega⟩ * o3 d

theorem sel_lt (q : Fin 128) (a b : EReal) :
    Scalar.select (IntOp.cmpi CmpIPredicate.slt (BitVec.ofNat 32 ↑q) 64#32) a b = if q.val < 64 then a else b := by
  have h : IntOp.cmpi CmpIPredicate.slt (BitVec.ofNat 32 ↑q) 64#32 = if q.val < 64 then 1#1 else 0#1 := by
    revert q; decide +kernel
  rw [h]
  split <;> rfl

theorem pay7_apply (v0 v1 v2 : Vec Ideal S512x128 .f32) (p : Fin 512) (h : Fin 128) :
    k0_pay7 (F := Ideal) v0 v1 v2 (ix2 p h) = wgt (v0 (ix2 p h)) (v1 (ix2 p h)) (v2 (ix2 p h)) (v0 (ix2 p h)) := by
  pointwise [k0_pay7, k0_pay6, k0_pay5, k0_pay4, k0_pay3, k0_pay2]
  rfl
theorem pay8_apply (v0 v1 v2 : Vec Ideal S512x128 .f32) (p : Fin 512) (h : Fin 128) :
    k0_pay8 (F := Ideal) v0 v1 v2 (ix2 p h) = wgt (v0 (ix2 p h)) (v1 (ix2 p h)) (v2 (ix2 p h)) (v1 (ix2 p h)) := by
  pointwise [k0_pay8, k0_pay6, k0_pay5, k0_pay4, k0_pay3, k0_pay2]
  rfl
theorem pay9_apply (v0 v1 v2 : Vec Ideal S512x128 .f32) (p : Fin 512) (h : Fin 128) :
    k0_pay9 (F := Ideal) v0 v1 v2 (ix2 p h) = wgt (v0 (ix2 p h)) (v1 (ix2 p h)) (v2 (ix2 p h)) (v2 (ix2 p h)) := by
  pointwise [k0_pay9, k0_pay6, k0_pay5, k0_pay4, k0_pay3, k0_pay2]
  rfl

section parts
variable (W1 W2 W3 : FVec Ideal S512x128 .f32) (u1 u2 u3 : Vec Ideal S512x128 .bf16) (p : Fin 512) (q : Fin 128)

/-- One pair of heads: the lanes below 64 take the first head's weight, the others the second's. -/
def pairMix (h0 h1 : Fin 128) : EReal :=
  (if q.val < 64 then W1 (ix2 p h0) else W1 (ix2 p h1)) * u1 (ix2 p q) + (if q.val < 64 then W2 (ix2 p h0) else W2 (ix2 p h1)) * u2 (ix2 p q)
    + (if q.val < 64 then W3 (ix2 p h0) else W3 (ix2 p h1)) * u3 (ix2 p q)

theorem pair0 (v0 v1 v2 : Vec Ideal S512x128 .f32) :
    k0_pay13 (F := Ideal) (k0_pay9 v0 v1 v2) (iota .tc S1x128 32 [1] iota_S1x128_d1_w32) (k0_pay10 v0 v1 v2 u1) (k0_pay11 v0 v1 v2) (k0_pay12 u2) u3 (ix2 p q)
      = pairMix (k0_pay7 v0 v1 v2) (k0_pay8 v0 v1 v2) (k0_pay9 v0 v1 v2) u1 u2 u3 p q 0 1 := by
  unfold k0_pay13 k0_pay12 k0_pay11 k0_pay10 pairMix
  generalize k0_pay7 v0 v1 v2 = W1
  generalize k0_pay8 v0 v1 v2 = W2
  generalize k0_pay9 v0 v1 v2 = W3
  pointwise []
  simp only [sel_lt]

theorem pair1 :
    k0_pay17 (F := Ideal) W3 (k0_pay14 W1 W2 (iota .tc S1x128 32 [1] iota_S1x128_d1_w32) u1 u2) (k0_pay15 (iota .tc S1x128 32 [1] iota_S1x128_d1_w32)) (k0_pay16 W3) u3 (ix2 p q)
      = pairMix W1 W2 W3 u1 u2 u3 p q 2 3 := by
  unfold k0_pay17 k0_pay16 k0_pay15 k0_pay14 pairMix
  pointwise []
  simp only [sel_lt]

theorem pair2 :
    k0_pay22 (F := Ideal) (k0_pay18 W1 W2 (iota .tc S1x128 32 [1] iota_S1x128_d1_w32) u1 u2) (k0_pay19 (iota .tc S1x128 32 [1] iota_S1x128_d1_w32)) (k0_pay20 W3) (k0_pay21 W3) u3 (ix2 p q)
      = pairMix W1 W2 W3 u1 u2 u3 p q 4 5 := by
  unfold k0_pay22 k0_pay21 k0_pay20 k0_pay19 k0_pay18 pairMix
  pointwise []
  simp only [sel_lt]

theorem pair3 :
    k0_pay23 (F := Ideal) W1 W2 (iota .tc S1x128 32 [1] iota_S1x128_d1_w32) u1 u2 (ix2 p q) + k0_pay24 (F := Ideal) W3 (iota .tc S1x128 32 [1] iota_S1x128_d1_w32) (ix2 p q) * k0_pay25 (F := Ideal) u3 (ix2 p q)
      = pairMix W1 W2 W3 u1 u2 u3 p q 6 7 := by
  unfold k0_pay25 k0_pay24 k0_pay23 pairMix
  pointwise []
  simp only [sel_lt]
end parts

/-- The four pairs of heads side by side, the last one written out. -/
def glued (a b c : FVec Ideal S512x128 .bf16) (d e f : FVec Ideal S512x128 .f32) : FVec Ideal S512x512 .bf16 :=
  concatenate S512x512 1 [⟨S512x128, a⟩, ⟨S512x128, b⟩, ⟨S512x128, c⟩, ⟨S512x128, truncf .bf16 (addf d (mulf e f)) bitsLt_bf16_f32⟩] concatenates_S512x128_S512x128_S512x128_S512x128_S512x512_d1

theorem glued_apply (a b c : FVec Ideal S512x128 .bf16) (d e f : FVec Ideal S512x128 .f32) (p : Fin 512) (x : Fin 512) :
    glued a b c d e f (ix2 p x) = (if h : x.val < 128 then a (ix2 p ⟨x.val, h⟩) else if h : x.val - 128 < 128 then b (ix2 p ⟨x.val - 128, h⟩)
      else if h : x.val - 128 - 128 < 128 then c (ix2 p ⟨x.val - 128 - 128, h⟩)
      else d (ix2 p ⟨x.val - 128 - 128 - 128, by omega⟩) + e (ix2 p ⟨x.val - 128 - 128 - 128, by omega⟩) * f (ix2 p ⟨x.val - 128 - 128 - 128, by omega⟩)) := by
  unfold glued
  pointwise []

theorem pay26_apply (a b c : FVec Ideal S512x128 .bf16) (d e f : FVec Ideal S512x128 .f32) (v200 : Vec Ideal S512x1024 .f32) (v201 : Vec Ideal S512x512 .bf16) (v202 v206 : Vec Ideal S512x1024 .bf16)
    (p : Fin 512) (q : Fin 1024) :
    k0_pay26 (F := Ideal) a b c d e f v200 v201 v202 v206 (ix2 p q)
      = v200 (ix2 p q) + ∑ x : Fin 512, v201 (ix2 p x) * v202 (ix2 x q) + ∑ x : Fin 512, glued a b c d e f (ix2 p x) * v206 (ix2 x q) := by
  unfold k0_pay26
  change addf _ (matmul _ _ (glued a b c d e f) _ _) (ix2 p q) = _
  generalize glued a b c d e f = Y
  pointwise []

theorem pay1_apply (v209 : FVec Ideal S512x1024 .f32) (v234 : FVec Ideal S512x2816 .bf16) (v235 : Vec Ideal S2816x1024 .bf16) (p : Fin 512) (q : Fin 1024) :
    k0_pay1 (F := Ideal) v209 v234 v235 (ix2 p q) = v209 (ix2 p q) + ∑ x : Fin 2816, v234 (ix2 p x) * v235 (ix2 x q) := by
  pointwise [k0_pay1]

theorem pay27_apply (a b c : FVec Ideal S512x128 .bf16) (d e f : FVec Ideal S512x128 .f32) (v200 : Vec Ideal S512x1024 .f32) (v201 : Vec Ideal S512x512 .bf16) (v202 v206 : Vec Ideal S512x1024 .bf16)
    (v220 : Vec Ideal S1x1024 .f32) (v225 v228 : Vec Ideal S1024x2816 .bf16) (p : Fin 512) (q : Fin 2816) :
    k0_pay27 (F := Ideal) a b c d e f v200 v201 v202 v206 v220 v225 v228 (ix2 p q)
      = rowHidden (fun k => k0_pay26 (F := Ideal) a b c d e f v200 v201 v202 v206 (ix2 p k)) (fun k => v220 (ix2 0 k)) (fun k n => v225 (ix2 k n)) (fun k n => v228 (ix2 k n)) q := by
  unfold k0_pay27
  generalize k0_pay26 (F := Ideal) a b c d e f v200 v201 v202 v206 = w
  pointwise []
  rfl

/-- The mixed branches of row `p` at column `x`, from the blocks of the branches and of their log-sums. -/
def mixRow (X2 X3 X4 : Vec Ideal S512x512 .bf16) (X5 X6 X7 : Vec Ideal S512x128 .f32) (p : Fin 512) (x : Fin 512) : EReal :=
  mixAt (fun h => wgt (X5 (ix2 p h)) (X6 (ix2 p h)) (X7 (ix2 p h)) (X5 (ix2 p h))) (fun h => wgt (X5 (ix2 p h)) (X6 (ix2 p h)) (X7 (ix2 p h)) (X6 (ix2 p h)))
    (fun h => wgt (X5 (ix2 p h)) (X6 (ix2 p h)) (X7 (ix2 p h)) (X7 (ix2 p h))) (fun d => X2 (ix2 p d)) (fun d => X3 (ix2 p d)) (fun d => X4 (ix2 p d)) x

theorem pairMix_eq (k : Nat) (h0 h1 : Fin 128) (e0 : h0.val = 2 * k) (e1 : h1.val = 2 * k + 1) (X2 X3 X4 : Vec Ideal S512x512 .bf16) (X5 X6 X7 Y5 Y6 Y7 : Vec Ideal S512x128 .f32)
    (Y2 Y3 Y4 : Vec Ideal S512x128 .bf16) (p : Fin 512) (q : Fin 128) (x : Fin 512) (hx : x.val = 128 * k + q.val)
    (l5 : ∀ h, Y5 (ix2 p h) = X5 (ix2 p h)) (l6 : ∀ h, Y6 (ix2 p h) = X6 (ix2 p h)) (l7 : ∀ h, Y7 (ix2 p h) = X7 (ix2 p h))
    (l2 : Y2 (ix2 p q) = X2 (ix2 p x)) (l3 : Y3 (ix2 p q) = X3 (ix2 p x)) (l4 : Y4 (ix2 p q) = X4 (ix2 p x)) :
    pairMix (k0_pay7 Y5 Y6 Y7) (k0_pay8 Y5 Y6 Y7) (k0_pay9 Y5 Y6 Y7) Y2 Y3 Y4 p q h0 h1 = mixRow X2 X3 X4 X5 X6 X7 p x := by
  simp only [pairMix, mixRow, mixAt, pay7_apply, pay8_apply, pay9_apply, l2, l3, l4, l5, l6, l7]
  have hq : (⟨x.val / 64, by omega⟩ : Fin 128) = if q.val < 64 then h0 else h1 := by
    split <;> (apply Fin.ext; simp only [e0, e1, hx]; omega)
  rw [hq]
  split <;> rfl

/-- The four pairs glued are the mixed branches, column by column. -/
theorem mixed (X0 : Vec Ideal S512x1024 .f32) (X1 X2 X3 X4 : Vec Ideal S512x512 .bf16) (X5 X6 X7 : Vec Ideal S512x128 .f32) (X8 : Vec Ideal S1024x1024 .bf16) (X9 : Vec Ideal S1x1024 .f32)
    (X10 X11 : Vec Ideal S1024x2816 .bf16) (X12 : Vec Ideal S2816x1024 .bf16) (p : Fin 512) (x : Fin 512) :
    glued (k0_pay32 X0 X1 X2 X3 X4 X5 X6 X7 X8 X9 X10 X11 X12) (k0_pay33 X0 X1 X2 X3 X4 X5 X6 X7 X8 X9 X10 X11 X12) (k0_pay34 X0 X1 X2 X3 X4 X5 X6 X7 X8 X9 X10 X11 X12)
        (k0_pay35 X0 X1 X2 X3 X4 X5 X6 X7 X8 X9 X10 X11 X12) (k0_pay36 X0 X1 X2 X3 X4 X5 X6 X7 X8 X9 X10 X11 X12) (k0_pay37 X0 X1 X2 X3 X4 X5 X6 X7 X8 X9 X10 X11 X12) (ix2 p x)
      = mixRow X2 X3 X4 X5 X6 X7 p x := by
  have l0 : ∀ (X : Vec Ideal S512x128 .f32) (h : Fin 128), View.ld X r0_0 (ix2 p h) = X (ix2 p h) := fun X h => by pointwise []
  have same : ∀ (k : Nat) (h : k < 512), k = x.val → (⟨k, h⟩ : Fin 512) = x := fun k h e => Fin.ext e
  rw [glued_apply]
  split
  · refine (pair0 (View.ld X2 r0_1) (View.ld X3 r0_1) (View.ld X4 r0_1) p _ (View.ld X5 r0_0) (View.ld X6 r0_0) (View.ld X7 r0_0)).trans
      (pairMix_eq 0 0 1 rfl rfl X2 X3 X4 X5 X6 X7 _ _ _ _ _ _ p _ x (by simp only []; omega) (l0 X5) (l0 X6) (l0 X7) ?_ ?_ ?_) <;> pointwise [] <;> rw [same _ _ (by omega)]
  split
  · refine (pair1 (k0_pay7 (View.ld X5 r0_0) (View.ld X6 r0_0) (View.ld X7 r0_0)) (k0_pay8 (View.ld X5 r0_0) (View.ld X6 r0_0) (View.ld X7 r0_0)) (k0_pay9 (View.ld X5 r0_0) (View.ld X6 r0_0) (View.ld X7 r0_0))
        (View.ld X2 r0_2) (View.ld X3 r0_2) (View.ld X4 r0_2) p _).trans
      (pairMix_eq 1 2 3 rfl rfl X2 X3 X4 X5 X6 X7 _ _ _ _ _ _ p _ x (by simp only []; omega) (l0 X5) (l0 X6) (l0 X7) ?_ ?_ ?_) <;> pointwise [] <;> rw [same _ _ (by omega)]
  split
  · refine (pair2 (k0_pay7 (View.ld X5 r0_0) (View.ld X6 r0_0) (View.ld X7 r0_0)) (k0_pay8 (View.ld X5 r0_0) (View.ld X6 r0_0) (View.ld X7 r0_0)) (k0_pay9 (View.ld X5 r0_0) (View.ld X6 r0_0) (View.ld X7 r0_0))
        (View.ld X2 r0_3) (View.ld X3 r0_3) (View.ld X4 r0_3) p _).trans
      (pairMix_eq 2 4 5 rfl rfl X2 X3 X4 X5 X6 X7 _ _ _ _ _ _ p _ x (by simp only []; omega) (l0 X5) (l0 X6) (l0 X7) ?_ ?_ ?_) <;> pointwise [] <;> rw [same _ _ (by omega)]
  · refine (pair3 (k0_pay7 (View.ld X5 r0_0) (View.ld X6 r0_0) (View.ld X7 r0_0)) (k0_pay8 (View.ld X5 r0_0) (View.ld X6 r0_0) (View.ld X7 r0_0)) (k0_pay9 (View.ld X5 r0_0) (View.ld X6 r0_0) (View.ld X7 r0_0))
        (View.ld X2 r0_4) (View.ld X3 r0_4) (View.ld X4 r0_4) p _).trans
      (pairMix_eq 3 6 7 rfl rfl X2 X3 X4 X5 X6 X7 _ _ _ _ _ _ p _ x (by simp only []; omega) (l0 X5) (l0 X6) (l0 X7) ?_ ?_ ?_) <;> pointwise [] <;> rw [same _ _ (by omega)]

variable (m : (ℓ : Loc nD τ sig) → Buf (Elt Ideal) ℓ) (c : Dev nD)

theorem idx : ∀ t : Fin grid0.N, win0_0.index t = ![(grid0.coords t 0).val, 0] ∧ win0_1.index t = ![(grid0.coords t 0).val, 0] ∧ win0_2.index t = ![(grid0.coords t 0).val, 0] ∧ win0_3.index t = ![(grid0.coords t 0).val, 0] ∧ win0_4.index t = ![(grid0.coords t 0).val, 0] ∧ win0_5.index t = ![(grid0.coords t 0).val, 0] ∧ win0_6.index t = ![(grid0.coords t 0).val, 0] ∧ win0_7.index t = ![(grid0.coords t 0).val, 0] ∧ win0_13.index t = ![(grid0.coords t 0).val, 0] ∧ win0_8.index t = ![0, 0] ∧ win0_9.index t = ![0, 0] ∧ win0_10.index t = ![0, 0] ∧ win0_11.index t = ![0, 0] ∧ win0_12.index t = ![0, 0] := by decide +kernel

/-- The mixed branches at token `r` and column `d`. -/
def yd (x2 x3 x4 : Vec Ideal S32768x512 .bf16) (x5 x6 x7 : Vec Ideal S32768x128 .f32) (r : Fin 32768) (d : Fin 512) : EReal :=
  mixAt (fun h => wgt (x5 (ix2 r h)) (x6 (ix2 r h)) (x7 (ix2 r h)) (x5 (ix2 r h))) (fun h => wgt (x5 (ix2 r h)) (x6 (ix2 r h)) (x7 (ix2 r h)) (x6 (ix2 r h)))
    (fun h => wgt (x5 (ix2 r h)) (x6 (ix2 r h)) (x7 (ix2 r h)) (x7 (ix2 r h))) (fun d => x2 (ix2 r d)) (fun d => x3 (ix2 r d)) (fun d => x4 (ix2 r d)) d

/-- The residual stream after the mixer's projection, at token `r`. -/
def mid (x0 : Vec Ideal S32768x1024 .f32) (x1 x2 x3 x4 : Vec Ideal S32768x512 .bf16) (x5 x6 x7 : Vec Ideal S32768x128 .f32) (x8 : Vec Ideal S1024x1024 .f32) (r : Fin 32768) (k : Fin 1024) : EReal :=
  x0 (ix2 r k) + ∑ x : Fin 512, x1 (ix2 r x) * x8 (ix2 ⟨↑x, by omega⟩ k) + ∑ x : Fin 512, yd x2 x3 x4 x5 x6 x7 r x * x8 (ix2 ⟨512 + ↑x, by omega⟩ k)

/-- The result array, from the argument arrays. -/
def G (x0 : Vec Ideal S32768x1024 .f32) (x1 x2 x3 x4 : Vec Ideal S32768x512 .bf16) (x5 x6 x7 : Vec Ideal S32768x128 .f32) (x8 : Vec Ideal S1024x1024 .f32) (x9 : Vec Ideal S1024 .f32) (x10 x11 : Vec Ideal S1024x2816 .f32) (x12 : Vec Ideal S2816x1024 .f32) : Vec Ideal S32768x1024 .f32 := fun i =>
  rowFfn (mid x0 x1 x2 x3 x4 x5 x6 x7 x8 (i 0)) (fun k => x9 (ix1 k)) (fun k n => x10 (ix2 k n)) (fun k n => x11 (ix2 k n)) (fun n k => x12 (ix2 n k)) (i 1)

/-- The token that row `p` of block `t` is. -/
def tok (t : Fin grid0.N) (p : Fin 512) : Fin 32768 := ⟨(grid0.coords t 0).val * 512 + ↑p, by have := (grid0.coords t 0).isLt; change _ < 64 at this; omega⟩

theorem blk0 (t : Fin grid0.N) (p : Fin 512) (k : Fin 1024) : iblk m c 0 t (ix2 p k) = m ((c.tc : Thread nD τ).loc main_arg0) (ix2 (tok t p) k) := by
  blk_ext [iblk, V, idx t, tok]
theorem blk1 (t : Fin grid0.N) (p : Fin 512) (k : Fin 512) : iblk m c 1 t (ix2 p k) = m ((c.tc : Thread nD τ).loc main_arg1) (ix2 (tok t p) k) := by
  blk_ext [iblk, V, idx t, tok]
theorem blk2 (t : Fin grid0.N) (p : Fin 512) (k : Fin 512) : iblk m c 2 t (ix2 p k) = m ((c.tc : Thread nD τ).loc main_arg2) (ix2 (tok t p) k) := by
  blk_ext [iblk, V, idx t, tok]
theorem blk3 (t : Fin grid0.N) (p : Fin 512) (k : Fin 512) : iblk m c 3 t (ix2 p k) = m ((c.tc : Thread nD τ).loc main_arg3) (ix2 (tok t p) k) := by
  blk_ext [iblk, V, idx t, tok]
theorem blk4 (t : Fin grid0.N) (p : Fin 512) (k : Fin 512) : iblk m c 4 t (ix2 p k) = m ((c.tc : Thread nD τ).loc main_arg4) (ix2 (tok t p) k) := by
  blk_ext [iblk, V, idx t, tok]
theorem blk5 (t : Fin grid0.N) (p : Fin 512) (k : Fin 128) : iblk m c 5 t (ix2 p k) = m ((c.tc : Thread nD τ).loc main_arg5) (ix2 (tok t p) k) := by
  blk_ext [iblk, V, idx t, tok]
theorem blk6 (t : Fin grid0.N) (p : Fin 512) (k : Fin 128) : iblk m c 6 t (ix2 p k) = m ((c.tc : Thread nD τ).loc main_arg6) (ix2 (tok t p) k) := by
  blk_ext [iblk, V, idx t, tok]
theorem blk7 (t : Fin grid0.N) (p : Fin 512) (k : Fin 128) : iblk m c 7 t (ix2 p k) = m ((c.tc : Thread nD τ).loc main_arg7) (ix2 (tok t p) k) := by
  blk_ext [iblk, V, idx t, tok]
theorem blk8 (t : Fin grid0.N) (p : Fin 1024) (k : Fin 1024) : iblk m c 8 t (ix2 p k) = m ((c.tc : Thread nD τ).loc main_arg8) (ix2 p k) := by
  blk_ext! [iblk, V, idx t]
theorem blk10 (t : Fin grid0.N) (p : Fin 1024) (k : Fin 2816) : iblk m c 10 t (ix2 p k) = m ((c.tc : Thread nD τ).loc main_arg10) (ix2 p k) := by
  blk_ext! [iblk, V, idx t]
theorem blk11 (t : Fin grid0.N) (p : Fin 1024) (k : Fin 2816) : iblk m c 11 t (ix2 p k) = m ((c.tc : Thread nD τ).loc main_arg11) (ix2 p k) := by
  blk_ext! [iblk, V, idx t]
theorem blk12 (t : Fin grid0.N) (p : Fin 2816) (k : Fin 1024) : iblk m c 12 t (ix2 p k) = m ((c.tc : Thread nD τ).loc main_arg12) (ix2 p k) := by
  blk_ext! [iblk, V, idx t]
theorem blk9 (t : Fin grid0.N) (k : Fin 1024) : iblk m c 9 t (ix2 0 k) = m ((c.tc : Thread nD τ).loc main_arg9) (ix1 k) := by
  blk_ext! [iblk, V, idx t]

theorem ld7 (t : Fin grid0.N) (x : Fin 512) (q : Fin 1024) :
    View.ld (iblk m c 8 t) r0_7 (ix2 x q) = m ((c.tc : Thread nD τ).loc main_arg8) (ix2 ⟨↑x, by omega⟩ q) := by
  refine Eq.trans ?_ (blk8 m c t ⟨↑x, by omega⟩ q)
  generalize iblk m c 8 t = X
  change View.ld (S := S1024x1024) X r0_7 (ix2 x q) = _
  pointwise []
theorem ld8 (t : Fin grid0.N) (x : Fin 512) (q : Fin 1024) :
    View.ld (iblk m c 8 t) r0_8 (ix2 x q) = m ((c.tc : Thread nD τ).loc main_arg8) (ix2 ⟨512 + ↑x, by omega⟩ q) := by
  refine Eq.trans ?_ (blk8 m c t ⟨512 + ↑x, by omega⟩ q)
  generalize iblk m c 8 t = X
  change View.ld (S := S1024x1024) X r0_8 (ix2 x q) = _
  pointwise []

theorem final : (dats m 0 c).arrAt 13 cfg0.N = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  refine (dats m 0 c).arrAt_eq_of_covers 13 _ (by decide +kernel) fun t hf y => ?_
  blk_simp
  rw [after0_13]
  frame_out
  obtain ⟨p, q, rfl⟩ : ∃ (p : Fin 512) (q : Fin 1024), y = ix2 p q := ⟨y 0, y 1, eq_ix2 y⟩
  have hy : ((View.whole main_v5).slice (win0_13.rect t)).emb (ix2 p q) = ix2 (tok t p) q := by
    blk_ext [idx t, tok]
  rw [hy, pay1_apply]
  simp only [pay27_apply, pay26_apply, mixed, mixRow, ld7, ld8, blk0, blk1, blk2, blk3, blk4, blk5, blk6, blk7, blk8, blk9, blk10, blk11, blk12]
  rfl

end Cert.OddPostIdeal.Rows

namespace Cert.RefOddPostIdeal.Rows
open Cert.RefOddPostIdeal Cert.RefOddPostIdeal.Gen Cert.RefOddPostIdeal.Read Cert.OddPostIdeal.Rows

/-- The softmax of three real numbers, by division and by the shared reciprocal. -/
theorem wgt_eq (w : Fin 3 → EReal) (hw : ∀ j, IsReal (w j)) (j : Fin 3) :
    Ideal.div (Ideal.exp (w j - max (Ideal.ofBits FTy.f32 4286578688#32) (Finset.fold max (Ideal.ofBits FTy.f32 4286578688#32) w Finset.univ)))
        (∑ x, Ideal.exp (w x - max (Ideal.ofBits FTy.f32 4286578688#32) (Finset.fold max (Ideal.ofBits FTy.f32 4286578688#32) w Finset.univ)))
      = wgt (w 0) (w 1) (w 2) (w j) := by
  have hM : max (Ideal.ofBits FTy.f32 4286578688#32) (Finset.fold max (Ideal.ofBits FTy.f32 4286578688#32) w Finset.univ) = max (max (w 0) (w 1)) (w 2) := by
    rw [ofBits_neg_inf]
    have : Finset.fold max ⊥ w Finset.univ = max (w 0) (max (w 1) (max (w 2) ⊥)) := rfl
    rw [this]
    simp [max_assoc]
  choose r hr using hw
  rw [hM, Fin.sum_univ_three, wgt]
  simp only [hr, coe_max, ← EReal.coe_sub, Ideal.exp_coe, ← EReal.coe_add]
  have hpos : Real.exp (r 0 - max (max (r 0) (r 1)) (r 2)) + Real.exp (r 1 - max (max (r 0) (r 1)) (r 2)) + Real.exp (r 2 - max (max (r 0) (r 1)) (r 2)) ≠ 0 := by positivity
  rw [Ideal.div_coe hpos, Ideal.div_coe hpos, one_mul]

variable (x0 : Vec Ideal S32768x1024 .f32) (x1 x2 x3 x4 : Vec Ideal S32768x512 .bf16) (x5 x6 x7 : Vec Ideal S32768x128 .f32) (x8 : Vec Ideal S1024x1024 .f32) (x9 : Vec Ideal S1024 .f32) (x10 x11 : Vec Ideal S1024x2816 .f32) (x12 : Vec Ideal S2816x1024 .f32)

theorem v6_apply (j : Fin 3) (p : Fin 32768) (h : Fin 8) :
    val_main_v6 (F := Ideal) x5 x6 x7 (ix3 j p h) = ![x5 (ix2 p ⟨h.val, by omega⟩), x6 (ix2 p ⟨h.val, by omega⟩), x7 (ix2 p ⟨h.val, by omega⟩)] j := by
  unfold val_main_v6 val_main_v5 val_main_v4 val_main_v3 val_main_v2 val_main_v1 val_main_v0
  pointwise []
  fin_cases j <;> rfl

theorem v9_apply (p : Fin 32768) (h : Fin 8) :
    val_main_v9 (F := Ideal) x5 x6 x7 (ix2 p h)
      = max (Ideal.ofBits FTy.f32 4286578688#32) (Finset.fold max (Ideal.ofBits FTy.f32 4286578688#32) (fun x => val_main_v6 (F := Ideal) x5 x6 x7 (ix3 x p h)) Finset.univ) := by
  unfold val_main_v9 val_main_v8 val_main_v7 val_main_cst val_main_cst_0
  generalize val_main_v6 (F := Ideal) x5 x6 x7 = w
  pointwise []

theorem v17_apply (h5 : ∀ i, IsReal (x5 i)) (h6 : ∀ i, IsReal (x6 i)) (h7 : ∀ i, IsReal (x7 i)) (j : Fin 3) (p : Fin 32768) (h : Fin 8) :
    val_main_v17 (F := Ideal) x5 x6 x7 (ix3 j p h)
      = wgt (x5 (ix2 p ⟨h.val, by omega⟩)) (x6 (ix2 p ⟨h.val, by omega⟩)) (x7 (ix2 p ⟨h.val, by omega⟩)) (![x5 (ix2 p ⟨h.val, by omega⟩), x6 (ix2 p ⟨h.val, by omega⟩), x7 (ix2 p ⟨h.val, by omega⟩)] j) := by
  have hd : val_main_v17 (F := Ideal) x5 x6 x7 (ix3 j p h)
      = Ideal.div (Ideal.exp (val_main_v6 (F := Ideal) x5 x6 x7 (ix3 j p h) - val_main_v9 (F := Ideal) x5 x6 x7 (ix2 p h)))
          (∑ x, Ideal.exp (val_main_v6 (F := Ideal) x5 x6 x7 (ix3 x p h) - val_main_v9 (F := Ideal) x5 x6 x7 (ix2 p h))) := by
    unfold val_main_v17 val_main_v16 val_main_v15 val_main_v14 val_main_v13 val_main_v12 val_main_v11 val_main_v10 val_main_cst_1
    generalize val_main_v9 (F := Ideal) x5 x6 x7 = M
    generalize val_main_v6 (F := Ideal) x5 x6 x7 = w
    pointwise []
  rw [hd, v9_apply]
  refine (wgt_eq (fun x => val_main_v6 (F := Ideal) x5 x6 x7 (ix3 x p h)) (fun x => ?_) j).trans ?_
  · simp only [v6_apply]
    fin_cases x
    exacts [h5 _, h6 _, h7 _]
  · simp only [v6_apply]
    rfl

theorem v32_apply (h5 : ∀ i, IsReal (x5 i)) (h6 : ∀ i, IsReal (x6 i)) (h7 : ∀ i, IsReal (x7 i)) (p : Fin 32768) (d : Fin 512) :
    val_main_v32 (F := Ideal) x2 x3 x4 x5 x6 x7 (ix2 p d) = yd x2 x3 x4 x5 x6 x7 p d := by
  have hs : val_main_v32 (F := Ideal) x2 x3 x4 x5 x6 x7 (ix2 p d)
      = ∑ x : Fin 3, val_main_v17 (F := Ideal) x5 x6 x7 (ix3 x p ⟨d.val / 64, by omega⟩) * (if h : x.val < 1 then x2 (ix2 p d) else if h : x.val - 1 < 1 then x3 (ix2 p d) else x4 (ix2 p d)) := by
    unfold val_main_v32 val_main_v31 val_main_v30 val_main_v29 val_main_v28 val_main_v27 val_main_v26 val_main_v25 val_main_v24 val_main_v23 val_main_v22 val_main_v21 val_main_v20 val_main_v19 val_main_v18 val_main_cst_2
    generalize val_main_v17 (F := Ideal) x5 x6 x7 = M
    pointwise []
  rw [hs, Fin.sum_univ_three]
  simp only [v17_apply x5 x6 x7 h5 h6 h7]
  rfl

theorem v36_apply (p : Fin 32768) (q : Fin 1024) :
    val_main_v36 (F := Ideal) x0 x1 x2 x3 x4 x5 x6 x7 x8 (ix2 p q) = x0 (ix2 p q) + (∑ x : Fin 512, x1 (ix2 p x) * x8 (ix2 ⟨↑x, by omega⟩ q)
      + ∑ x : Fin 512, val_main_v32 (F := Ideal) x2 x3 x4 x5 x6 x7 (ix2 p x) * x8 (ix2 ⟨512 + ↑x, by omega⟩ q)) := by
  unfold val_main_v36 val_main_v35 val_main_v34 val_main_v33
  generalize val_main_v32 (F := Ideal) x2 x3 x4 x5 x6 x7 = w
  pointwise []

theorem v49_apply (p : Fin 32768) (q : Fin 1024) :
    val_main_v49 (F := Ideal) x0 x1 x2 x3 x4 x5 x6 x7 x8 x9 (ix2 p q) = rowNorm (fun k => val_main_v36 (F := Ideal) x0 x1 x2 x3 x4 x5 x6 x7 x8 (ix2 p k)) (fun k => x9 (ix1 k)) q := by
  unfold val_main_v49 val_main_v48 val_main_v47 val_main_v46 val_main_v45 val_main_v44 val_main_v43 val_main_v42 val_main_v41 val_main_v40 val_main_v39 val_main_v38 val_main_v37 val_main_cst_5 val_main_cst_4 val_main_cst_3
  generalize val_main_v36 (F := Ideal) x0 x1 x2 x3 x4 x5 x6 x7 x8 = w
  pointwise []
  rfl

theorem v53_apply (p : Fin 32768) (q : Fin 2816) :
    val_main_v53 (F := Ideal) x0 x1 x2 x3 x4 x5 x6 x7 x8 x9 x10 x11 (ix2 p q) = rowHidden (fun k => val_main_v36 (F := Ideal) x0 x1 x2 x3 x4 x5 x6 x7 x8 (ix2 p k)) (fun k => x9 (ix1 k)) (fun k n => x10 (ix2 k n)) (fun k n => x11 (ix2 k n)) q := by
  unfold val_main_v53 val_main_v52 val_main_v51 val_main_call0_v5 val_main_call0_v4 val_main_call0_v3 val_main_call0_v2 val_main_call0_v1 val_main_call0_v0 val_main_call0_cst val_main_call0_cst_0 val_main_v50
  simp only [rowHidden, ← v49_apply]
  generalize val_main_v49 (F := Ideal) x0 x1 x2 x3 x4 x5 x6 x7 x8 x9 = w
  pointwise []
  rfl

theorem v55_apply (p : Fin 32768) (q : Fin 1024) :
    val_main_v55 (F := Ideal) x0 x1 x2 x3 x4 x5 x6 x7 x8 x9 x10 x11 x12 (ix2 p q)
      = rowFfn (fun k => val_main_v36 (F := Ideal) x0 x1 x2 x3 x4 x5 x6 x7 x8 (ix2 p k)) (fun k => x9 (ix1 k)) (fun k n => x10 (ix2 k n)) (fun k n => x11 (ix2 k n)) (fun n k => x12 (ix2 n k)) q := by
  unfold val_main_v55 val_main_v54
  simp only [rowFfn, ← v53_apply]
  generalize val_main_v53 (F := Ideal) x0 x1 x2 x3 x4 x5 x6 x7 x8 x9 x10 x11 = w
  pointwise []

theorem value_eq (h5 : ∀ i, IsReal (x5 i)) (h6 : ∀ i, IsReal (x6 i)) (h7 : ∀ i, IsReal (x7 i)) :
    val_main_v55 (F := Ideal) x0 x1 x2 x3 x4 x5 x6 x7 x8 x9 x10 x11 x12 = G x0 x1 x2 x3 x4 x5 x6 x7 x8 x9 x10 x11 x12 := by
  funext i
  obtain ⟨p, q, rfl⟩ : ∃ (p : Fin 32768) (q : Fin 1024), i = ix2 p q := ⟨i 0, i 1, eq_ix2 i⟩
  rw [v55_apply]
  simp only [v36_apply, v32_apply x2 x3 x4 x5 x6 x7 h5 h6 h7, ← add_assoc]
  rfl

/-- What the precondition says: the log-sums are real numbers. -/
theorem finite_of_pre (h : Cert.Pre_op_finite.fn (F := Ideal) x0 x1 x2 x3 x4 x5 x6 x7 x8 x9 x10 x11 x12 = fun _ => 1#1) :
    (∀ i, IsReal (x5 i)) ∧ (∀ i, IsReal (x6 i)) ∧ (∀ i, IsReal (x7 i)) := by
  have h0 := congrFun h ix0
  dsimp only [Cert.Pre_op_finite.fn] at h0
  obtain ⟨h1, h7⟩ := andi_one h0
  obtain ⟨h5, h6⟩ := andi_one h1
  haveI : Subsingleton S_.Idx := ⟨fun a b => funext fun k => k.elim0⟩
  refine ⟨fun i => isReal_of_abs_lt ?_, fun i => isReal_of_abs_lt ?_, fun i => isReal_of_abs_lt ?_⟩ <;> rw [← ofBits_inf]
  · exact Host.reduce_andi_all _ _ _ _ _ h5 i
  · exact Host.reduce_andi_all _ _ _ _ _ h6 i
  · exact Host.reduce_andi_all _ _ _ _ _ h7 i

end Cert.RefOddPostIdeal.Rows

namespace Cert.Proof

theorem algebraic_odd_post : Cert.algebraic_OddPostIdeal_RefOddPostIdeal_pre_op_finite := by
  pair_intro
  · run_from Cert.OddPostIdeal.Value.run_blocks m g
  · run_from Cert.RefOddPostIdeal.Value.run m' g'
    obtain ⟨h0, h1, h2, h3, h4, h5, h6, h7, h8, h9, h10, h11, h12⟩ := hagree c
    obtain ⟨f5, f6, f7⟩ := Cert.RefOddPostIdeal.Rows.finite_of_pre _ _ _ _ _ _ _ _ _ _ _ _ _ (hpre c)
    rw [Cert.RefOddPostIdeal.Read.val_main_v55_eq, Cert.OddPostIdeal.Rows.final, h0, h1, h2, h3, h4, h5, h6, h7, h8, h9, h10, h11, h12]
    exact Cert.RefOddPostIdeal.Rows.value_eq _ _ _ _ _ _ _ _ _ _ _ _ _ f5 f6 f7

end Cert.Proof
end
-- ==== Proof.OddInRows.lean ====
module

public import proofs.«01_k».proof.Defs
public import proofs.«01_k».proof.Proof.PostRows
public import proofs.«01_k».proof.Proof.RealRows
public import proofs.«01_k».proof.Proof.Gen.OddInIdeal.Value
public import Idealize.ShloMosaic.Lib.StableHlo.RunRead
public import proofs.«01_k».proof.Proof.Gen.RefOddInIdeal.Read

/-! The first half of the odd sub-layer.  The kernel projects 512 normalized rows at a time, and keeps the last eight
rows of the gated columns for the next block, so that the short convolution finds the two tokens before its own; at the
start of a sequence it finds zeros.  The reference takes the convolution's three taps on whole arrays.  The kernel gets
the mean square of a head by a product with an array of zeros and ones; the reference sums the head's 64 lanes. -/

@[expose] public section

set_option maxRecDepth 16384

noncomputable section

open Idealize.ShloMosaic Idealize.ShloMosaic.TcCoe Idealize.SL.Sem Cert.PostRows Cert.RealRows

namespace Cert.OddInIdeal.Rows
open Cert.OddInIdeal Cert.OddInIdeal.Gen

theorem pay4_apply (v13 : Vec Ideal S512x1024 .f32) (v24 : Vec Ideal S1x1024 .f32) (v29 : Vec Ideal S1024x3072 .bf16) (p : Fin 512) (n : Fin 3072) :
    k0_pay4 (F := Ideal) v13 v24 v29 (ix2 p n) = ∑ x : Fin 1024, rowNorm (fun k => v13 (ix2 p k)) (fun k => v24 (ix2 0 k)) x * v29 (ix2 x n) := by
  unfold k0_pay4
  pointwise []
  rfl

theorem pay2_apply (v31 : FVec Ideal S512x3072 .f32) (p q : Fin 512) :
    k0_pay2 (F := Ideal) v31 (ix2 p q) = v31 (ix2 p ⟨2560 + ↑q, by omega⟩) := by
  unfold k0_pay2
  pointwise []

theorem pay5_apply (v13 : Vec Ideal S512x1024 .f32) (v24 : Vec Ideal S1x1024 .f32) (v29 : Vec Ideal S1024x3072 .bf16) (p q : Fin 512) :
    k0_pay5 (F := Ideal) v13 v24 v29 (ix2 p q) = k0_pay4 (F := Ideal) v13 v24 v29 (ix2 p ⟨↑q, by omega⟩) := by
  unfold k0_pay5
  generalize k0_pay4 (F := Ideal) v13 v24 v29 = w
  pointwise []

theorem pay6_apply (v13 : Vec Ideal S512x1024 .f32) (v24 : Vec Ideal S1x1024 .f32) (v29 : Vec Ideal S1024x3072 .bf16) (p q : Fin 512) :
    k0_pay6 (F := Ideal) v13 v24 v29 (ix2 p q) = k0_pay4 (F := Ideal) v13 v24 v29 (ix2 p ⟨512 + ↑q, by omega⟩) * k0_pay4 (F := Ideal) v13 v24 v29 (ix2 p ⟨1024 + ↑q, by omega⟩) := by
  unfold k0_pay6
  generalize k0_pay4 (F := Ideal) v13 v24 v29 = w
  pointwise []

theorem pay7_apply (v13 : Vec Ideal S512x1024 .f32) (v24 : Vec Ideal S1x1024 .f32) (v29 : Vec Ideal S1024x3072 .bf16) (v36 : Vec Ideal S8x512 .f32) (p : Fin 520) (q : Fin 512) :
    k0_pay7 (F := Ideal) v13 v24 v29 v36 (ix2 p q) = if h : p.val < 8 then v36 (ix2 ⟨p.val, h⟩ q) else k0_pay6 (F := Ideal) v13 v24 v29 (ix2 ⟨p.val - 8, by omega⟩ q) := by
  unfold k0_pay7
  generalize k0_pay6 (F := Ideal) v13 v24 v29 = w
  pointwise []

theorem pay8_apply (v32 v35 : FVec Ideal S512x512 .f32) (v37 : FVec Ideal S520x512 .f32) (v42 : Vec Ideal S3x512 .f32) (p q : Fin 512) :
    k0_pay8 (F := Ideal) v32 v35 v37 v42 (ix2 p q)
      = v32 (ix2 p q) * (v42 (ix2 0 q) * v37 (ix2 ⟨p.val + 6, by omega⟩ q) + v42 (ix2 1 q) * v37 (ix2 ⟨p.val + 7, by omega⟩ q) + v42 (ix2 2 q) * v35 (ix2 p q)) := by
  have e2 : ∀ h, (⟨(8 + p.val + 520 - 2) % 520, h⟩ : Fin 520) = ⟨p.val + 6, by omega⟩ := fun h => Fin.ext (by simp only []; omega)
  have e1 : ∀ h, (⟨(8 + p.val + 520 - 1) % 520, h⟩ : Fin 520) = ⟨p.val + 7, by omega⟩ := fun h => Fin.ext (by simp only []; omega)
  unfold k0_pay8
  pointwise []
  rw [e2, e1]

theorem pay9_apply (v35 : FVec Ideal S512x512 .f32) (p : Fin 8) (q : Fin 512) :
    k0_pay9 (F := Ideal) v35 (ix2 p q) = v35 (ix2 ⟨504 + ↑p, by omega⟩ q) := by
  unfold k0_pay9
  pointwise []

/-- A column of the projection divided by the root mean square of its head, as the kernel sums it: against a table of group membership. -/
def grpNorm (t : Fin 512 → EReal) (s : Fin 512 → Fin 512 → EReal) (g : Fin 512 → EReal) (q : Fin 512) : EReal :=
  t q * Ideal.rsqrt ((∑ x, t x * t x * s x q) * Ideal.ofBits FTy.f32 0x3C800000#32 + Ideal.ofBits FTy.f32 897988541#32) * g q

theorem pay10_apply (v31 : FVec Ideal S512x3072 .f32) (v64 : Vec Ideal S512x512 .bf16) (v73 : Vec Ideal S1x512 .f32) (p q : Fin 512) :
    k0_pay10 (F := Ideal) v31 v64 v73 (ix2 p q) = grpNorm (fun n => v31 (ix2 p ⟨1536 + ↑n, by omega⟩)) (fun k n => v64 (ix2 k n)) (fun n => v73 (ix2 0 n)) q := by
  unfold k0_pay10
  pointwise []
  rfl
theorem pay1_apply (v31 : FVec Ideal S512x3072 .f32) (v64 : Vec Ideal S512x512 .bf16) (v73 : Vec Ideal S1x512 .f32) (p q : Fin 512) :
    k0_pay1 (F := Ideal) v31 v64 v73 (ix2 p q) = grpNorm (fun n => v31 (ix2 p ⟨2048 + ↑n, by omega⟩)) (fun k n => v64 (ix2 k n)) (fun n => v73 (ix2 0 n)) q := by
  unfold k0_pay1
  pointwise []
  rfl

variable (m : (ℓ : Loc nD τ sig) → Buf (Elt Ideal) ℓ) (c : Dev nD)

theorem idx : ∀ t : Fin grid0.N, win0_0.index t = ![(grid0.coords t 0).val, 0] ∧ win0_1.index t = ![0, 0] ∧ win0_2.index t = ![0, 0] ∧ win0_3.index t = ![0, 0] ∧ win0_4.index t = ![0, 0] ∧ win0_5.index t = ![0, 0] ∧ win0_6.index t = ![0, 0]
    ∧ win0_7.index t = ![(grid0.coords t 0).val, 0] ∧ win0_8.index t = ![(grid0.coords t 0).val, 0] ∧ win0_9.index t = ![(grid0.coords t 0).val, 0] ∧ win0_10.index t = ![(grid0.coords t 0).val, 0] ∧ (grid0.coords t 0).val = t.val := by
  decide +kernel

/-- Whether two columns belong to the same head, as a number. -/
def same (p k : Fin 512) : EReal := if p.val / 64 = k.val / 64 then 1 else 0
/-- The gain of column `k`, repeated from head to head. -/
def gain (g : Vec Ideal S64 .f32) (k : Fin 512) : EReal := g (ix1 ⟨k.val % 64, by omega⟩)

theorem ent5 (k : Fin 1024) : V m c main_v5 (ix2 0 k) = m ((c.tc : Thread nD τ).loc main_arg1) (ix1 k) := by
  unfold V
  after_reads_simp
  pointwise []
theorem ent12 (k : Fin 512) : V m c main_v12 (ix2 0 k) = gain (m ((c.tc : Thread nD τ).loc main_arg3)) k * Ideal.ofBits FTy.f32 0x3E000000#32 := by
  unfold V
  after_reads_simp
  pointwise []
  rfl
theorem ent18 (k : Fin 512) : V m c main_v18 (ix2 0 k) = gain (m ((c.tc : Thread nD τ).loc main_arg4)) k := by
  unfold V
  after_reads_simp
  pointwise []
  rfl
/-- The number of the head of each row, by the host's division rounded down. -/
def heads : IVec S512x512 32 :=
  select (andi (cmpi .ne (signi (iotaInDim S512x512 32 0)) (broadcastInDim S512x512 ![] bcast_S_S512x512 (signi (constantI S_ 32 64#32))))
      (cmpi .ne (Host.remsi (iotaInDim S512x512 32 0) (broadcastInDim S512x512 ![] bcast_S_S512x512 (constantI S_ 32 64#32))) (broadcastInDim S512x512 ![] bcast_S_S512x512 (constantI S_ 32 0#32))))
    (subi (Host.divsi (iotaInDim S512x512 32 0) (broadcastInDim S512x512 ![] bcast_S_S512x512 (constantI S_ 32 64#32))) (broadcastInDim S512x512 ![] bcast_S_S512x512 (constantI S_ 32 1#32)))
    (Host.divsi (iotaInDim S512x512 32 0) (broadcastInDim S512x512 ![] bcast_S_S512x512 (constantI S_ 32 64#32)))

theorem heads_apply (p k : Fin 512) : heads (ix2 p k) = BitVec.ofNat 32 (p.val / 64) := by
  have key : ∀ p : Fin 512, Scalar.select
      (IntOp.andi (IntOp.cmpi CmpIPredicate.ne (if BitVec.ofNat 32 p.val = 0 then (0 : BitVec 32) else if (BitVec.ofNat 32 p.val).msb = true then -1 else 1) (if 64#32 = 0 then (0 : BitVec 32) else if (64#32).msb = true then -1 else 1))
        (IntOp.cmpi CmpIPredicate.ne (IntOp.remsi ArithUnit.host (BitVec.ofNat 32 p.val) 64#32) 0#32))
      (IntOp.subi (IntOp.divsi ArithUnit.host (BitVec.ofNat 32 p.val) 64#32) 1#32) (IntOp.divsi ArithUnit.host (BitVec.ofNat 32 p.val) 64#32) = BitVec.ofNat 32 (p.val / 64) := by
    decide +kernel
  unfold heads
  pointwise []
  exact key p

theorem ent4 (p k : Fin 512) : V m c main_v4 (ix2 p k) = same p k := by
  have e : V m c main_v4 = uitofp (F := Ideal) .bf16 (cmpi .eq heads (transpose S512x512 [1, 0] heads transposes_S512x512_S512x512_1_0)) := by
    unfold V
    after_reads_simp
    rfl
  rw [e]
  pointwise []
  rw [heads_apply, heads_apply]
  have key : ∀ a b : Fin 8, IntOp.cmpi CmpIPredicate.eq (BitVec.ofNat 32 a.val) (BitVec.ofNat 32 b.val) = if a.val = b.val then 1#1 else 0#1 := by decide +kernel
  rw [key ⟨p.val / 64, by omega⟩ ⟨k.val / 64, by omega⟩]
  unfold same
  simp only []
  split <;> simp [FloatOps.uitofp]
theorem blk2 (t : Fin grid0.N) (p : Fin 1024) (k : Fin 3072) : iblk m c 2 t (ix2 p k) = m ((c.tc : Thread nD τ).loc main_arg2) (ix2 p k) := by
  blk_ext! [iblk, V, idx t]
theorem blk6 (t : Fin grid0.N) (p : Fin 3) (k : Fin 512) : iblk m c 6 t (ix2 p k) = m ((c.tc : Thread nD τ).loc main_arg5) (ix2 p k) := by
  blk_ext! [iblk, V, idx t]

theorem blk1 (t : Fin grid0.N) (k : Fin 1024) : iblk m c 1 t (ix2 0 k) = m ((c.tc : Thread nD τ).loc main_arg1) (ix1 k) := by
  have e : (win0_1.blk t).view.emb (ix2 0 k) = ix2 0 k := by blk_ext [idx t]
  unfold iblk; blk_simp [idx t]; rw [e]
  exact ent5 m c k
theorem blk3 (t : Fin grid0.N) (p k : Fin 512) : iblk m c 3 t (ix2 p k) = same p k := by
  have e : (win0_3.blk t).view.emb (ix2 p k) = ix2 p k := by blk_ext [idx t]
  unfold iblk; blk_simp [idx t]; rw [e]
  exact ent4 m c p k
theorem blk4 (t : Fin grid0.N) (k : Fin 512) : iblk m c 4 t (ix2 0 k) = gain (m ((c.tc : Thread nD τ).loc main_arg3)) k * Ideal.ofBits FTy.f32 0x3E000000#32 := by
  have e : (win0_4.blk t).view.emb (ix2 0 k) = ix2 0 k := by blk_ext [idx t]
  unfold iblk; blk_simp [idx t]; rw [e]
  exact ent12 m c k
theorem blk5 (t : Fin grid0.N) (k : Fin 512) : iblk m c 5 t (ix2 0 k) = gain (m ((c.tc : Thread nD τ).loc main_arg4)) k := by
  have e : (win0_5.blk t).view.emb (ix2 0 k) = ix2 0 k := by blk_ext [idx t]
  unfold iblk; blk_simp [idx t]; rw [e]
  exact ent18 m c k

/-- The token that row `p` of block `t` is. -/
def tok (t : Fin grid0.N) (p : Fin 512) : Fin 32768 := ⟨t.val * 512 + ↑p, by have := t.isLt; change _ < 64 at this; omega⟩

theorem blk0 (t : Fin grid0.N) (p : Fin 512) (k : Fin 1024) : iblk m c 0 t (ix2 p k) = m ((c.tc : Thread nD τ).loc main_arg0) (ix2 (tok t p) k) := by
  blk_ext [iblk, V, idx t, tok]

/-- The projected row `r` at column `n`. -/
def proj (x0 : Vec Ideal S32768x1024 .f32) (x1 : Vec Ideal S1024 .f32) (x2 : Vec Ideal S1024x3072 .f32) (r : Fin 32768) (n : Fin 3072) : EReal :=
  ∑ x : Fin 1024, rowNorm (fun k => x0 (ix2 r k)) (fun k => x1 (ix1 k)) x * x2 (ix2 x n)

/-- What the short convolution runs over. -/
def zAt (x0 : Vec Ideal S32768x1024 .f32) (x1 : Vec Ideal S1024 .f32) (x2 : Vec Ideal S1024x3072 .f32) (r : Fin 32768) (q : Fin 512) : EReal :=
  proj x0 x1 x2 r ⟨512 + ↑q, by omega⟩ * proj x0 x1 x2 r ⟨1024 + ↑q, by omega⟩

/-- The same `d` tokens earlier in the sequence, zero before its start. -/
def past (x0 : Vec Ideal S32768x1024 .f32) (x1 : Vec Ideal S1024 .f32) (x2 : Vec Ideal S1024x3072 .f32) (d : Nat) (r : Fin 32768) (q : Fin 512) : EReal :=
  if r.val % 8192 < d then 0 else zAt x0 x1 x2 ⟨r.val - d, by omega⟩ q

/-- A column divided by the root mean square of its head, times the head's gain. -/
def headNorm (t : Fin 512 → EReal) (g : Vec Ideal S64 .f32) (q : Fin 512) : EReal :=
  t q * Ideal.rsqrt (Ideal.div (∑ x : Fin 64, t ⟨64 * (q.val / 64) + x.val, by omega⟩ * t ⟨64 * (q.val / 64) + x.val, by omega⟩) (Ideal.ofBits FTy.f32 0x42800000#32)
    + Ideal.ofBits FTy.f32 897988541#32) * gain g q

theorem same_sum (f : Fin 512 → EReal) (q : Fin 512) : ∑ x : Fin 512, f x * same x q = ∑ x : Fin 64, f ⟨64 * (q.val / 64) + x.val, by omega⟩ := by
  simp only [same, mul_ite, mul_one, mul_zero]
  rw [← Finset.sum_filter]
  symm
  refine Finset.sum_bij (fun a _ => ⟨64 * (q.val / 64) + a.val, by omega⟩) ?_ ?_ ?_ ?_
  · intro a _
    simp only [Finset.mem_filter, Finset.mem_univ, true_and]
    omega
  · intro a _ b _ e
    have := Fin.mk.inj e
    exact Fin.ext (by omega)
  · intro b hb
    simp only [Finset.mem_filter, Finset.mem_univ, true_and] at hb
    exact ⟨⟨b.val % 64, by omega⟩, Finset.mem_univ _, Fin.ext (by simp only []; omega)⟩
  · intro a _
    rfl

theorem sixty_four (x : EReal) : x * Ideal.ofBits FTy.f32 0x3C800000#32 = Ideal.div x (Ideal.ofBits FTy.f32 0x42800000#32) := by
  have h1 : Ideal.ofBits FTy.f32 0x42800000#32 = ((64 : ℝ) : EReal) := by
    simp [Ideal.ofBits, Ideal.ieee]; rw [← EReal.coe_mul]; norm_num
  have h2 : Ideal.ofBits FTy.f32 0x3C800000#32 = ((1 / 64 : ℝ) : EReal) := by
    simp [Ideal.ofBits, Ideal.ieee]; rw [← EReal.coe_mul]; norm_num
  rw [h1, h2, Ideal.div_coe (by norm_num)]

theorem grpNorm_eq (t : Fin 512 → EReal) (g : Vec Ideal S64 .f32) (q : Fin 512) : grpNorm t same (gain g) q = headNorm t g q := by
  unfold grpNorm headNorm
  rw [same_sum (fun x => t x * t x), sixty_four]

theorem grpNorm_scaled (t : Fin 512 → EReal) (g : Vec Ideal S64 .f32) (s : EReal) (q : Fin 512) : grpNorm t same (fun n => gain g n * s) q = headNorm t g q * s := by
  rw [← grpNorm_eq]
  unfold grpNorm
  simp only [mul_assoc]

/-- The rows the body finds carried over from the block before: zero where a sequence starts. -/
def held (t : Fin cfg0.N) : Vec Ideal S8x512 .f32 :=
  if t.val % 16 = 0 then k0_pay3 (F := Ideal) else
    k0_pay9 (k0_pay6 (iblk m c 0 ⟨t.val - 1, by omega⟩) (iblk m c 1 ⟨t.val - 1, by omega⟩) (iblk m c 2 ⟨t.val - 1, by omega⟩))

theorem carried (t : Fin cfg0.N) : (outsAt0 m c t.val t.isLt).2.2.2.2 = k0_pay9 (k0_pay6 (iblk m c 0 t) (iblk m c 1 t) (iblk m c 2 t)) := by
  by_cases h0 : t.val % 16 = 0
  · rw [outsAt0_A m c t h0]
    dsimp only
    frame_out
  · rw [outsAt0_B m c t h0]
    dsimp only
    frame_out

theorem out7 (t : Fin cfg0.N) : (outsAt0 m c t.val t.isLt).1
    = k0_pay8 (k0_pay5 (iblk m c 0 t) (iblk m c 1 t) (iblk m c 2 t)) (k0_pay6 (iblk m c 0 t) (iblk m c 1 t) (iblk m c 2 t))
        (k0_pay7 (iblk m c 0 t) (iblk m c 1 t) (iblk m c 2 t) (held m c t)) (iblk m c 6 t) := by
  by_cases h0 : t.val % 16 = 0
  · rw [outsAt0_A m c t h0, held, if_pos h0]
    dsimp only
    frame_out
  · rw [outsAt0_B m c t h0, held, if_neg h0]
    dsimp only
    frame_out
    refine congrArg (fun y => k0_pay8 _ _ (k0_pay7 _ _ _ y) _) ?_
    exact (Memref.IsWhole.read_unread _ _).trans (carried m c ⟨t.val - 1, by omega⟩)

theorem out8 (t : Fin cfg0.N) : (outsAt0 m c t.val t.isLt).2.1 = k0_pay10 (F := Ideal) (k0_pay4 (iblk m c 0 t) (iblk m c 1 t) (iblk m c 2 t)) (iblk m c 3 t) (iblk m c 4 t) := by
  by_cases h0 : t.val % 16 = 0
  · rw [outsAt0_A m c t h0]
    dsimp only
    frame_out
  · rw [outsAt0_B m c t h0]
    dsimp only
    frame_out

theorem out9 (t : Fin cfg0.N) : (outsAt0 m c t.val t.isLt).2.2.1 = k0_pay1 (F := Ideal) (k0_pay4 (iblk m c 0 t) (iblk m c 1 t) (iblk m c 2 t)) (iblk m c 3 t) (iblk m c 5 t) := by
  by_cases h0 : t.val % 16 = 0
  · rw [outsAt0_A m c t h0]
    dsimp only
    frame_out
  · rw [outsAt0_B m c t h0]
    dsimp only
    frame_out

theorem out10 (t : Fin cfg0.N) : (outsAt0 m c t.val t.isLt).2.2.2.1 = k0_pay2 (F := Ideal) (k0_pay4 (iblk m c 0 t) (iblk m c 1 t) (iblk m c 2 t)) := by
  by_cases h0 : t.val % 16 = 0
  · rw [outsAt0_A m c t h0]
    dsimp only
    frame_out
  · rw [outsAt0_B m c t h0]
    dsimp only
    frame_out

theorem proj_apply (t : Fin cfg0.N) (p : Fin 512) (n : Fin 3072) :
    k0_pay4 (F := Ideal) (iblk m c 0 t) (iblk m c 1 t) (iblk m c 2 t) (ix2 p n)
      = proj (m ((c.tc : Thread nD τ).loc main_arg0)) (m ((c.tc : Thread nD τ).loc main_arg1)) (m ((c.tc : Thread nD τ).loc main_arg2)) (tok t p) n := by
  rw [pay4_apply]
  simp only [blk0, blk1, blk2]
  rfl

theorem z_apply (t : Fin cfg0.N) (p q : Fin 512) :
    k0_pay6 (F := Ideal) (iblk m c 0 t) (iblk m c 1 t) (iblk m c 2 t) (ix2 p q)
      = zAt (m ((c.tc : Thread nD τ).loc main_arg0)) (m ((c.tc : Thread nD τ).loc main_arg1)) (m ((c.tc : Thread nD τ).loc main_arg2)) (tok t p) q := by
  rw [pay6_apply, proj_apply, proj_apply]
  rfl

/-- Row `p` of the block, `d` rows up among the carried rows and its own, is the earlier token. -/
theorem past_apply (t : Fin cfg0.N) (p q : Fin 512) (d : Nat) (hd : d ≤ 8) (i : Fin 520) (hi : i.val = p.val + 8 - d) :
    k0_pay7 (F := Ideal) (iblk m c 0 t) (iblk m c 1 t) (iblk m c 2 t) (held m c t) (ix2 i q)
      = past (m ((c.tc : Thread nD τ).loc main_arg0)) (m ((c.tc : Thread nD τ).loc main_arg1)) (m ((c.tc : Thread nD τ).loc main_arg2)) d (tok t p) q := by
  have ht : t.val < 64 := t.isLt
  rw [pay7_apply]
  unfold past held
  split
  · rename_i hp
    split
    · rename_i h0
      rw [if_pos (by simp only [tok]; omega)]
      unfold k0_pay3
      pointwise []
    · rename_i h0
      rw [if_neg (by simp only [tok]; omega), pay9_apply, z_apply]
      refine congrArg (fun r => zAt _ _ _ r q) (Fin.ext ?_)
      simp only [tok]
      omega
  · rename_i hp
    rw [if_neg (by simp only [tok]; omega), z_apply]
    refine congrArg (fun r => zAt _ _ _ r q) (Fin.ext ?_)
    simp only [tok]
    omega

section results
variable (x0 : Vec Ideal S32768x1024 .f32) (x1 : Vec Ideal S1024 .f32) (x2 : Vec Ideal S1024x3072 .f32) (x3 x4 : Vec Ideal S64 .f32) (x5 : Vec Ideal S3x512 .f32)
/-- The gated short convolution. -/
def Y : Vec Ideal S32768x512 .bf16 := fun i =>
  proj x0 x1 x2 (i 0) ⟨(i 1).val, by have : (i 1).val < 512 := (i 1).isLt; omega⟩ * (x5 (ix2 0 (i 1)) * past x0 x1 x2 2 (i 0) (i 1) + x5 (ix2 1 (i 1)) * past x0 x1 x2 1 (i 0) (i 1) + x5 (ix2 2 (i 1)) * zAt x0 x1 x2 (i 0) (i 1))
/-- The queries, times the scale of the scores. -/
def Q : Vec Ideal S32768x512 .bf16 := fun i => headNorm (fun n => proj x0 x1 x2 (i 0) ⟨1536 + ↑n, by omega⟩) x3 (i 1) * Ideal.ofBits FTy.f32 0x3E000000#32
/-- The keys. -/
def K : Vec Ideal S32768x512 .bf16 := fun i => headNorm (fun n => proj x0 x1 x2 (i 0) ⟨2048 + ↑n, by omega⟩) x4 (i 1)
/-- The values. -/
def W : Vec Ideal S32768x512 .bf16 := fun i => proj x0 x1 x2 (i 0) ⟨2560 + (i 1).val, by have : (i 1).val < 512 := (i 1).isLt; omega⟩
end results

theorem final7 : (dats m 0 c).arrAt 7 cfg0.N = Y (m ((c.tc : Thread nD τ).loc main_arg0)) (m ((c.tc : Thread nD τ).loc main_arg1)) (m ((c.tc : Thread nD τ).loc main_arg2)) (m ((c.tc : Thread nD τ).loc main_arg5)) := by
  refine (dats m 0 c).arrAt_eq_of_covers 7 _ (by decide +kernel) fun t hf y => ?_
  blk_simp
  rw [after0_7, out7]
  obtain ⟨p, q, rfl⟩ : ∃ (p q : Fin 512), y = ix2 p q := ⟨y 0, y 1, eq_ix2 y⟩
  have hy : ((View.whole main_v19_0).slice (win0_7.rect t)).emb (ix2 p q) = ix2 (tok t p) q := by
    blk_ext [idx t, tok]
  rw [hy, pay8_apply, past_apply m c t p q 2 (by omega) _ rfl, past_apply m c t p q 1 (by omega) _ rfl, z_apply, pay5_apply, proj_apply]
  simp only [blk6]
  rfl

theorem final8 : (dats m 0 c).arrAt 8 cfg0.N = Q (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 8 _ (by decide +kernel) fun t hf y => ?_
  blk_simp
  rw [after0_8, out8]
  obtain ⟨p, q, rfl⟩ : ∃ (p q : Fin 512), y = ix2 p q := ⟨y 0, y 1, eq_ix2 y⟩
  have hy : ((View.whole main_v19_1).slice (win0_8.rect t)).emb (ix2 p q) = ix2 (tok t p) q := by
    blk_ext [idx t, tok]
  rw [hy, pay10_apply]
  simp only [blk3, blk4, proj_apply]
  exact grpNorm_scaled _ _ _ q

theorem final9 : (dats m 0 c).arrAt 9 cfg0.N = K (m ((c.tc : Thread nD τ).loc main_arg0)) (m ((c.tc : Thread nD τ).loc main_arg1)) (m ((c.tc : Thread nD τ).loc main_arg2)) (m ((c.tc : Thread nD τ).loc main_arg4)) := by
  refine (dats m 0 c).arrAt_eq_of_covers 9 _ (by decide +kernel) fun t hf y => ?_
  blk_simp
  rw [after0_9, out9]
  obtain ⟨p, q, rfl⟩ : ∃ (p q : Fin 512), y = ix2 p q := ⟨y 0, y 1, eq_ix2 y⟩
  have hy : ((View.whole main_v19_2).slice (win0_9.rect t)).emb (ix2 p q) = ix2 (tok t p) q := by
    blk_ext [idx t, tok]
  rw [hy, pay1_apply]
  simp only [blk3, blk5, proj_apply]
  exact grpNorm_eq _ _ q

theorem final10 : (dats m 0 c).arrAt 10 cfg0.N = W (m ((c.tc : Thread nD τ).loc main_arg0)) (m ((c.tc : Thread nD τ).loc main_arg1)) (m ((c.tc : Thread nD τ).loc main_arg2)) := by
  refine (dats m 0 c).arrAt_eq_of_covers 10 _ (by decide +kernel) fun t hf y => ?_
  blk_simp
  rw [after0_10, out10]
  obtain ⟨p, q, rfl⟩ : ∃ (p q : Fin 512), y = ix2 p q := ⟨y 0, y 1, eq_ix2 y⟩
  have hy : ((View.whole main_v19_3).slice (win0_10.rect t)).emb (ix2 p q) = ix2 (tok t p) q := by
    blk_ext [idx t, tok]
  rw [hy, pay2_apply, proj_apply]
  rfl

end Cert.OddInIdeal.Rows

namespace Cert.RefOddInIdeal.Rows
open Cert.RefOddInIdeal Cert.RefOddInIdeal.Gen Cert.RefOddInIdeal.Read Cert.OddInIdeal.Rows

variable (x0 : Vec Ideal S32768x1024 .f32) (x1 : Vec Ideal S1024 .f32) (x2 : Vec Ideal S1024x3072 .f32) (x3 x4 : Vec Ideal S64 .f32) (x5 : Vec Ideal S3x512 .f32)

theorem v13_apply (p : Fin 32768) (n : Fin 3072) : val_main_v13 (F := Ideal) x0 x1 x2 (ix2 p n) = proj x0 x1 x2 p n := by
  unfold val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise []
  rfl

theorem v84_apply (p : Fin 32768) (q : Fin 512) : val_main_v84 (F := Ideal) x0 x1 x2 (ix2 p q) = W x0 x1 x2 (ix2 p q) := by
  have e : val_main_v84 (F := Ideal) x0 x1 x2 (ix2 p q) = val_main_v13 (F := Ideal) x0 x1 x2 (ix2 p ⟨2560 + ↑q, by omega⟩) := by
    unfold val_main_v84 val_main_v19
    generalize val_main_v13 (F := Ideal) x0 x1 x2 = w
    pointwise []
  rw [e, v13_apply]
  rfl

theorem v83_apply (p : Fin 32768) (q : Fin 512) : val_main_v83 (F := Ideal) x0 x1 x2 x4 (ix2 p q) = K x0 x1 x2 x4 (ix2 p q) := by
  have e : val_main_v83 (F := Ideal) x0 x1 x2 x4 (ix2 p q) = headNorm (fun n => val_main_v13 (F := Ideal) x0 x1 x2 (ix2 p ⟨2048 + ↑n, by omega⟩)) x4 q := by
    unfold val_main_v83 val_main_v82 val_main_v78 val_main_v77 val_main_v76 val_main_v75 val_main_v74 val_main_v73 val_main_v72 val_main_v71 val_main_v70 val_main_v69 val_main_v68 val_main_v67 val_main_v66 val_main_v65 val_main_v18 val_main_cst_8 val_main_cst_9 val_main_cst_10
    generalize val_main_v13 (F := Ideal) x0 x1 x2 = w
    pointwise []
    simp only [headNorm, gain, Nat.mul_comm (↑q / 64) 64]
  rw [e]
  simp only [v13_apply]
  rfl

theorem v81_apply (p : Fin 32768) (q : Fin 512) : val_main_v81 (F := Ideal) x0 x1 x2 x3 (ix2 p q) = Q x0 x1 x2 x3 (ix2 p q) := by
  have e : val_main_v81 (F := Ideal) x0 x1 x2 x3 (ix2 p q) = headNorm (fun n => val_main_v13 (F := Ideal) x0 x1 x2 (ix2 p ⟨1536 + ↑n, by omega⟩)) x3 q * Ideal.ofBits FTy.f32 0x3E000000#32 := by
    unfold val_main_v81 val_main_v80 val_main_v64 val_main_v63 val_main_v62 val_main_v61 val_main_v60 val_main_v59 val_main_v58 val_main_v57 val_main_v56 val_main_v55 val_main_v54 val_main_v53 val_main_v52 val_main_v51 val_main_v50 val_main_v49 val_main_v17 val_main_cst_4 val_main_cst_5 val_main_cst_6 val_main_cst_7
    generalize val_main_v13 (F := Ideal) x0 x1 x2 = w
    pointwise []
    simp only [headNorm, gain, Nat.mul_comm (↑q / 64) 64]
  rw [e]
  simp only [v13_apply]
  rfl

/-- A column of the sequences, `d` tokens earlier, zero before a sequence starts. -/
def shiftBy (z : Fin 32768 → EReal) (d : Nat) (p : Fin 32768) : EReal := if p.val % 8192 < d then 0 else z ⟨p.val - d, by omega⟩

/-- Three taps on a column, times the gate. -/
def gated (b : EReal) (z : Fin 32768 → EReal) (t : Fin 3 → EReal) (p : Fin 32768) : EReal :=
  b * ((t 0 * shiftBy z 2 p + t 1 * shiftBy z 1 p) + t 2 * z p)

theorem shiftBy_eq (z : Fin 32768 → EReal) (d : Nat) (p : Fin 32768) :
    (if _ : p.val % 8192 < d then (0 : EReal) else z ⟨p.val / 8192 * 8192 + (p.val % 8192 - d), by omega⟩) = shiftBy z d p := by
  unfold shiftBy
  by_cases h : p.val % 8192 < d
  · rw [dif_pos h, if_pos h]
  · rw [dif_neg h, if_neg h]
    exact congrArg z (Fin.ext (by dsimp only; omega))

theorem v79_apply (p : Fin 32768) (q : Fin 512) : val_main_v79 (F := Ideal) x0 x1 x2 x5 (ix2 p q) = Y x0 x1 x2 x5 (ix2 p q) := by
  have e : val_main_v79 (F := Ideal) x0 x1 x2 x5 (ix2 p q)
      = gated (val_main_v13 (F := Ideal) x0 x1 x2 (ix2 p ⟨↑q, by omega⟩))
          (fun r => val_main_v13 (F := Ideal) x0 x1 x2 (ix2 r ⟨512 + ↑q, by omega⟩) * val_main_v13 (F := Ideal) x0 x1 x2 (ix2 r ⟨1024 + ↑q, by omega⟩))
          (fun k => x5 (ix2 k q)) p := by
    unfold val_main_v79 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v16 val_main_v15 val_main_v14 val_main_cst_2 val_main_cst_3
    generalize val_main_v13 (F := Ideal) x0 x1 x2 = w
    pointwise []
    simp only [gated, ← shiftBy_eq]
  rw [e]
  simp only [v13_apply]
  rfl

theorem v79_eq : val_main_v79 (F := Ideal) x0 x1 x2 x5 = Y x0 x1 x2 x5 := by
  funext i
  exact (congrArg _ (eq_ix2 i)).trans ((v79_apply x0 x1 x2 x5 (i 0) (i 1)).trans (congrArg _ (eq_ix2 i)).symm)

theorem v81_eq : val_main_v81 (F := Ideal) x0 x1 x2 x3 = Q x0 x1 x2 x3 := by
  funext i
  exact (congrArg _ (eq_ix2 i)).trans ((v81_apply x0 x1 x2 x3 (i 0) (i 1)).trans (congrArg _ (eq_ix2 i)).symm)

theorem v83_eq : val_main_v83 (F := Ideal) x0 x1 x2 x4 = K x0 x1 x2 x4 := by
  funext i
  exact (congrArg _ (eq_ix2 i)).trans ((v83_apply x0 x1 x2 x4 (i 0) (i 1)).trans (congrArg _ (eq_ix2 i)).symm)

theorem v84_eq : val_main_v84 (F := Ideal) x0 x1 x2 = W x0 x1 x2 := by
  funext i
  exact (congrArg _ (eq_ix2 i)).trans ((v84_apply x0 x1 x2 (i 0) (i 1)).trans (congrArg _ (eq_ix2 i)).symm)

end Cert.RefOddInIdeal.Rows

namespace Cert.Proof

theorem algebraic_odd_in : Cert.algebraic_OddInIdeal_RefOddInIdeal := by
  pair_intro
  · run_from Cert.OddInIdeal.Value.run_blocks m g
  · run_from Cert.RefOddInIdeal.Value.run m' g'
    · obtain ⟨h0, h1, h2, h3, h4, h5⟩ := hagree c
      rw [Cert.RefOddInIdeal.Read.val_main_v79_eq, Cert.OddInIdeal.Rows.final7, h0, h1, h2, h5]
      exact Cert.RefOddInIdeal.Rows.v79_eq _ _ _ _
    · exact (Cert.RefOddInIdeal.Read.val_main_v81_eq _ _ _ _).trans ((Cert.RefOddInIdeal.Rows.v81_eq _ _ _ _).trans (Cert.OddInIdeal.Rows.final8 m c).symm)
    · exact (Cert.RefOddInIdeal.Read.val_main_v83_eq _ _ _ _).trans ((Cert.RefOddInIdeal.Rows.v83_eq _ _ _ _).trans (Cert.OddInIdeal.Rows.final9 m c).symm)
    · exact (Cert.RefOddInIdeal.Read.val_main_v84_eq _ _ _).trans ((Cert.RefOddInIdeal.Rows.v84_eq _ _ _).trans (Cert.OddInIdeal.Rows.final10 m c).symm)

end Cert.Proof
end
-- ==== Proof.lean ====
module

public import proofs.«01_k».proof.Defs
public import proofs.«01_k».proof.Proof.Gen.DiffOnline.Frame
public import proofs.«01_k».proof.Proof.Gen.DiffUnshifted.Frame
public import proofs.«01_k».proof.Proof.Gen.EvenPost.Frame
public import proofs.«01_k».proof.Proof.Gen.OddPost.Frame
public import proofs.«01_k».proof.Proof.Gen.DiffOnlineIdeal.Frame
public import proofs.«01_k».proof.Proof.Gen.DiffUnshiftedIdeal.Frame
public import proofs.«01_k».proof.Proof.Gen.RefDiffIdeal.Run
public import proofs.«01_k».proof.Proof.EvenPostRows
public import proofs.«01_k».proof.Proof.DiffClaims
public import proofs.«01_k».proof.Proof.OddPostRows
public import proofs.«01_k».proof.Proof.Gen.OddIn.Frame
public import proofs.«01_k».proof.Proof.OddInRows
public import Idealize.ShloMosaic.Adequacy
public import Idealize.ShloMosaic.Init

/-! The certificate.  Every program runs to its end with its arguments unchanged and every semaphore counter at zero
(the generated frames).  Each idealized kernel is the kernel with at most its mask named.  On the extended reals each
idealized kernel gives what its reference gives; those proofs are in the modules imported above. -/

@[expose] public section

noncomputable section

namespace Cert.Proof

open Idealize.ShloMosaic Idealize.SL.Sem

theorem preserves_diff_online : Cert.preserves_DiffOnline_DiffOnlineIdeal :=
  IdealRules.named_const.statement Cert.DiffOnlineIdeal.κ "mask" .f32 0xF149F2CA#32 ⊥ rfl

theorem preserves_diff_unshifted : Cert.preserves_DiffUnshifted_DiffUnshiftedIdeal :=
  IdealRules.named_const.statement Cert.DiffUnshiftedIdeal.κ "mask" .f32 0xF149F2CA#32 ⊥ rfl

/-! A reference is straight host code: its run is the generated one, and it declares no semaphore. -/

theorem frame_ref_diff : Cert.quiescent_RefDiffIdeal := fun m ρ _ =>
  (θ_run _ _ _).mono (fun r h => ⟨fun c => (h c).2, Idealize.ShloMosaic.sem_eq_zero_of_no_sems (by decide) r.2⟩) (Cert.RefDiffIdeal.Value.run m ρ)

theorem frame_ref_even_post : Cert.quiescent_RefEvenPostIdeal := fun m ρ _ =>
  (θ_run _ _ _).mono (fun r h => ⟨fun c => (h c).2, Idealize.ShloMosaic.sem_eq_zero_of_no_sems (by decide) r.2⟩) (Cert.RefEvenPostIdeal.Value.run m ρ)

theorem frame_ref_odd_in : Cert.quiescent_RefOddInIdeal := fun m ρ _ =>
  (θ_run _ _ _).mono (fun r h => ⟨fun c => (h c).2.2.2.2, Idealize.ShloMosaic.sem_eq_zero_of_no_sems (by decide) r.2⟩) (Cert.RefOddInIdeal.Value.run m ρ)

theorem frame_ref_odd_post : Cert.quiescent_RefOddPostIdeal := fun m ρ _ =>
  (θ_run _ _ _).mono (fun r h => ⟨fun c => (h c).2, Idealize.ShloMosaic.sem_eq_zero_of_no_sems (by decide) r.2⟩) (Cert.RefOddPostIdeal.Value.run m ρ)

theorem claim : Cert.Claim :=
  ⟨Cert.DiffOnline.Gen.facts, Cert.DiffOnlineIdeal.Gen.facts, Cert.RefDiffIdeal.Gen.facts, Cert.DiffUnshifted.Gen.facts, Cert.DiffUnshiftedIdeal.Gen.facts,
    Cert.EvenPost.Gen.facts, Cert.EvenPostIdeal.Gen.facts, Cert.RefEvenPostIdeal.Gen.facts,
    Cert.OddIn.Gen.facts, Cert.OddInIdeal.Gen.facts, Cert.RefOddInIdeal.Gen.facts,
    Cert.OddPost.Gen.facts, Cert.OddPostIdeal.Gen.facts, Cert.RefOddPostIdeal.Gen.facts, Cert.Pre_da_finite.Gen.facts, Cert.Pre_op_finite.Gen.facts,
    fun m ρ _ => Cert.DiffOnline.Gen.frame m ρ,
    fun m ρ _ => Cert.DiffOnlineIdeal.Gen.frame m ρ,
    fun m ρ _ => Cert.DiffOnlineIdeal.Gen.frame m ρ,
    frame_ref_diff,
    fun m ρ _ => frame_ref_diff m ρ trivial,
    fun m ρ _ => Cert.DiffUnshifted.Gen.frame m ρ,
    fun m ρ _ => Cert.DiffUnshiftedIdeal.Gen.frame m ρ,
    fun m ρ _ => Cert.DiffUnshiftedIdeal.Gen.frame m ρ,
    fun m ρ _ => Cert.EvenPost.Gen.frame m ρ,
    fun m ρ _ => Cert.EvenPostIdeal.Gen.frame m ρ,
    frame_ref_even_post,
    fun m ρ _ => Cert.OddIn.Gen.frame m ρ,
    fun m ρ _ => Cert.OddInIdeal.Gen.frame m ρ,
    frame_ref_odd_in,
    fun m ρ _ => Cert.OddPost.Gen.frame m ρ,
    fun m ρ _ => Cert.OddPostIdeal.Gen.frame m ρ,
    fun m ρ _ => Cert.OddPostIdeal.Gen.frame m ρ,
    frame_ref_odd_post,
    fun m ρ _ => frame_ref_odd_post m ρ trivial,
    preserves_diff_online,
    algebraic_diff_online,
    preserves_diff_unshifted,
    algebraic_diff_unshifted,
    trivial,
    algebraic_even_post,
    trivial,
    algebraic_odd_in,
    trivial,
    algebraic_odd_post⟩

end Cert.Proof

end
